-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_ranges : Cert.Pre_ranges.Facts] (m : (ℓ : Loc Cert.Kernel3.nD Cert.Kernel3.τ Cert.Kernel3.sig) → Buf (Elt Bits) ℓ) : Prop :=
  ∀ c : Dev Cert.Kernel3.nD,
    (Cert.Pre_ranges.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_ranges : Cert.Pre_ranges.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ranges.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal [hPre_ranges : Cert.Pre_ranges.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ranges.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_ranges : Cert.Pre_ranges.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_ranges : Cert.Pre_ranges.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] [hPre_ranges : Cert.Pre_ranges.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] [hPre_ranges : Cert.Pre_ranges.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v15_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_ranges : Cert.Pre_ranges.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_ranges := hPre_ranges)
    ∧ quiescent_Kernel3Ideal (hKernel3Ideal := hKernel3Ideal) (hPre_ranges := hPre_ranges)
    ∧ quiescent_Reference3Ideal (hReference3Ideal := hReference3Ideal) (hPre_ranges := hPre_ranges)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_ranges := hPre_ranges)
    ∧ preserves_Kernel4_Kernel4Ideal
    ∧ algebraic_Kernel4Ideal_Reference4Ideal (hKernel4Ideal := hKernel4Ideal) (hReference4Ideal := hReference4Ideal)
-- ==== Pre_finite.lean ====
abbrev S32768x10752 : Shape := ⟨2, ![32768, 10752]⟩
abbrev S1x16x320 : Shape := ⟨3, ![1, 16, 320]⟩
abbrev S1x32x2048x2048 : Shape := ⟨4, ![1, 32, 2048, 2048]⟩
abbrev S_ : Shape := ⟨0, ![]⟩

class Facts : Prop where
  bcast_S_S32768x10752 : S_.BroadcastsInDim S32768x10752 (![] : Fin 0 → Fin S32768x10752.rank)
  bcast_S_S1x16x320 : S_.BroadcastsInDim S1x16x320 (![] : Fin 0 → Fin S1x16x320.rank)

variable [Facts]

def fn {F : FTy → Type} [FloatOps F] (main_arg0 : FVec F S32768x10752 .bf16) (main_arg1 : FVec F S1x16x320 .f32) (main_arg2 : FVec F S1x32x2048x2048 .f32) : IVec S32768x10752 1 × IVec S1x16x320 1 :=
  let main_v0 : FVec F S32768x10752 .bf16 := Host.absf main_arg0
  let main_cst : FVec F S_ .bf16 := constant S_ .bf16 0x7F80#16
  let main_v1 : FVec F S32768x10752 .bf16 := broadcastInDim S32768x10752 ![] bcast_S_S32768x10752 main_cst
  let main_v2 : IVec S32768x10752 1 := cmpf .olt main_v0 main_v1
  let main_v3 : FVec F S1x16x320 .f32 := Host.absf main_arg1
  let main_cst_0 : FVec F S_ .f32 := constant S_ .f32 0x7F800000#32
  let main_v4 : FVec F S1x16x320 .f32 := broadcastInDim S1x16x320 ![] bcast_S_S1x16x320 main_cst_0
  let main_v5 : IVec S1x16x320 1 := cmpf .olt main_v3 main_v4
  (main_v2, main_v5)
-- ==== Pre_ranges.lean ====
abbrev S288 : Shape := ⟨1, ![288]⟩
abbrev S1 : Shape := ⟨1, ![1]⟩
abbrev S147456x2048 : Shape := ⟨2, ![147456, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : IVec S288 32) (main_arg3 : FVec F S147456x2048 .f32) (main_arg4 : FVec F S32x2048x4096 .f32) (main_arg5 : FVec F S32x4096 .f32) (main_arg6 : FVec F S32x2048x2048 .f32) (main_arg7 : FVec F S32x2048 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S32768x10752 : Shape := ⟨2, ![32768, 10752]⟩
abbrev S1x16x320 : Shape := ⟨3, ![1, 16, 320]⟩
abbrev S1x32x2048x2048 : Shape := ⟨4, ![1, 32, 2048, 2048]⟩
abbrev S16x320 : Shape := ⟨2, ![16, 320]⟩
abbrev S15 : Shape := ⟨1, ![15]⟩
abbrev S_ : Shape := ⟨0, ![]⟩
abbrev S15x1 : Shape := ⟨2, ![15, 1]⟩
abbrev S127 : Shape := ⟨1, ![127]⟩
abbrev S1x127 : Shape := ⟨2, ![1, 127]⟩
abbrev S15x127 : Shape := ⟨2, ![15, 127]⟩
abbrev S15x127x1 : Shape := ⟨3, ![15, 127, 1]⟩
abbrev S16x15x127 : Shape := ⟨3, ![16, 15, 127]⟩
abbrev S16x15x128 : Shape := ⟨3, ![16, 15, 128]⟩
abbrev S16x15x1x128 : Shape := ⟨4, ![16, 15, 1, 128]⟩
abbrev S16x15x64x128 : Shape := ⟨4, ![16, 15, 64, 128]⟩
abbrev S16x15x8192 : Shape := ⟨3, ![16, 15, 8192]⟩
abbrev S16x15x8128 : Shape := ⟨3, ![16, 15, 8128]⟩
abbrev S16x15x64x127 : Shape := ⟨4, ![16, 15, 64, 127]⟩
abbrev S16x15x64x64 : Shape := ⟨4, ![16, 15, 64, 64]⟩
abbrev S4 : Shape := ⟨1, ![4]⟩
abbrev S4x1 : Shape := ⟨2, ![4, 1]⟩
abbrev S12 : Shape := ⟨1, ![12]⟩
abbrev S1x12 : Shape := ⟨2, ![1, 12]⟩
abbrev S4x12 : Shape := ⟨2, ![4, 12]⟩
abbrev S4x12x1 : Shape := ⟨3, ![4, 12, 1]⟩
abbrev S16x4x12x64x64 : Shape := ⟨5, ![16, 4, 12, 64, 64]⟩
abbrev S1x4x12x1x1 : Shape := ⟨5, ![1, 4, 12, 1, 1]⟩
abbrev S16x4x64x12x64 : Shape := ⟨5, ![16, 4, 64, 12, 64]⟩
abbrev S16x256x768 : Shape := ⟨3, ![16, 256, 768]⟩
abbrev S32x2048x2048 : Shape := ⟨3, ![32, 2048, 2048]⟩
abbrev S65536x2048 : Shape := ⟨2, ![65536, 2048]⟩
abbrev S32768x1024 : Shape := ⟨2, ![32768, 1024]⟩
abbrev S256x1024 : Shape := ⟨2, ![256, 1024]⟩
abbrev S512x2048 : Shape := ⟨2, ![512, 2048]⟩
abbrev S1x128 : Shape := ⟨2, ![1, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 100
  | .vmem => 21
  | .smem => 0
  | _ => 0

abbrev bufTy : (tb : Table) → Fin (tcTables nBuf tb) → BufTy
  | .hbm, ⟨0, _⟩ => ⟨S32768x10752, .bf16⟩
  | .hbm, ⟨1, _⟩ => ⟨S1x16x320, .f32⟩
  | .hbm, ⟨2, _⟩ => ⟨S1x32x2048x2048, .f32⟩
  | .hbm, ⟨3, _⟩ => ⟨S16x320, .f32⟩
  | .hbm, ⟨4, _⟩ => ⟨S15, .i32⟩
  | .hbm, ⟨5, _⟩ => ⟨S_, .i32⟩
  | .hbm, ⟨6, _⟩ => ⟨S15, .i32⟩
  | .hbm, ⟨7, _⟩ => ⟨S15, .i32⟩
  | .hbm, ⟨8, _⟩ => ⟨S15x1, .i32⟩
  | .hbm, ⟨9, _⟩ => ⟨S_, .i32⟩
  | .hbm, ⟨10, _⟩ => ⟨S15x1, .i32⟩
  | .hbm, ⟨11, _⟩ => ⟨S15x1, .i32⟩
  | .hbm, ⟨12, _⟩ => ⟨S127, .i32⟩
  | .hbm, ⟨13, _⟩ => ⟨S_, .i32⟩
  | .hbm, ⟨14, _⟩ => ⟨S127, .i32⟩
  | .hbm, ⟨15, _⟩ => ⟨S127, .i32⟩
  | .hbm, ⟨16, _⟩ => ⟨S1x127, .i32⟩
  | .hbm, ⟨17, _⟩ => ⟨S15x127, .i32⟩
  | .hbm, ⟨18, _⟩ => ⟨S15x127, .i32⟩
  | .hbm, ⟨19, _⟩ => ⟨S15x127, .i32⟩
  | .hbm, ⟨20, _⟩ => ⟨S_, .i32⟩
  | .hbm, ⟨21, _⟩ => ⟨S15x127, .i32⟩
  | .hbm, ⟨22, _⟩ => ⟨S15x127, .i32⟩
  | .hbm, ⟨23, _⟩ => ⟨S_, .i32⟩
  | .hbm, ⟨24, _⟩ => ⟨S15x127, .i32⟩
  | .hbm, ⟨25, _⟩ => ⟨S15x127, .i32⟩
  | .hbm, ⟨26, _⟩ => ⟨S_, .i32⟩
  | .hbm, ⟨27, _⟩ => ⟨S15x127, .i32⟩
  | .hbm, ⟨28, _⟩ => ⟨S15x127, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S15x127, .i32⟩
  | .hbm, ⟨33, _⟩ => ⟨S15x127, .i32⟩
  | .hbm, ⟨34, _⟩ => ⟨S_, .i32⟩
  | .hbm, ⟨35, _⟩ => ⟨S15x127, .i32⟩
  | .hbm, ⟨36, _⟩ => ⟨S15x127, .i32⟩
  | .hbm, ⟨37, _⟩ => ⟨S_, .i32⟩
  | .hbm, ⟨38, _⟩ => ⟨S15x127, .i32⟩
  | .hbm, ⟨39, _⟩ => ⟨S15x127, .i1⟩
  | .hbm, ⟨40, _⟩ => ⟨S_, .i32⟩
  | .hbm, ⟨41, _⟩ => ⟨S15x127, .i32⟩
  | .hbm, ⟨42, _⟩ => ⟨S15x127, .i32⟩
  | .hbm, ⟨43, _⟩ => ⟨S15x127, .i32⟩
  | .hbm, ⟨44, _⟩ => ⟨S15x127x1, .i32⟩
  | .hbm, ⟨45, _⟩ => ⟨S16x15x127, .f32⟩
  | .hbm, ⟨46, _⟩ => ⟨S_, .i32⟩
  | .hbm, ⟨47, _⟩ => ⟨S_, .f32⟩
  | .hbm, ⟨48, _⟩ => ⟨S16x15x128, .f32⟩
  | .hbm, ⟨49, _⟩ => ⟨S16x15x1x128, .f32⟩
  | .hbm, ⟨50, _⟩ => ⟨S16x15x64x128, .f32⟩
  | .hbm, ⟨51, _⟩ => ⟨S16x15x8192, .f32⟩
  | .hbm, ⟨52, _⟩ => ⟨S16x15x8128, .f32⟩
  | .hbm, ⟨53, _⟩ => ⟨S16x15x64x127, .f32⟩
  | .hbm, ⟨54, _⟩ => ⟨S16x15x64x64, .f32⟩
  | .hbm, ⟨55, _⟩ => ⟨S16x15x64x64, .f32⟩
  | .hbm, ⟨56, _⟩ => ⟨S4, .i32⟩
  | .hbm, ⟨57, _⟩ => ⟨S4x1, .i32⟩
  | .hbm, ⟨58, _⟩ => ⟨S12, .i32⟩
  | .hbm, ⟨59, _⟩ => ⟨S1x12, .i32⟩
  | .hbm, ⟨60, _⟩ => ⟨S_, .i32⟩
  | .hbm, ⟨61, _⟩ => ⟨S4x1, .i32⟩
  | .hbm, ⟨62, _⟩ => ⟨S4x1, .i32⟩
  | .hbm, ⟨63, _⟩ => ⟨S4x12, .i32⟩
  | .hbm, ⟨64, _⟩ => ⟨S4x12, .i32⟩
  | .hbm, ⟨65, _⟩ => ⟨S4x12, .i32⟩
  | .hbm, ⟨66, _⟩ => ⟨S4x12, .i32⟩
  | .hbm, ⟨67, _⟩ => ⟨S4x12, .i32⟩
  | .hbm, ⟨68, _⟩ => ⟨S4x12, .i32⟩
  | .hbm, ⟨69, _⟩ => ⟨S_, .i32⟩
  | .hbm, ⟨70, _⟩ => ⟨S4x12, .i32⟩
  | .hbm, ⟨71, _⟩ => ⟨S4x12, .i32⟩
  | .hbm, ⟨72, _⟩ => ⟨S_, .i32⟩
  | .hbm, ⟨73, _⟩ => ⟨S4x12, .i32⟩
  | .hbm, ⟨74, _⟩ => ⟨S4x12, .i1⟩
  | .hbm, ⟨75, _⟩ => ⟨S_, .i32⟩
  | .hbm, ⟨76, _⟩ => ⟨S4x12, .i32⟩
  | .hbm, ⟨77, _⟩ => ⟨S4x12, .i32⟩
  | .hbm, ⟨78, _⟩ => ⟨S4x12, .i32⟩
  | .hbm, ⟨79, _⟩ => ⟨S4x12x1, .i32⟩
  | .hbm, ⟨80, _⟩ => ⟨S16x4x12x64x64, .f32⟩
  | .hbm, ⟨81, _⟩ => ⟨S_, .i32⟩
  | .hbm, ⟨82, _⟩ => ⟨S4x12, .i32⟩
  | .hbm, ⟨83, _⟩ => ⟨S4x12, .i1⟩
  | .hbm, ⟨84, _⟩ => ⟨S_, .i32⟩
  | .hbm, ⟨85, _⟩ => ⟨S4x12, .i32⟩
  | .hbm, ⟨86, _⟩ => ⟨S4x12, .i1⟩
  | .hbm, ⟨87, _⟩ => ⟨S4x12, .i1⟩
  | .hbm, ⟨88, _⟩ => ⟨S1x4x12x1x1, .i1⟩
  | .hbm, ⟨89, _⟩ => ⟨S_, .f32⟩
  | .hbm, ⟨90, _⟩ => ⟨S_, .f32⟩
  | .hbm, ⟨91, _⟩ => ⟨S16x4x12x64x64, .i1⟩
  | .hbm, ⟨92, _⟩ => ⟨S16x4x12x64x64, .f32⟩
  | .hbm, ⟨93, _⟩ => ⟨S16x4x12x64x64, .f32⟩
  | .hbm, ⟨94, _⟩ => ⟨S16x4x64x12x64, .f32⟩
  | .hbm, ⟨95, _⟩ => ⟨S16x256x768, .f32⟩
  | .hbm, ⟨96, _⟩ => ⟨S32x2048x2048, .f32⟩
  | .hbm, ⟨97, _⟩ => ⟨S65536x2048, .f32⟩
  | .hbm, ⟨98, _⟩ => ⟨S32768x1024, .bf16⟩
  | .hbm, ⟨99, _⟩ => ⟨S65536x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S16x256x768, .f32⟩
  | .local _ .vmem, ⟨15, _⟩ => ⟨S512x2048, .f32⟩
  | .local _ .vmem, ⟨16, _⟩ => ⟨S512x2048, .f32⟩
  | .local _ .vmem, ⟨17, _⟩ => ⟨S256x1024, .bf16⟩
  | .local _ .vmem, ⟨18, _⟩ => ⟨S256x1024, .bf16⟩
  | .local _ .vmem, ⟨19, _⟩ => ⟨S512x2048, .bf16⟩
  | .local _ .vmem, ⟨20, _⟩ => ⟨S512x2048, .bf16⟩
  | _, _ => ⟨S32768x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_c_6 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_c_7 : Ref sig .tc := ⟨.hbm, 37, rfl⟩
abbrev main_v21 : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_v57 : Ref sig .tc := ⟨.hbm, 82, rfl⟩
abbrev main_v58 : Ref sig .tc := ⟨.hbm, 83, rfl⟩
abbrev main_c_15 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68_0 : Ref sig .tc := ⟨.hbm, 98, rfl⟩
abbrev main_v68_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![1, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c4_i32 : BitVec 32 := 4#32
  let v2 : BitVec 32 := Scalar.addi c4_i32 arg0
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c2_i32 : BitVec 32 := 2#32
  let v1 : BitVec 32 := Scalar.subi arg2 c2_i32
  let c0_i32 : BitVec 32 := 0#32
  let v2 : BitVec 32 := Scalar.maxsi v1 c0_i32
  let v3 : BitVec 32 := Scalar.addi v0 v2
  let c5_i32 : BitVec 32 := 5#32
  let v4 : BitVec 32 := Scalar.addi c5_i32 arg0
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c5_i32 : BitVec 32 := 5#32
  let v4 : BitVec 32 := Scalar.addi c5_i32 arg0
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c5_i32 : BitVec 32 := 5#32
  let v4 : BitVec 32 := Scalar.addi c5_i32 arg0
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c2_i32 : BitVec 32 := 2#32
  let v1 : BitVec 32 := Scalar.subi arg2 c2_i32
  let c0_i32 : BitVec 32 := 0#32
  let v2 : BitVec 32 := Scalar.maxsi v1 c0_i32
  let v3 : BitVec 32 := Scalar.addi v0 v2
  let c6_i32 : BitVec 32 := 6#32
  let v4 : BitVec 32 := Scalar.addi c6_i32 arg0
  let c0_i32_0 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c6_i32 : BitVec 32 := 6#32
  let v4 : BitVec 32 := Scalar.addi c6_i32 arg0
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c6_i32 : BitVec 32 := 6#32
  let v4 : BitVec 32 := Scalar.addi c6_i32 arg0
  let c0_i32_1 : BitVec 32 := 0#32
  ![v3.toNat, v4.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli v1 c32_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S16x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S32768x10752 : Shape := ⟨2, ![32768, 10752]⟩
abbrev S1x16x320 : Shape := ⟨3, ![1, 16, 320]⟩
abbrev S1x32x2048x2048 : Shape := ⟨4, ![1, 32, 2048, 2048]⟩
abbrev S32768x3072 : Shape := ⟨2, ![32768, 3072]⟩
abbrev S32768x1024 : Shape := ⟨2, ![32768, 1024]⟩
abbrev S4x8192x16x64 : Shape := ⟨4, ![4, 8192, 16, 64]⟩
abbrev S16x320 : Shape := ⟨2, ![16, 320]⟩
abbrev S_ : Shape := ⟨0, ![]⟩
abbrev S4x8704x16x64 : Shape := ⟨4, ![4, 8704, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x4 : Shape := ⟨2, ![128, 4]⟩
abbrev S128x4x64x16x64 : Shape := ⟨5, ![128, 4, 64, 16, 64]⟩
abbrev S128x4x576x16x64 : Shape := ⟨5, ![128, 4, 576, 16, 64]⟩
abbrev S128x4x16x64x576 : Shape := ⟨5, ![128, 4, 16, 64, 576]⟩
abbrev S1x16x64x576 : Shape := ⟨4, ![1, 16, 64, 576]⟩
abbrev S1x1x16x64x576 : Shape := ⟨5, ![1, 1, 16, 64, 576]⟩
abbrev S128x576 : Shape := ⟨2, ![128, 576]⟩
abbrev S4x16x64x576 : Shape := ⟨4, ![4, 16, 64, 576]⟩
abbrev S128x4x16x64 : Shape := ⟨4, ![128, 4, 16, 64]⟩
abbrev S128x4x16x64x1 : Shape := ⟨5, ![128, 4, 16, 64, 1]⟩
abbrev S128x4x16x64x64 : Shape := ⟨5, ![128, 4, 16, 64, 64]⟩
abbrev S4x128x64x16x64 : Shape := ⟨5, ![4, 128, 64, 16, 64]⟩
abbrev S4x8192x1024 : Shape := ⟨3, ![4, 8192, 1024]⟩
abbrev S32x2048x2048 : Shape := ⟨3, ![32, 2048, 2048]⟩
abbrev S65536x2048 : Shape := ⟨2, ![65536, 2048]⟩

abbrev nBuf : Space → Nat
  | .hbm => 143
  | .vmem => 0
  | .smem => 0
  | _ => 0

abbrev hbmTy0_0 (i : Nat) : BufTy := match i % 128 with
  | 0 => ⟨S32768x10752, .bf16⟩
  | 1 => ⟨S1x16x320, .f32⟩
  | 2 => ⟨S1x32x2048x2048, .f32⟩
  | 3 => ⟨S32768x3072, .bf16⟩
  | 4 => ⟨S32768x1024, .bf16⟩
  | 5 => ⟨S32768x1024, .bf16⟩
  | 6 => ⟨S32768x1024, .bf16⟩
  | 7 => ⟨S32768x1024, .f32⟩
  | 8 => ⟨S4x8192x16x64, .f32⟩
  | 9 => ⟨S32768x1024, .f32⟩
  | 10 => ⟨S4x8192x16x64, .f32⟩
  | 11 => ⟨S32768x1024, .f32⟩
  | 12 => ⟨S4x8192x16x64, .f32⟩
  | 13 => ⟨S16x320, .f32⟩
  | 14 => ⟨S_, .i32⟩
  | 15 => ⟨S_, .f32⟩
  | 16 => ⟨S4x8704x16x64, .f32⟩
  | 17 => ⟨S_, .i32⟩
  | 18 => ⟨S_, .f32⟩
  | 19 => ⟨S4x8704x16x64, .f32⟩
  | 20 => ⟨S64, .i32⟩
  | 21 => ⟨S64x1, .i32⟩
  | 22 => ⟨S576, .i32⟩
  | 23 => ⟨S1x576, .i32⟩
  | 24 => ⟨S_, .i32⟩
  | 25 => ⟨S64x1, .i32⟩
  | 26 => ⟨S64x1, .i32⟩
  | 27 => ⟨S64x576, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S_, .i32⟩
  | 40 => ⟨S64x576, .i32⟩
  | 41 => ⟨S64x576, .i32⟩
  | 42 => ⟨S64x576, .i32⟩
  | 43 => ⟨S64x576x1, .i32⟩
  | 44 => ⟨S16x64x576, .f32⟩
  | 45 => ⟨S576, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S_, .i32⟩
  | 58 => ⟨S128x1, .i32⟩
  | 59 => ⟨S128x1, .i32⟩
  | 60 => ⟨S_, .i32⟩
  | 61 => ⟨S128x1, .i32⟩
  | 62 => ⟨S_, .i32⟩
  | 63 => ⟨S128x1, .i32⟩
  | 64 => ⟨S128x4, .i32⟩
  | 65 => ⟨S128x4x64x16x64, .f32⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S_, .i32⟩
  | 74 => ⟨S128x1, .i32⟩
  | 75 => ⟨S128x1, .i32⟩
  | 76 => ⟨S_, .i32⟩
  | 77 => ⟨S128x1, .i32⟩
  | 78 => ⟨S_, .i32⟩
  | 79 => ⟨S128x1, .i32⟩
  | 80 => ⟨S128x4, .i32⟩
  | 81 => ⟨S128x4x576x16x64, .f32⟩
  | 82 => ⟨S_, .i32⟩
  | 83 => ⟨S128, .i32⟩
  | 84 => ⟨S128, .i1⟩
  | 85 => ⟨S_, .i32⟩
  | 86 => ⟨S128, .i32⟩
  | 87 => ⟨S128, .i32⟩
  | 88 => ⟨S128, .i32⟩
  | 89 => ⟨S_, .i32⟩
  | 90 => ⟨S128x1, .i32⟩
  | 91 => ⟨S128x1, .i32⟩
  | 92 => ⟨S_, .i32⟩
  | 93 => ⟨S128x1, .i32⟩
  | 94 => ⟨S_, .i32⟩
  | 95 => ⟨S128x1, .i32⟩
  | 96 => ⟨S128x4, .i32⟩
  | 97 => ⟨S128x4x576x16x64, .f32⟩
  | 98 => ⟨S128x4x16x64x576, .f32⟩
  | 99 => ⟨S_, .f32⟩
  | 100 => ⟨S128x4x16x64x576, .f32⟩
  | 101 => ⟨S128x4x16x64x576, .f32⟩
  | 102 => ⟨S1x16x64x576, .f32⟩
  | 103 => ⟨S1x1x16x64x576, .f32⟩
  | 104 => ⟨S128x4x16x64x576, .f32⟩
  | 105 => ⟨S128x4x16x64x576, .f32⟩
  | 106 => ⟨S1x576, .i32⟩
  | 107 => ⟨S128x1, .i32⟩
  | 108 => ⟨S128x576, .i32⟩
  | 109 => ⟨S128x576, .i32⟩
  | 110 => ⟨S128x576, .i32⟩
  | 111 => ⟨S_, .i32⟩
  | 112 => ⟨S128x576, .i32⟩
  | 113 => ⟨S128x576, .i1⟩
  | 114 => ⟨S_, .f32⟩
  | 115 => ⟨S_, .f32⟩
  | 116 => ⟨S128x4x16x64x576, .i1⟩
  | 117 => ⟨S4x16x64x576, .f32⟩
  | 118 => ⟨S128x4x16x64x576, .f32⟩
  | 119 => ⟨S128x4x16x64x576, .f32⟩
  | 120 => ⟨S_, .f32⟩
  | 121 => ⟨S128x4x16x64, .f32⟩
  | 122 => ⟨S_, .f32⟩
  | 123 => ⟨S128x4x16x64, .f32⟩
  | 124 => ⟨S128x4x16x64, .f32⟩
  | 125 => ⟨S128x4x16x64x1, .f32⟩
  | 126 => ⟨S128x4x16x64x576, .f32⟩
  | 127 => ⟨S128x4x16x64x576, .f32⟩
  | _ => ⟨S32768x10752, .bf16⟩

abbrev hbmTy0_1 (i : Nat) : BufTy := match i % 128 with
  | 0 => ⟨S128x4x16x64x576, .f32⟩
  | 1 => ⟨S_, .f32⟩
  | 2 => ⟨S128x4x16x64, .f32⟩
  | 3 => ⟨S128x4x16x64x1, .f32⟩
  | 4 => ⟨S128x4x16x64x576, .f32⟩
  | 5 => ⟨S128x4x16x64x576, .f32⟩
  | 6 => ⟨S128x4x16x64x64, .f32⟩
  | 7 => ⟨S128x4x64x16x64, .f32⟩
  | 8 => ⟨S4x128x64x16x64, .f32⟩
  | 9 => ⟨S4x8192x1024, .f32⟩
  | 10 => ⟨S32768x1024, .f32⟩
  | 11 => ⟨S32768x1024, .bf16⟩
  | 12 => ⟨S32x2048x2048, .f32⟩
  | 13 => ⟨S65536x2048, .f32⟩
  | 14 => ⟨S65536x2048, .bf16⟩
  | _ => ⟨S32768x10752, .bf16⟩

abbrev hbmTy (i : Nat) : BufTy := match i / 128 with
  | 0 => hbmTy0_0 i
  | 1 => hbmTy0_1 i
  | _ => ⟨S32768x10752, .bf16⟩

abbrev bufTy : (tb : Table) → Fin (tcTables nBuf tb) → BufTy
  | .hbm, ⟨i, _⟩ => hbmTy i
  | _, _ => ⟨S32768x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_14 : Ref sig .tc := ⟨.hbm, 73, rfl⟩
abbrev main_v53 : Ref sig .tc := ⟨.hbm, 74, rfl⟩
abbrev main_v54 : Ref sig .tc := ⟨.hbm, 75, rfl⟩
abbrev main_c_15 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_17 : Ref sig .tc := ⟨.hbm, 82, rfl⟩
abbrev main_v59 : Ref sig .tc := ⟨.hbm, 83, rfl⟩
abbrev main_v60 : Ref sig .tc := ⟨.hbm, 84, rfl⟩
abbrev main_c_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_19 : Ref sig .tc := ⟨.hbm, 89, rfl⟩
abbrev main_v64 : Ref sig .tc := ⟨.hbm, 90, rfl⟩
abbrev main_v65 : Ref sig .tc := ⟨.hbm, 91, rfl⟩
abbrev main_c_20 : Ref sig .tc := ⟨.hbm, 92, rfl⟩
abbrev main_v66 : Ref sig .tc := ⟨.hbm, 93, rfl⟩
abbrev main_c_21 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_22 : Ref sig .tc := ⟨.hbm, 111, rfl⟩
abbrev main_v82 : Ref sig .tc := ⟨.hbm, 112, rfl⟩
abbrev main_v83 : Ref sig .tc := ⟨.hbm, 113, rfl⟩
abbrev main_cst_23 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_v84 : Ref sig .tc := ⟨.hbm, 119, rfl⟩
abbrev main_cst_24 : Ref sig .tc := ⟨.hbm, 120, rfl⟩
abbrev main_v85 : Ref sig .tc := ⟨.hbm, 121, rfl⟩
abbrev main_cst_25 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_26 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]
-- ==== Kernel2.lean ====
abbrev S4x8192x2048 : Shape := ⟨3, ![4, 8192, 2048]⟩
abbrev S1x2048x10688 : Shape := ⟨3, ![1, 2048, 10688]⟩
abbrev S32768x2048 : Shape := ⟨2, ![32768, 2048]⟩
abbrev S2048x10688 : Shape := ⟨2, ![2048, 10688]⟩
abbrev S2048x4096 : Shape := ⟨2, ![2048, 4096]⟩
abbrev S2048x6144 : Shape := ⟨2, ![2048, 6144]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S2048x10752 : Shape := ⟨2, ![2048, 10752]⟩
abbrev S32768x10752 : Shape := ⟨2, ![32768, 10752]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 18
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S1x2048x10688, .f32⟩
  | .hbm, ⟨2, _⟩ => ⟨S32768x2048, .f32⟩
  | .hbm, ⟨3, _⟩ => ⟨S2048x10688, .f32⟩
  | .hbm, ⟨4, _⟩ => ⟨S2048x4096, .f32⟩
  | .hbm, ⟨5, _⟩ => ⟨S2048x6144, .f32⟩
  | .hbm, ⟨6, _⟩ => ⟨S2048x96, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x96, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x256, .f32⟩
  | .hbm, ⟨15, _⟩ => ⟨S2048x10752, .f32⟩
  | .hbm, ⟨16, _⟩ => ⟨S2048x10752, .bf16⟩
  | .hbm, ⟨17, _⟩ => ⟨S32768x10752, .bf16⟩
  | .local _ .vmem, ⟨0, _⟩ => ⟨S1024x2048, .f32⟩
  | .local _ .vmem, ⟨1, _⟩ => ⟨S1024x2048, .f32⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x8192x2048 : Shape := ⟨3, ![4, 8192, 2048]⟩
abbrev S1x2048x10688 : Shape := ⟨3, ![1, 2048, 10688]⟩
abbrev S2048x10688 : Shape := ⟨2, ![2048, 10688]⟩
abbrev S4x8192x10688 : Shape := ⟨3, ![4, 8192, 10688]⟩
abbrev S4x8192x3072 : Shape := ⟨3, ![4, 8192, 3072]⟩
abbrev S4x8192x3520 : Shape := ⟨3, ![4, 8192, 3520]⟩
abbrev S4x8192x4096 : Shape := ⟨3, ![4, 8192, 4096]⟩
abbrev S4x8192x96 : Shape := ⟨3, ![4, 8192, 96]⟩
abbrev S4x8192x256 : Shape := ⟨3, ![4, 8192, 256]⟩
abbrev S_ : Shape := ⟨0, ![]⟩
abbrev S4x8192x128 : Shape := ⟨3, ![4, 8192, 128]⟩
abbrev S4x8192x10752 : Shape := ⟨3, ![4, 8192, 10752]⟩
abbrev S32768x10752 : Shape := ⟨2, ![32768, 10752]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x10688, .f32⟩
  | .hbm, ⟨2, _⟩ => ⟨S2048x10688, .f32⟩
  | .hbm, ⟨3, _⟩ => ⟨S4x8192x10688, .f32⟩
  | .hbm, ⟨4, _⟩ => ⟨S4x8192x3072, .f32⟩
  | .hbm, ⟨5, _⟩ => ⟨S4x8192x3520, .f32⟩
  | .hbm, ⟨6, _⟩ => ⟨S4x8192x4096, .f32⟩
  | .hbm, ⟨7, _⟩ => ⟨S4x8192x3072, .f32⟩
  | .hbm, ⟨8, _⟩ => ⟨S4x8192x96, .f32⟩
  | .hbm, ⟨9, _⟩ => ⟨S4x8192x96, .f32⟩
  | .hbm, ⟨10, _⟩ => ⟨S4x8192x256, .f32⟩
  | .hbm, ⟨11, _⟩ => ⟨S_, .i32⟩
  | .hbm, ⟨12, _⟩ => ⟨S_, .f32⟩
  | .hbm, ⟨13, _⟩ => ⟨S4x8192x128, .f32⟩
  | .hbm, ⟨14, _⟩ => ⟨S_, .i32⟩
  | .hbm, ⟨15, _⟩ => ⟨S_, .f32⟩
  | .hbm, ⟨16, _⟩ => ⟨S4x8192x128, .f32⟩
  | .hbm, ⟨17, _⟩ => ⟨S4x8192x10752, .f32⟩
  | .hbm, ⟨18, _⟩ => ⟨S32768x10752, .f32⟩
  | .hbm, ⟨19, _⟩ => ⟨S32768x10752, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S147456x2048 : Shape := ⟨2, ![147456, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S512x2048 : Shape := ⟨2, ![512, 2048]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S2048x1024 : Shape := ⟨2, ![2048, 1024]⟩
abbrev S512x1024 : Shape := ⟨2, ![512, 1024]⟩
abbrev S1x1024 : Shape := ⟨2, ![1, 1024]⟩
abbrev S1024x2048 : Shape := ⟨2, ![1024, 2048]⟩
abbrev S1x2048 : Shape := ⟨2, ![1, 2048]⟩
abbrev S256x2048 : Shape := ⟨2, ![256, 2048]⟩
abbrev S256x1024 : Shape := ⟨2, ![256, 1024]⟩

abbrev nBuf : Space → Nat
  | .hbm => 10
  | .vmem => 17
  | .smem => 3
  | _ => 0

abbrev bufTy : (tb : Table) → Fin (tcTables nBuf tb) → BufTy
  | .hbm, ⟨0, _⟩ => ⟨S147456x2048, .f32⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x2048x4096, .bf16⟩
  | .hbm, ⟨6, _⟩ => ⟨S32x1x4096, .f32⟩
  | .hbm, ⟨7, _⟩ => ⟨S32x2048x2048, .bf16⟩
  | .hbm, ⟨8, _⟩ => ⟨S32x1x2048, .f32⟩
  | .hbm, ⟨9, _⟩ => ⟨S147456x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S147456x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![288, 2], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v5 : BitVec 1 := Scalar.xori v1 v_true
  let arg1 : BitVec 32 := BitVec.ofNat 32 (i 1).val
  let c0_i32 : BitVec 32 := 0#32
  let v6 : BitVec 1 := Scalar.cmpi .eq arg1 c0_i32
  let v7 : BitVec 1 := Scalar.andi v5 v6
  let v8 : BitVec 32 := Scalar.extui v7
  let c0_i32_0 : BitVec 32 := 0#32
  let v9 : BitVec 1 := Scalar.cmpi .ne v8 c0_i32_0
  v9

def k0_cond2 (i : grid0.Coords) (v0 : BitVec 32) (v3 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32_1 : BitVec 32 := 0#32
  let v10 : BitVec 1 := Scalar.cmpi .eq arg1 c0_i32_1
  let v11 : BitVec 1 := Scalar.andi v1 v10
  let c256_i32 : BitVec 32 := 256#32
  let v4 : BitVec 1 := Scalar.cmpi .sle v3 c256_i32
  let true_2 : BitVec 1 := 1#1
  let v12 : BitVec 1 := Scalar.xori v4 true_2
  let v13 : BitVec 1 := Scalar.andi v11 v12
  let v14 : BitVec 32 := Scalar.extui v13
  let c0_i32_3 : BitVec 32 := 0#32
  let v15 : BitVec 1 := Scalar.cmpi .ne v14 c0_i32_3
  v15

def k0_cond3 (i : grid0.Coords) (v0 : BitVec 32) (v3 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32_1 : BitVec 32 := 0#32
  let v10 : BitVec 1 := Scalar.cmpi .eq arg1 c0_i32_1
  let v16 : BitVec 1 := Scalar.andi v1 v10
  let c256_i32 : BitVec 32 := 256#32
  let v4 : BitVec 1 := Scalar.cmpi .sle v3 c256_i32
  let v17 : BitVec 1 := Scalar.andi v16 v4
  let v18 : BitVec 32 := Scalar.extui v17
  let c0_i32_4 : BitVec 32 := 0#32
  let v19 : BitVec 1 := Scalar.cmpi .ne v18 c0_i32_4
  v19

def k0_cond4 (i : grid0.Coords) (v0 : BitVec 32) (v3 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32_5 : BitVec 32 := 0#32
  let v20 : BitVec 1 := Scalar.cmpi .sgt arg1 c0_i32_5
  let v21 : BitVec 1 := Scalar.andi v1 v20
  let c256_i32 : BitVec 32 := 256#32
  let v4 : BitVec 1 := Scalar.cmpi .sle v3 c256_i32
  let true_6 : BitVec 1 := 1#1
  let v22 : BitVec 1 := Scalar.xori v4 true_6
  let v23 : BitVec 1 := Scalar.andi v21 v22
  let v24 : BitVec 32 := Scalar.extui v23
  let c0_i32_7 : BitVec 32 := 0#32
  let v25 : BitVec 1 := Scalar.cmpi .ne v24 c0_i32_7
  v25

def k0_cond5 (i : grid0.Coords) (v0 : BitVec 32) (v3 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32_5 : BitVec 32 := 0#32
  let v20 : BitVec 1 := Scalar.cmpi .sgt arg1 c0_i32_5
  let v26 : BitVec 1 := Scalar.andi v1 v20
  let c256_i32 : BitVec 32 := 256#32
  let v4 : BitVec 1 := Scalar.cmpi .sle v3 c256_i32
  let v27 : BitVec 1 := Scalar.andi v26 v4
  let v28 : BitVec 32 := Scalar.extui v27
  let c0_i32_8 : BitVec 32 := 0#32
  let v29 : BitVec 1 := Scalar.cmpi .ne v28 c0_i32_8
  v29

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c0_i32 : BitVec 32 := 0#32
  let v2 : BitVec 32 := Scalar.select v1 arg0 c0_i32
  let c0_i32_0 : BitVec 32 := 0#32
  let c0_i32_1 : BitVec 32 := 0#32
  ![v2.toNat, c0_i32_0.toNat]

def cc0_transform_1 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c2_i32 : BitVec 32 := 2#32
  let v5 : BitVec 32 := Scalar.addi c2_i32 v4
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_4 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c2_i32 : BitVec 32 := 2#32
  let v5 : BitVec 32 := Scalar.addi c2_i32 v4
  let c0_i32_0 : BitVec 32 := 0#32
  let c0_i32_1 : BitVec 32 := 0#32
  ![v1.toNat, c0_i32_0.toNat, v5.toNat]

def cc0_transform_5 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S288 : Shape := ⟨1, ![288]⟩
abbrev S1 : Shape := ⟨1, ![1]⟩
abbrev S147456x2048 : Shape := ⟨2, ![147456, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S288x512x2048 : Shape := ⟨3, ![288, 512, 2048]⟩
abbrev S288x1 : Shape := ⟨2, ![288, 1]⟩
abbrev S288x2048x4096 : Shape := ⟨3, ![288, 2048, 4096]⟩
abbrev S288x512x4096 : Shape := ⟨3, ![288, 512, 4096]⟩
abbrev S288x4096 : Shape := ⟨2, ![288, 4096]⟩
abbrev S288x1x4096 : Shape := ⟨3, ![288, 1, 4096]⟩
abbrev S_ : Shape := ⟨0, ![]⟩
abbrev S288x2048x2048 : Shape := ⟨3, ![288, 2048, 2048]⟩
abbrev S288x2048 : Shape := ⟨2, ![288, 2048]⟩
abbrev S288x1x2048 : Shape := ⟨3, ![288, 1, 2048]⟩
abbrev S512 : Shape := ⟨1, ![512]⟩
abbrev S1x512 : Shape := ⟨2, ![1, 512]⟩
abbrev S288x512 : Shape := ⟨2, ![288, 512]⟩
abbrev S288x512x1 : Shape := ⟨3, ![288, 512, 1]⟩

abbrev nBuf : Space → Nat
  | .hbm => 80
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S288, .i32⟩
  | .hbm, ⟨3, _⟩ => ⟨S147456x2048, .f32⟩
  | .hbm, ⟨4, _⟩ => ⟨S32x2048x4096, .f32⟩
  | .hbm, ⟨5, _⟩ => ⟨S32x4096, .f32⟩
  | .hbm, ⟨6, _⟩ => ⟨S32x2048x2048, .f32⟩
  | .hbm, ⟨7, _⟩ => ⟨S32x2048, .f32⟩
  | .hbm, ⟨8, _⟩ => ⟨S288x512x2048, .f32⟩
  | .hbm, ⟨9, _⟩ => ⟨S288x1, .i32⟩
  | .hbm, ⟨10, _⟩ => ⟨S288x2048x4096, .f32⟩
  | .hbm, ⟨11, _⟩ => ⟨S288x512x4096, .f32⟩
  | .hbm, ⟨12, _⟩ => ⟨S288x1, .i32⟩
  | .hbm, ⟨13, _⟩ => ⟨S288x4096, .f32⟩
  | .hbm, ⟨14, _⟩ => ⟨S288x1x4096, .f32⟩
  | .hbm, ⟨15, _⟩ => ⟨S288x512x4096, .f32⟩
  | .hbm, ⟨16, _⟩ => ⟨S288x512x4096, .f32⟩
  | .hbm, ⟨17, _⟩ => ⟨S288x512x2048, .f32⟩
  | .hbm, ⟨18, _⟩ => ⟨S288x512x2048, .f32⟩
  | .hbm, ⟨19, _⟩ => ⟨S_, .f32⟩
  | .hbm, ⟨20, _⟩ => ⟨S288x512x2048, .f32⟩
  | .hbm, ⟨21, _⟩ => ⟨S288x512x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S288x512x2048, .f32⟩
  | .hbm, ⟨26, _⟩ => ⟨S288x512x2048, .f32⟩
  | .hbm, ⟨27, _⟩ => ⟨S_, .f32⟩
  | .hbm, ⟨28, _⟩ => ⟨S288x512x2048, .f32⟩
  | .hbm, ⟨29, _⟩ => ⟨S288x512x2048, .f32⟩
  | .hbm, ⟨30, _⟩ => ⟨S_, .f32⟩
  | .hbm, ⟨31, _⟩ => ⟨S288x512x2048, .f32⟩
  | .hbm, ⟨32, _⟩ => ⟨S288x512x2048, .f32⟩
  | .hbm, ⟨33, _⟩ => ⟨S_, .f32⟩
  | .hbm, ⟨34, _⟩ => ⟨S288x512x2048, .f32⟩
  | .hbm, ⟨35, _⟩ => ⟨S288x512x2048, .f32⟩
  | .hbm, ⟨36, _⟩ => ⟨S288x512x2048, .f32⟩
  | .hbm, ⟨37, _⟩ => ⟨S288x512x2048, .f32⟩
  | .hbm, ⟨38, _⟩ => ⟨S_, .f32⟩
  | .hbm, ⟨39, _⟩ => ⟨S288x512x2048, .f32⟩
  | .hbm, ⟨40, _⟩ => ⟨S288x512x2048, .f32⟩
  | .hbm, ⟨41, _⟩ => ⟨S_, .f32⟩
  | .hbm, ⟨42, _⟩ => ⟨S288x512x2048, .f32⟩
  | .hbm, ⟨43, _⟩ => ⟨S288x512x2048, .f32⟩
  | .hbm, ⟨44, _⟩ => ⟨S288x512x2048, .f32⟩
  | .hbm, ⟨45, _⟩ => ⟨S288x512x2048, .f32⟩
  | .hbm, ⟨46, _⟩ => ⟨S288x1, .i32⟩
  | .hbm, ⟨47, _⟩ => ⟨S288x2048x2048, .f32⟩
  | .hbm, ⟨48, _⟩ => ⟨S288x512x2048, .f32⟩
  | .hbm, ⟨49, _⟩ => ⟨S288x1, .i32⟩
  | .hbm, ⟨50, _⟩ => ⟨S288x2048, .f32⟩
  | .hbm, ⟨51, _⟩ => ⟨S288x1x2048, .f32⟩
  | .hbm, ⟨52, _⟩ => ⟨S288x512x2048, .f32⟩
  | .hbm, ⟨53, _⟩ => ⟨S288x512x2048, .f32⟩
  | .hbm, ⟨54, _⟩ => ⟨S288, .i32⟩
  | .hbm, ⟨55, _⟩ => ⟨S_, .i32⟩
  | .hbm, ⟨56, _⟩ => ⟨S288, .i32⟩
  | .hbm, ⟨57, _⟩ => ⟨S288, .i1⟩
  | .hbm, ⟨58, _⟩ => ⟨S288x1, .i1⟩
  | .hbm, ⟨59, _⟩ => ⟨S512, .i32⟩
  | .hbm, ⟨60, _⟩ => ⟨S_, .i32⟩
  | .hbm, ⟨61, _⟩ => ⟨S512, .i32⟩
  | .hbm, ⟨62, _⟩ => ⟨S512, .i1⟩
  | .hbm, ⟨63, _⟩ => ⟨S_, .i32⟩
  | .hbm, ⟨64, _⟩ => ⟨S288, .i32⟩
  | .hbm, ⟨65, _⟩ => ⟨S288, .i1⟩
  | .hbm, ⟨66, _⟩ => ⟨S288x1, .i1⟩
  | .hbm, ⟨67, _⟩ => ⟨S1x512, .i1⟩
  | .hbm, ⟨68, _⟩ => ⟨S288x512, .i1⟩
  | .hbm, ⟨69, _⟩ => ⟨S288x512, .i1⟩
  | .hbm, ⟨70, _⟩ => ⟨S288x512, .i1⟩
  | .hbm, ⟨71, _⟩ => ⟨S288x512, .i1⟩
  | .hbm, ⟨72, _⟩ => ⟨S288x512, .i1⟩
  | .hbm, ⟨73, _⟩ => ⟨S288x512x1, .i1⟩
  | .hbm, ⟨74, _⟩ => ⟨S_, .f32⟩
  | .hbm, ⟨75, _⟩ => ⟨S_, .f32⟩
  | .hbm, ⟨76, _⟩ => ⟨S288x512x2048, .i1⟩
  | .hbm, ⟨77, _⟩ => ⟨S288x512x2048, .f32⟩
  | .hbm, ⟨78, _⟩ => ⟨S288x512x2048, .f32⟩
  | .hbm, ⟨79, _⟩ => ⟨S147456x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Kernel4.lean ====
abbrev S4x8192x2048 : Shape := ⟨3, ![4, 8192, 2048]⟩
abbrev S32768x1024 : Shape := ⟨2, ![32768, 1024]⟩
abbrev S32768x10752 : Shape := ⟨2, ![32768, 10752]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S2048x32 : Shape := ⟨2, ![2048, 32]⟩
abbrev S32x2048 : Shape := ⟨2, ![32, 2048]⟩
abbrev S32 : Shape := ⟨1, ![32]⟩
abbrev S32x1 : Shape := ⟨2, ![32, 1]⟩
abbrev S8x32768 : Shape := ⟨2, ![8, 32768]⟩
abbrev S512x2048 : Shape := ⟨2, ![512, 2048]⟩
abbrev S512x1024 : Shape := ⟨2, ![512, 1024]⟩
abbrev S8x512 : Shape := ⟨2, ![8, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S64x2048 : Shape := ⟨2, ![64, 2048]⟩
abbrev S64x1024 : Shape := ⟨2, ![64, 1024]⟩
abbrev S32x512 : Shape := ⟨2, ![32, 512]⟩
abbrev S512 : Shape := ⟨1, ![512]⟩
abbrev S1x512 : Shape := ⟨2, ![1, 512]⟩
abbrev S512x512 : Shape := ⟨2, ![512, 512]⟩

abbrev nBuf : Space → Nat
  | .hbm => 31
  | .vmem => 27
  | .smem => 0
  | _ => 0

abbrev bufTy : (tb : Table) → Fin (tcTables nBuf tb) → BufTy
  | .hbm, ⟨0, _⟩ => ⟨S4x8192x2048, .f32⟩
  | .hbm, ⟨1, _⟩ => ⟨S32768x1024, .bf16⟩
  | .hbm, ⟨2, _⟩ => ⟨S32768x1024, .bf16⟩
  | .hbm, ⟨3, _⟩ => ⟨S32768x10752, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S32768x2048, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048x32, .f32⟩
  | .hbm, ⟨23, _⟩ => ⟨S32x2048, .f32⟩
  | .hbm, ⟨24, _⟩ => ⟨S32, .f32⟩
  | .hbm, ⟨25, _⟩ => ⟨S32x1, .f32⟩
  | .hbm, ⟨26, _⟩ => ⟨S32768x2048, .f32⟩
  | .hbm, ⟨27, _⟩ => ⟨S8x32768, .i32⟩
  | .hbm, ⟨28, _⟩ => ⟨S8x32768, .f32⟩
  | .hbm, ⟨29, _⟩ => ⟨S8x32768, .i32⟩
  | .hbm, ⟨30, _⟩ => ⟨S32x1, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S32x2048, .f32⟩
  | .local _ .vmem, ⟨16, _⟩ => ⟨S32x1, .f32⟩
  | .local _ .vmem, ⟨17, _⟩ => ⟨S512x2048, .f32⟩
  | .local _ .vmem, ⟨18, _⟩ => ⟨S512x2048, .f32⟩
  | .local _ .vmem, ⟨19, _⟩ => ⟨S8x512, .i32⟩
  | .local _ .vmem, ⟨20, _⟩ => ⟨S8x512, .i32⟩
  | .local _ .vmem, ⟨21, _⟩ => ⟨S8x512, .f32⟩
  | .local _ .vmem, ⟨22, _⟩ => ⟨S8x512, .f32⟩
  | .local _ .vmem, ⟨23, _⟩ => ⟨S8x512, .i32⟩
  | .local _ .vmem, ⟨24, _⟩ => ⟨S8x512, .i32⟩
  | .local _ .vmem, ⟨25, _⟩ => ⟨S32x1, .f32⟩
  | .local _ .vmem, ⟨26, _⟩ => ⟨S32x1, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference4Ideal.lean ====
abbrev S4x8192x2048 : Shape := ⟨3, ![4, 8192, 2048]⟩
abbrev S32768x1024 : Shape := ⟨2, ![32768, 1024]⟩
abbrev S32768x10752 : Shape := ⟨2, ![32768, 10752]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S4x8192x1024 : Shape := ⟨3, ![4, 8192, 1024]⟩
abbrev S32768x4096 : Shape := ⟨2, ![32768, 4096]⟩
abbrev S4x8192x4096 : Shape := ⟨3, ![4, 8192, 4096]⟩
abbrev S_ : Shape := ⟨0, ![]⟩
abbrev S1024x2048 : Shape := ⟨2, ![1024, 2048]⟩
abbrev S2048x2048 : Shape := ⟨2, ![2048, 2048]⟩
abbrev S4x8192 : Shape := ⟨2, ![4, 8192]⟩
abbrev S4x8192x1 : Shape := ⟨3, ![4, 8192, 1]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S32768x1024, .bf16⟩
  | .hbm, ⟨2, _⟩ => ⟨S32768x1024, .bf16⟩
  | .hbm, ⟨3, _⟩ => ⟨S32768x10752, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S32768x1024, .f32⟩
  | .hbm, ⟨12, _⟩ => ⟨S4x8192x1024, .f32⟩
  | .hbm, ⟨13, _⟩ => ⟨S32768x1024, .f32⟩
  | .hbm, ⟨14, _⟩ => ⟨S4x8192x1024, .f32⟩
  | .hbm, ⟨15, _⟩ => ⟨S32768x4096, .bf16⟩
  | .hbm, ⟨16, _⟩ => ⟨S32768x4096, .f32⟩
  | .hbm, ⟨17, _⟩ => ⟨S4x8192x4096, .f32⟩
  | .hbm, ⟨18, _⟩ => ⟨S4x8192x4096, .f32⟩
  | .hbm, ⟨19, _⟩ => ⟨S4x8192x4096, .f32⟩
  | .hbm, ⟨20, _⟩ => ⟨S_, .f32⟩
  | .hbm, ⟨21, _⟩ => ⟨S4x8192x4096, .f32⟩
  | .hbm, ⟨22, _⟩ => ⟨S4x8192x4096, .f32⟩
  | .hbm, ⟨23, _⟩ => ⟨S_, .f32⟩
  | .hbm, ⟨24, _⟩ => ⟨S4x8192x4096, .f32⟩
  | .hbm, ⟨25, _⟩ => ⟨S4x8192x4096, .f32⟩
  | .hbm, ⟨26, _⟩ => ⟨S4x8192x2048, .f32⟩
  | .hbm, ⟨27, _⟩ => ⟨S4x8192x2048, .f32⟩
  | .hbm, ⟨28, _⟩ => ⟨S1024x2048, .f32⟩
  | .hbm, ⟨29, _⟩ => ⟨S4x8192x2048, .f32⟩
  | .hbm, ⟨30, _⟩ => ⟨S4x8192x2048, .f32⟩
  | .hbm, ⟨31, _⟩ => ⟨S1024x2048, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S2048x2048, .f32⟩
  | .hbm, ⟨36, _⟩ => ⟨S4x8192x2048, .f32⟩
  | .hbm, ⟨37, _⟩ => ⟨S_, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x2048, .f32⟩
  | .hbm, ⟨57, _⟩ => ⟨S4x8192x2048, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x2048, .f32⟩
  | .hbm, ⟨63, _⟩ => ⟨S4x8192x2048, .f32⟩
  | .hbm, ⟨64, _⟩ => ⟨S2048, .f32⟩
  | .hbm, ⟨65, _⟩ => ⟨S1x1x2048, .f32⟩
  | .hbm, ⟨66, _⟩ => ⟨S4x8192x2048, .f32⟩
  | .hbm, ⟨67, _⟩ => ⟨S4x8192x2048, .f32⟩
  | .hbm, ⟨68, _⟩ => ⟨S2048, .f32⟩
  | .hbm, ⟨69, _⟩ => ⟨S1x1x2048, .f32⟩
  | .hbm, ⟨70, _⟩ => ⟨S4x8192x2048, .f32⟩
  | .hbm, ⟨71, _⟩ => ⟨S4x8192x2048, .f32⟩
  | .hbm, ⟨72, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Proof.InProjRun.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen Cert.Kernel2Ideal.Value

variable (m : (ℓ : Loc nD τ sig) → Buf (Elt Ideal) ℓ)

/-- The block indices of the three windows at every grid point. -/
theorem idx : ∀ t : Fin cfg0.N, win0_0.index t = ![t.val / 7, 0] ∧ win0_1.index t = ![0, t.val % 7]
    ∧ win0_2.index t = ![t.val / 7, t.val % 7] ∧ t.val < 224 :=
  (by decide +kernel : ∀ t : Fin grid0.N, _)

/-- What the first input window's array holds when the region starts. -/
abbrev XA (c : Dev nD) : FVec Ideal S32768x2048 .f32 := V m c (Pipeline.arrRef spec0 0)
/-- What the second input window's array holds when the region starts. -/
abbrev WA (c : Dev nD) : FVec Ideal S2048x10752 .bf16 := V m c (Pipeline.arrRef spec0 1)

/-- After the body at point `n` the scratch holds row block `n / 7` of the input. -/
theorem scratch (c : Dev nD) : ∀ (n : ℕ) (h : n < cfg0.N) (r : Fin 1024) (k : Fin 2048) (hr : n / 7 * 1024 + r.val < 32768),
    (outsAt0 m c n h).2 (ix2 r k) = XA m c (ix2 ⟨n / 7 * 1024 + r.val, hr⟩ k) := by
  have hA : ∀ (t : Fin cfg0.N) (h0 : t.val % 7 = 0) (r : Fin 1024) (k : Fin 2048) (hr : t.val / 7 * 1024 + r.val < 32768),
      (outsAt0 m c t.val t.isLt).2 (ix2 r k) = XA m c (ix2 ⟨t.val / 7 * 1024 + r.val, hr⟩ k) := by
    intro t h0 r k hr
    rw [outsAt0_A m c t h0]
    frame_out
    pointwise [k0_pay1]
    blk_ext [iblk, XA, idx t]
  intro n
  induction n with
  | zero => intro h r k hr; exact hA ⟨0, h⟩ rfl r k hr
  | succ n ih =>
    intro h r k hr
    by_cases h0 : (n + 1) % 7 = 0
    · exact hA ⟨n + 1, h⟩ h0 r k hr
    · have e : (n + 1) / 7 = n / 7 := by omega
      have := ih (by omega) r k (by omega)
      rw [outsAt0_B m c ⟨n + 1, h⟩ h0]
      simp only [e]
      exact this

/-- What point `t` leaves in its output block: the products of the block's rows with the block's columns. -/
theorem point (c : Dev nD) (t : Fin cfg0.N) (r : Fin 1024) (l : Fin 1536) (hr : t.val / 7 * 1024 + r.val < 32768)
    (hl : t.val % 7 * 1536 + l.val < 10752) : (outsAt0 m c t.val t.isLt).1 (ix2 r l)
    = ∑ k : Fin 2048, XA m c (ix2 ⟨t.val / 7 * 1024 + r.val, hr⟩ k) * WA m c (ix2 k ⟨t.val % 7 * 1536 + l.val, hl⟩) := by
  have hN : t.val < 224 := (idx t).2.2.2
  have hW : ∀ k : Fin 2048, iblk m c 1 t (ix2 k l) = WA m c (ix2 k ⟨t.val % 7 * 1536 + l.val, hl⟩) := fun k => by
    blk_ext [iblk, WA, idx t]
  by_cases h0 : t.val % 7 = 0
  · rw [outsAt0_A m c t h0]
    frame_out
    pointwise [k0_pay1, k0_pay2]
    refine Finset.sum_congr rfl fun k _ => ?_
    refine Ideal.mul_congr ?_ (hW k)
    blk_ext [iblk, XA, idx t]
  · rw [outsAt0_B m c t h0]
    frame_out
    pointwise [k0_pay1, k0_pay2]
    refine Finset.sum_congr rfl fun k _ => ?_
    refine Ideal.mul_congr ?_ (hW k)
    simp only [read_unread_whole]
    rw [scratch m c (t.val - 1) _ r k (by omega)]
    congr 2
    apply Fin.ext
    show (t.val - 1) / 7 * 1024 + r.val = t.val / 7 * 1024 + r.val
    omega

/-- What the kernel's result array holds: row `r` of the input times column `l` of the packed weights. -/
theorem final (c : Dev nD) : (dats m 0 c).arrAt 2 (cfgs 0).N
    = (fun i => ∑ k : Fin 2048, XA m c (ix2 (i 0) k) * WA m c (ix2 k (i 1)) : FVec Ideal S32768x10752 .bf16) := by
  refine (dats m 0 c).arrAt_eq_of_covers 2 _ (by decide +kernel) fun t _ y => ?_
  blk_simp
  rw [after0_2]
  obtain ⟨y0, y1, rfl⟩ : ∃ (a : Fin 1024) (b : Fin 1536), y = ix2 a b := ⟨y 0, y 1, eq_ix2 y⟩
  have hN : t.val < 224 := (idx t).2.2.2
  refine (point m c t y0 y1 (by omega) (by omega)).trans ?_
  blk_point [idx t]

end Cert.Kernel2Ideal.InProj
-- ==== Proof.InProj.lean ====
module

public import proofs.«01_k».proof.Defs
public import proofs.«01_k».proof.Proof.Gen.Kernel2Ideal.Value
public import proofs.«01_k».proof.Proof.InProjRun
public import proofs.«01_k».proof.Proof.Gen.Reference2Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen Cert.Kernel2Ideal.Value

variable (m : (ℓ : Loc nD τ sig) → Buf (Elt Ideal) ℓ)

/-- Rows of the flattened batch are the batch's rows. -/
theorem flat_apply (X : FVec Ideal S4x8192x2048 .f32) (r : Fin 32768) (k : Fin 2048) :
    shapeCast S32768x2048 X shapeCasts_S4x8192x2048_S32768x2048 (ix2 r k) = X (ix3 ⟨r.val / 8192, by omega⟩ ⟨r.val % 8192, by omega⟩ k) := by
  pointwise []

/-- The input as the region finds it: the tokens of the batch one after another. -/
theorem XA_eq (c : Dev nD) (r : Fin 32768) (k : Fin 2048) : XA m c (ix2 r k)
    = (m ((c : Thread nD τ).loc main_arg0) : FVec Ideal S4x8192x2048 .f32) (ix3 ⟨r.val / 8192, by omega⟩ ⟨r.val % 8192, by omega⟩ k) := by
  have h : V m c main_v0 = shapeCast S32768x2048 (m ((c : Thread nD τ).loc main_arg0) : FVec Ideal S4x8192x2048 .f32) shapeCasts_S4x8192x2048_S32768x2048 := by
    simp only [V, hostOps0, hostOps0_1, hostOps0_2, hostOps0_3, hostOps0_4, List.flatten_cons, List.flatten_nil, List.append_nil,
      List.cons_append, List.nil_append, StableHlo.TRef.binary, StableHlo.TRef.unary, StableHlo.TRef.toBuf, StableHlo.TRef.ofBuf, cast_eq]
    after_results <;> rfl
  exact (congrFun h (ix2 r k)).trans (flat_apply _ r k)

/-- The input weights packed in the order of columns that the later calls read. -/
def PACK (w : FVec Ideal S1x2048x10688 .f32) : FVec Ideal S2048x10752 .bf16 :=
  let w1 : FVec Ideal S2048x10688 .f32 := shapeCast S2048x10688 w shapeCasts_S1x2048x10688_S2048x10688
  let z : FVec Ideal S_ .f32 := sitofp .f32 (constantI S_ 32 0#32)
  truncf .bf16 (concatenate S2048x10752 1 [⟨S2048x4096, extractStridedSlice S2048x4096 ![0, 6592] w1 slices_S2048x10688_S2048x4096_0_6592⟩,
    ⟨S2048x6144, extractStridedSlice S2048x6144 ![0, 0] w1 slices_S2048x10688_S2048x6144_0_0⟩,
    ⟨S2048x128, pad S2048x128 ![0, 0] ![0, 32] ![0, 0] (extractStridedSlice S2048x96 ![0, 6144] w1 slices_S2048x10688_S2048x96_0_6144) z pads_S2048x96_S2048x128_000_0320 h_S_⟩,
    ⟨S2048x128, pad S2048x128 ![0, 0] ![0, 32] ![0, 0] (extractStridedSlice S2048x96 ![0, 6240] w1 slices_S2048x10688_S2048x96_0_6240) z pads_S2048x96_S2048x128_000_0320 h_S_⟩,
    ⟨S2048x256, extractStridedSlice S2048x256 ![0, 6336] w1 slices_S2048x10688_S2048x256_0_6336⟩]
    concatenates_S2048x4096_S2048x6144_S2048x128_S2048x128_S2048x256_S2048x10752_d1) bitsLt_bf16_f32

/-- The weights as the region finds them. -/
theorem WA_eq (c : Dev nD) : WA m c = PACK (m ((c : Thread nD τ).loc main_arg1)) := by
  show V m c main_v10 = _
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results <;> rfl

open Cert.Reference2Ideal.Read in
/-- The product with the packed weights is the packed product. -/
theorem value (X : FVec Ideal S4x8192x2048 .f32) (W : FVec Ideal S1x2048x10688 .f32) (r : Fin 32768) (l : Fin 10752) :
    ∑ k : Fin 2048, X (ix3 ⟨r.val / 8192, by omega⟩ ⟨r.val % 8192, by omega⟩ k) * PACK W (ix2 k l)
      = val_main_v13 (F := Ideal) X W (ix2 r l) := by
  pointwise [PACK, val_main_v13, val_main_v12, val_main_v11, val_main_v10, val_main_v9, val_main_v8, val_main_v7, val_main_v6, val_main_v5,
    val_main_v4, val_main_v3, val_main_v2, val_main_v1, val_main_v0, val_main_call0_v0, val_main_call1_v0, val_main_c, val_main_c_0]
  have hl := l.isLt
  have hr : r.val / 8192 < 4 := by have := r.isLt; omega
  have hr' : r.val % 8192 < 8192 := by omega
  have hz : (FloatOps.sitofp .f32 (0#32 : BitVec 32) : Ideal .f32) = (0 : EReal) := by
    show (((0#32 : BitVec 32).toInt : ℝ) : EReal) = 0
    simp
  by_cases h0 : l.val < 4096
  · have e0 : (l.val < 4096) = True := eq_true (by omega)
    have e1 : (l.val - 4096 < 3072) = True := eq_true (by omega)
    have e2 : (l.val - 4096 - 3072 < 3072) = True := eq_true (by omega)
    have e3 : (l.val - 4096 - 3072 - 3072 < 128) = True := eq_true (by omega)
    have e4 : (l.val - 4096 - 3072 - 3072 < 96) = True := eq_true (by omega)
    have e5 : (l.val - 4096 - 3072 - 3072 - 128 < 128) = True := eq_true (by omega)
    have e6 : (l.val - 4096 - 3072 - 3072 - 128 < 96) = True := eq_true (by omega)
    have e7 : (l.val - 4096 < 6144) = True := eq_true (by omega)
    have e8 : (l.val - 4096 - 6144 < 128) = True := eq_true (by omega)
    have e9 : (l.val - 4096 - 6144 < 96) = True := eq_true (by omega)
    have e10 : (l.val - 4096 - 6144 - 128 < 128) = True := eq_true (by omega)
    have e11 : (l.val - 4096 - 6144 - 128 < 96) = True := eq_true (by omega)
    simp only [e0, e1, e2, e3, e4, e5, e6, e7, e8, e9, e10, e11, hr, hr', and_true, and_false, true_and, ↓reduceDIte]
  by_cases h1 : l.val < 7168
  · have e0 : (l.val < 4096) = False := eq_false (by omega)
    have e1 : (l.val - 4096 < 3072) = True := eq_true (by omega)
    have e2 : (l.val - 4096 - 3072 < 3072) = True := eq_true (by omega)
    have e3 : (l.val - 4096 - 3072 - 3072 < 128) = True := eq_true (by omega)
    have e4 : (l.val - 4096 - 3072 - 3072 < 96) = True := eq_true (by omega)
    have e5 : (l.val - 4096 - 3072 - 3072 - 128 < 128) = True := eq_true (by omega)
    have e6 : (l.val - 4096 - 3072 - 3072 - 128 < 96) = True := eq_true (by omega)
    have e7 : (l.val - 4096 < 6144) = True := eq_true (by omega)
    have e8 : (l.val - 4096 - 6144 < 128) = True := eq_true (by omega)
    have e9 : (l.val - 4096 - 6144 < 96) = True := eq_true (by omega)
    have e10 : (l.val - 4096 - 6144 - 128 < 128) = True := eq_true (by omega)
    have e11 : (l.val - 4096 - 6144 - 128 < 96) = True := eq_true (by omega)
    simp only [e0, e1, e2, e3, e4, e5, e6, e7, e8, e9, e10, e11, hr, hr', and_true, and_false, true_and, ↓reduceDIte]
  by_cases h2 : l.val < 10240
  · have e0 : (l.val < 4096) = False := eq_false (by omega)
    have e1 : (l.val - 4096 < 3072) = False := eq_false (by omega)
    have e2 : (l.val - 4096 - 3072 < 3072) = True := eq_true (by omega)
    have e3 : (l.val - 4096 - 3072 - 3072 < 128) = True := eq_true (by omega)
    have e4 : (l.val - 4096 - 3072 - 3072 < 96) = True := eq_true (by omega)
    have e5 : (l.val - 4096 - 3072 - 3072 - 128 < 128) = True := eq_true (by omega)
    have e6 : (l.val - 4096 - 3072 - 3072 - 128 < 96) = True := eq_true (by omega)
    have e7 : (l.val - 4096 < 6144) = True := eq_true (by omega)
    have e8 : (l.val - 4096 - 6144 < 128) = True := eq_true (by omega)
    have e9 : (l.val - 4096 - 6144 < 96) = True := eq_true (by omega)
    have e10 : (l.val - 4096 - 6144 - 128 < 128) = True := eq_true (by omega)
    have e11 : (l.val - 4096 - 6144 - 128 < 96) = True := eq_true (by omega)
    simp only [e0, e1, e2, e3, e4, e5, e6, e7, e8, e9, e10, e11, hr, hr', and_true, and_false, true_and, ↓reduceDIte]
    exact Finset.sum_congr rfl fun k _ => Ideal.mul_congr rfl (congrArg W (congrArg (ix3 0 k) (Fin.ext (by dsimp only; omega))))
  by_cases h3 : l.val < 10336
  · have e0 : (l.val < 4096) = False := eq_false (by omega)
    have e1 : (l.val - 4096 < 3072) = False := eq_false (by omega)
    have e2 : (l.val - 4096 - 3072 < 3072) = False := eq_false (by omega)
    have e3 : (l.val - 4096 - 3072 - 3072 < 128) = True := eq_true (by omega)
    have e4 : (l.val - 4096 - 3072 - 3072 < 96) = True := eq_true (by omega)
    have e5 : (l.val - 4096 - 3072 - 3072 - 128 < 128) = True := eq_true (by omega)
    have e6 : (l.val - 4096 - 3072 - 3072 - 128 < 96) = True := eq_true (by omega)
    have e7 : (l.val - 4096 < 6144) = False := eq_false (by omega)
    have e8 : (l.val - 4096 - 6144 < 128) = True := eq_true (by omega)
    have e9 : (l.val - 4096 - 6144 < 96) = True := eq_true (by omega)
    have e10 : (l.val - 4096 - 6144 - 128 < 128) = True := eq_true (by omega)
    have e11 : (l.val - 4096 - 6144 - 128 < 96) = True := eq_true (by omega)
    simp only [e0, e1, e2, e3, e4, e5, e6, e7, e8, e9, e10, e11, hr, hr', and_true, and_false, true_and, ↓reduceDIte]
    exact Finset.sum_congr rfl fun k _ => Ideal.mul_congr rfl (congrArg W (congrArg (ix3 0 k) (Fin.ext (by dsimp only; omega))))
  by_cases h4 : l.val < 10368
  · have e0 : (l.val < 4096) = False := eq_false (by omega)
    have e1 : (l.val - 4096 < 3072) = False := eq_false (by omega)
    have e2 : (l.val - 4096 - 3072 < 3072) = False := eq_false (by omega)
    have e3 : (l.val - 4096 - 3072 - 3072 < 128) = True := eq_true (by omega)
    have e4 : (l.val - 4096 - 3072 - 3072 < 96) = False := eq_false (by omega)
    have e5 : (l.val - 4096 - 3072 - 3072 - 128 < 128) = True := eq_true (by omega)
    have e6 : (l.val - 4096 - 3072 - 3072 - 128 < 96) = True := eq_true (by omega)
    have e7 : (l.val - 4096 < 6144) = False := eq_false (by omega)
    have e8 : (l.val - 4096 - 6144 < 128) = True := eq_true (by omega)
    have e9 : (l.val - 4096 - 6144 < 96) = False := eq_false (by omega)
    have e10 : (l.val - 4096 - 6144 - 128 < 128) = True := eq_true (by omega)
    have e11 : (l.val - 4096 - 6144 - 128 < 96) = True := eq_true (by omega)
    simp only [e0, e1, e2, e3, e4, e5, e6, e7, e8, e9, e10, e11, hr, hr', and_true, and_false, true_and, ↓reduceDIte]
    rw [hz]
    exact Finset.sum_eq_zero fun k _ => mul_zero _
  by_cases h5 : l.val < 10464
  · have e0 : (l.val < 4096) = False := eq_false (by omega)
    have e1 : (l.val - 4096 < 3072) = False := eq_false (by omega)
    have e2 : (l.val - 4096 - 3072 < 3072) = False := eq_false (by omega)
    have e3 : (l.val - 4096 - 3072 - 3072 < 128) = False := eq_false (by omega)
    have e4 : (l.val - 4096 - 3072 - 3072 < 96) = False := eq_false (by omega)
    have e5 : (l.val - 4096 - 3072 - 3072 - 128 < 128) = True := eq_true (by omega)
    have e6 : (l.val - 4096 - 3072 - 3072 - 128 < 96) = True := eq_true (by omega)
    have e7 : (l.val - 4096 < 6144) = False := eq_false (by omega)
    have e8 : (l.val - 4096 - 6144 < 128) = False := eq_false (by omega)
    have e9 : (l.val - 4096 - 6144 < 96) = False := eq_false (by omega)
    have e10 : (l.val - 4096 - 6144 - 128 < 128) = True := eq_true (by omega)
    have e11 : (l.val - 4096 - 6144 - 128 < 96) = True := eq_true (by omega)
    simp only [e0, e1, e2, e3, e4, e5, e6, e7, e8, e9, e10, e11, hr, hr', and_true, and_false, true_and, ↓reduceDIte]
    exact Finset.sum_congr rfl fun k _ => Ideal.mul_congr rfl (congrArg W (congrArg (ix3 0 k) (Fin.ext (by dsimp only; omega))))
  by_cases h6 : l.val < 10496
  · have e0 : (l.val < 4096) = False := eq_false (by omega)
    have e1 : (l.val - 4096 < 3072) = False := eq_false (by omega)
    have e2 : (l.val - 4096 - 3072 < 3072) = False := eq_false (by omega)
    have e3 : (l.val - 4096 - 3072 - 3072 < 128) = False := eq_false (by omega)
    have e4 : (l.val - 4096 - 3072 - 3072 < 96) = False := eq_false (by omega)
    have e5 : (l.val - 4096 - 3072 - 3072 - 128 < 128) = True := eq_true (by omega)
    have e6 : (l.val - 4096 - 3072 - 3072 - 128 < 96) = False := eq_false (by omega)
    have e7 : (l.val - 4096 < 6144) = False := eq_false (by omega)
    have e8 : (l.val - 4096 - 6144 < 128) = False := eq_false (by omega)
    have e9 : (l.val - 4096 - 6144 < 96) = False := eq_false (by omega)
    have e10 : (l.val - 4096 - 6144 - 128 < 128) = True := eq_true (by omega)
    have e11 : (l.val - 4096 - 6144 - 128 < 96) = False := eq_false (by omega)
    simp only [e0, e1, e2, e3, e4, e5, e6, e7, e8, e9, e10, e11, hr, hr', and_true, and_false, true_and, ↓reduceDIte]
    rw [hz]
    exact Finset.sum_eq_zero fun k _ => mul_zero _
  have e0 : (l.val < 4096) = False := eq_false (by omega)
  have e1 : (l.val - 4096 < 3072) = False := eq_false (by omega)
  have e2 : (l.val - 4096 - 3072 < 3072) = False := eq_false (by omega)
  have e3 : (l.val - 4096 - 3072 - 3072 < 128) = False := eq_false (by omega)
  have e4 : (l.val - 4096 - 3072 - 3072 < 96) = False := eq_false (by omega)
  have e5 : (l.val - 4096 - 3072 - 3072 - 128 < 128) = False := eq_false (by omega)
  have e6 : (l.val - 4096 - 3072 - 3072 - 128 < 96) = False := eq_false (by omega)
  have e7 : (l.val - 4096 < 6144) = False := eq_false (by omega)
  have e8 : (l.val - 4096 - 6144 < 128) = False := eq_false (by omega)
  have e9 : (l.val - 4096 - 6144 < 96) = False := eq_false (by omega)
  have e10 : (l.val - 4096 - 6144 - 128 < 128) = False := eq_false (by omega)
  have e11 : (l.val - 4096 - 6144 - 128 < 96) = False := eq_false (by omega)
  simp only [e0, e1, e2, e3, e4, e5, e6, e7, e8, e9, e10, e11, hr, hr', and_true, and_false, true_and, ↓reduceDIte]
  exact Finset.sum_congr rfl fun k _ => Ideal.mul_congr rfl (congrArg W (congrArg (ix3 0 k) (Fin.ext (by dsimp only; omega))))

/-- The input as launched. -/
abbrev X0 (c : Dev nD) : FVec Ideal S4x8192x2048 .f32 := m ((c : Thread nD τ).loc main_arg0)
/-- The weights as launched. -/
abbrev X1 (c : Dev nD) : FVec Ideal S1x2048x10688 .f32 := m ((c : Thread nD τ).loc main_arg1)

/-- The kernel's product over the arguments as launched. -/
theorem sum_eq (c : Dev nD) (r : Fin 32768) (l : Fin 10752) :
    ∑ k : Fin 2048, XA m c (ix2 r k) * WA m c (ix2 k l)
      = ∑ k : Fin 2048, X0 m c (ix3 ⟨r.val / 8192, by omega⟩ ⟨r.val % 8192, by omega⟩ k) * PACK (X1 m c) (ix2 k l) := by
  refine Finset.sum_congr rfl fun k _ => ?_
  rw [XA_eq, WA_eq]

end Cert.Kernel2Ideal.InProj

namespace Cert.Proof.InProjClaim

/-- The input projection's result array is the reference's. -/
theorem algebraic : Cert.algebraic_Kernel2Ideal_Reference2Ideal := by
  pair_intro
  · run_from Cert.Kernel2Ideal.Value.run_blocks m g
  · run_from Cert.Reference2Ideal.Value.run m' g'
    refine (Cert.Reference2Ideal.Read.val_main_v13_eq _ _).trans ?_
    rw [Cert.Kernel2Ideal.InProj.final m c]
    funext i
    obtain ⟨r, l, rfl⟩ : ∃ (a : Fin 32768) (b : Fin 10752), i = ix2 a b := ⟨i 0, i 1, eq_ix2 i⟩
    refine ((Cert.Kernel2Ideal.InProj.value (Cert.Kernel2Ideal.InProj.X0 m c) (Cert.Kernel2Ideal.InProj.X1 m c) r l).symm.trans ?_ : _)
    exact (Cert.Kernel2Ideal.InProj.sum_eq m c r l).symm

end Cert.Proof.InProjClaim
-- ==== Proof.AttnMath.lean ====
module

public import proofs.«01_k».proof.Defs
public import Idealize.ShloMosaic.Lib.Pipeline.ValueKit

@[expose] public section

noncomputable section

open Idealize.ShloMosaic Idealize.ShloMosaic.TcCoe

namespace Cert.AttnMath

theorem exp_real (r : ℝ) : Ideal.exp (r : EReal) = (Real.exp r : EReal) := by
  rfl

theorem exp_bot : Ideal.exp ⊥ = 0 := by
  rfl

/-- A sum over 768 keys, of which only the band of 576 counts. -/
theorem sum_band (f : Fin 768 → EReal) (o : ℕ) (ho : o ≤ 192)
    (h : ∀ κ : Fin 768, ¬(o ≤ κ.val ∧ κ.val < o + 576) → f κ = 0) :
    ∑ κ, f κ = ∑ j : Fin 576, f ⟨o + j.val, by omega⟩ := by
  symm
  apply Finset.sum_of_injOn (fun j : Fin 576 => (⟨o + j.val, by omega⟩ : Fin 768))
  · intro a _ b _ e
    have := congrArg Fin.val e
    exact Fin.ext (by simpa using this)
  · intro a _; simp
  · intro κ _ hk
    apply h
    rintro ⟨h1, h2⟩
    exact hk ⟨⟨κ.val - o, by omega⟩, by simp, Fin.ext (by simp; omega)⟩
  · intro i _; rfl

theorem sup_band (f : Fin 768 → EReal) (o : ℕ) (ho : o ≤ 192)
    (h : ∀ κ : Fin 768, ¬(o ≤ κ.val ∧ κ.val < o + 576) → f κ = ⊥) :
    Finset.univ.sup f = Finset.univ.sup fun j : Fin 576 => f ⟨o + j.val, by omega⟩ := by
  apply le_antisymm
  · apply Finset.sup_le
    intro κ _
    by_cases hk : o ≤ κ.val ∧ κ.val < o + 576
    · have : f κ = (fun j : Fin 576 => f ⟨o + j.val, by omega⟩) ⟨κ.val - o, by omega⟩ :=
        congrArg f (Fin.ext (by simp; omega))
      rw [this]
      exact Finset.le_sup (f := fun j : Fin 576 => f ⟨o + j.val, by omega⟩) (Finset.mem_univ _)
    · rw [h κ hk]; exact bot_le
  · apply Finset.sup_le
    intro j _
    exact Finset.le_sup (f := f) (Finset.mem_univ _)

/-- The keys of three blocks of 256, one after another. -/
theorem sum_three (f : Fin 768 → EReal) :
    ∑ κ, f κ = (∑ κ : Fin 256, f ⟨κ.val, by omega⟩ + ∑ κ : Fin 256, f ⟨256 + κ.val, by omega⟩) + ∑ κ : Fin 256, f ⟨512 + κ.val, by omega⟩ := by
  have h1 : ∑ κ : Fin 768, f κ = ∑ κ : Fin 512, f ⟨κ.val, by omega⟩ + ∑ κ : Fin 256, f ⟨512 + κ.val, by omega⟩ :=
    Fin.sum_univ_add (a := 512) (b := 256) f
  have h2 : ∑ κ : Fin 512, f ⟨κ.val, by omega⟩ = ∑ κ : Fin 256, f ⟨κ.val, by omega⟩ + ∑ κ : Fin 256, f ⟨256 + κ.val, by omega⟩ :=
    Fin.sum_univ_add (a := 256) (b := 256) (fun κ : Fin 512 => f ⟨κ.val, by omega⟩)
  rw [h1, h2]

theorem sup_three (f : Fin 768 → EReal) :
    Finset.univ.sup f = Finset.univ.sup fun κ : Fin 256 =>
      max (max (f ⟨κ.val, by omega⟩) (f ⟨256 + κ.val, by omega⟩)) (f ⟨512 + κ.val, by omega⟩) := by
  apply le_antisymm
  · apply Finset.sup_le
    intro κ _
    have key : ∀ i : Fin 256, (max (max (f ⟨i.val, by omega⟩) (f ⟨256 + i.val, by omega⟩)) (f ⟨512 + i.val, by omega⟩)) ≤ _ :=
      fun i => Finset.le_sup (f := fun κ : Fin 256 =>
        max (max (f ⟨κ.val, by omega⟩) (f ⟨256 + κ.val, by omega⟩)) (f ⟨512 + κ.val, by omega⟩)) (Finset.mem_univ i)
    by_cases h1 : κ.val < 256
    · exact le_trans (le_trans (le_max_left _ _) (le_max_left _ _)) (key ⟨κ.val, h1⟩)
    by_cases h2 : κ.val < 512
    · have e : f κ = f ⟨256 + (κ.val - 256), by omega⟩ := congrArg f (Fin.ext (by simp; omega))
      rw [e]
      exact le_trans (le_trans (le_max_right _ _) (le_max_left _ _)) (key ⟨κ.val - 256, by omega⟩)
    · have e : f κ = f ⟨512 + (κ.val - 512), by omega⟩ := congrArg f (Fin.ext (by simp; omega))
      rw [e]
      exact le_trans (le_max_right _ _) (key ⟨κ.val - 512, by omega⟩)
  · apply Finset.sup_le
    intro κ _
    exact max_le (max_le (Finset.le_sup (f := f) (Finset.mem_univ _)) (Finset.le_sup (f := f) (Finset.mem_univ _))) (Finset.le_sup (f := f) (Finset.mem_univ _))

/-- Multiplying a sum by a nonnegative real from the right. -/
theorem sum_mul_real {ι : Type} (s : Finset ι) (f : ι → EReal) (c : EReal) (h0 : 0 ≤ c) (hT : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 hT, ih]

/-- Softmax over the band, and weighted sum: the sum divided at the end is the sum of the divided weights. -/
theorem softmax (S V : Fin 768 → EReal) (o : ℕ) (ho : o ≤ 192)
    (hS : ∀ κ : Fin 768, ¬(o ≤ κ.val ∧ κ.val < o + 576) → S κ = ⊥) (hT : ∀ κ, S κ ≠ ⊤) (hB : ∃ κ, S κ ≠ ⊥) :
    Ideal.div (∑ κ, Ideal.exp (S κ - Finset.univ.sup S) * V κ) (∑ κ, Ideal.exp (S κ - Finset.univ.sup S))
      = ∑ j : Fin 576, Ideal.div (Ideal.exp (S ⟨o + j.val, by omega⟩ - Finset.univ.sup fun j : Fin 576 => S ⟨o + j.val, by omega⟩))
          (∑ j : Fin 576, Ideal.exp (S ⟨o + j.val, by omega⟩ - Finset.univ.sup fun j : Fin 576 => S ⟨o + j.val, by omega⟩))
          * V ⟨o + j.val, by omega⟩ := by
  rw [← sup_band S o ho hS]
  set M := Finset.univ.sup S with hM
  obtain ⟨κ0, _, hκ0⟩ := Finset.exists_mem_eq_sup Finset.univ ⟨(0 : Fin 768), Finset.mem_univ _⟩ S
  have hMT : M ≠ ⊤ := by rw [hM, hκ0]; exact hT κ0
  have hMB : M ≠ ⊥ := by
    obtain ⟨κ, hκ⟩ := hB
    intro e
    exact hκ (le_bot_iff.mp (e ▸ Finset.le_sup (f := S) (Finset.mem_univ κ)))
  obtain ⟨M', hM'⟩ : ∃ r : ℝ, (r : EReal) = M := ⟨M.toReal, EReal.coe_toReal hMT hMB⟩
  have hp : ∀ κ, ∃ r : ℝ, 0 ≤ r ∧ Ideal.exp (S κ - M) = (r : EReal) := by
    intro κ
    by_cases hb : S κ = ⊥
    · refine ⟨0, le_refl _, ?_⟩
      rw [hb, EReal.bot_sub, exp_bot]; rfl
    · obtain ⟨s, hs⟩ : ∃ r : ℝ, (r : EReal) = S κ := ⟨(S κ).toReal, EReal.coe_toReal (hT κ) hb⟩
      refine ⟨Real.exp (s - M'), (Real.exp_pos _).le, ?_⟩
      rw [← hs, ← hM', ← EReal.coe_sub, exp_real]
  have hp0 : Ideal.exp (S κ0 - M) = ((1 : ℝ) : EReal) := by
    have e : S κ0 = M := (hM.trans hκ0).symm
    rw [e, ← hM', ← EReal.coe_sub, sub_self, exp_real, Real.exp_zero]
  choose p hp1 hp2 using hp
  have hD : ∑ κ, Ideal.exp (S κ - M) = ((∑ κ, p κ : ℝ) : EReal) := by
    rw [Finset.sum_congr rfl fun κ _ => hp2 κ]
    exact (map_sum (⟨⟨Real.toEReal, rfl⟩, fun _ _ => rfl⟩ : ℝ →+ EReal) p Finset.univ).symm
  have hz : ∀ κ : Fin 768, ¬(o ≤ κ.val ∧ κ.val < o + 576) → Ideal.exp (S κ - M) = 0 := by
    intro κ hk
    rw [hS κ hk, EReal.bot_sub, exp_bot]
  have hpos : 0 < ∑ κ, p κ := by
    have h1 : p κ0 = 1 := by
      have := (hp2 κ0).symm.trans hp0
      exact_mod_cast this
    have h2 : p κ0 ≤ ∑ κ, p κ := Finset.single_le_sum (fun i _ => hp1 i) (Finset.mem_univ κ0)
    linarith
  have hD' := sum_band (fun κ => Ideal.exp (S κ - M)) o ho hz
  have hN' := sum_band (fun κ => Ideal.exp (S κ - M) * V κ) o ho (fun κ hk => by
    show Ideal.exp (S κ - M) * V κ = 0
    rw [hz κ hk, zero_mul])
  rw [← hD', hN', hD]
  have hdiv : ∀ x : EReal, Ideal.div x ((∑ κ, p κ : ℝ) : EReal) = x * (((∑ κ, p κ)⁻¹ : ℝ) : EReal) := by
    intro x
    unfold Ideal.div
    rw [if_neg (by exact_mod_cast hpos.ne')]
    rw [EReal.coe_inv]
  rw [hdiv, sum_mul_real _ _ _ (by exact_mod_cast (inv_nonneg.mpr hpos.le)) (EReal.coe_ne_top _)]
  refine Finset.sum_congr rfl fun j _ => ?_
  rw [hdiv, mul_right_comm]

/-- The quotient of the weighted sum by the sum of the weights. -/
def OUT (S V : Fin 768 → EReal) : EReal :=
  Ideal.div (∑ κ, Ideal.exp (S κ - Finset.univ.sup S) * V κ) (∑ κ, Ideal.exp (S κ - Finset.univ.sup S))

/-- Three blocks of 256 one after another. -/
def JOIN (f0 f1 f2 : Fin 256 → EReal) (κ : Fin 768) : EReal :=
  if h : κ.val < 256 then f0 ⟨κ.val, h⟩ else if h' : κ.val < 512 then f1 ⟨κ.val - 256, by omega⟩ else f2 ⟨κ.val - 512, by omega⟩

theorem join0 (f0 f1 f2 : Fin 256 → EReal) (κ : Fin 256) : JOIN f0 f1 f2 ⟨κ.val, by omega⟩ = f0 κ := by
  unfold JOIN; rw [dif_pos (by exact κ.isLt)]

theorem join1 (f0 f1 f2 : Fin 256 → EReal) (κ : Fin 256) : JOIN f0 f1 f2 ⟨256 + κ.val, by omega⟩ = f1 κ := by
  unfold JOIN
  rw [dif_neg (by simp), dif_pos (by simp; omega)]
  exact congrArg f1 (Fin.ext (by simp))

theorem join2 (f0 f1 f2 : Fin 256 → EReal) (κ : Fin 256) : JOIN f0 f1 f2 ⟨512 + κ.val, by omega⟩ = f2 κ := by
  unfold JOIN
  rw [dif_neg (by simp; omega), dif_neg (by simp)]
  exact congrArg f2 (Fin.ext (by simp))

/-- The quotient in the three blocks' own terms. -/
theorem out_join (s0 s1 s2 v0 v1 v2 : Fin 256 → EReal) (M : EReal) (hM : M = Finset.univ.sup fun κ => max (max (s0 κ) (s1 κ)) (s2 κ)) :
    Ideal.div ((∑ κ, Ideal.exp (s0 κ - M) * v0 κ + ∑ κ, Ideal.exp (s1 κ - M) * v1 κ) + ∑ κ, Ideal.exp (s2 κ - M) * v2 κ)
      ((∑ κ, Ideal.exp (s0 κ - M) + ∑ κ, Ideal.exp (s1 κ - M)) + ∑ κ, Ideal.exp (s2 κ - M))
      = OUT (JOIN s0 s1 s2) (JOIN v0 v1 v2) := by
  unfold OUT
  rw [sum_three, sum_three, sup_three (JOIN s0 s1 s2)]
  simp only [join0, join1, join2]
  rw [← hM]

end Cert.AttnMath
-- ==== Proof.AttnPair.lean ====
module

public import proofs.«01_k».proof.Defs
public import proofs.«01_k».proof.Proof.Gen.KernelIdeal.Value
public import proofs.«01_k».proof.Proof.AttnMath
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen Cert.KernelIdeal.Value Cert.AttnMath

/-- One head's attention of a tile of queries, from its masked scores against three blocks of keys. -/
def HEAD (S0 S1 S2 : FVec Ideal S256x256 .f32) (V0 V1 V2 : FVec Ideal S256x128 .bf16) : FVec Ideal S256x128 .f32 :=
  k0_pay227 (k0_pay199 (k0_pay126 S0 (k0_pay110 S2 S0 S1)) (k0_pay126 S1 (k0_pay110 S2 S0 S1)) (k0_pay126 S2 (k0_pay110 S2 S0 S1))
    (k0_pay176 k0_pay174 V0) (k0_pay176 k0_pay174 V1) (k0_pay176 k0_pay174 V2))

/-- Two heads' attention of a tile of queries, as one store writes it. -/
def PIECE (a : BitVec 32) (Q K0 K1 K2 V0 V1 V2 : FVec Ideal S256x128 .bf16) (B0 B1 B2 C0 C1 C2 : FVec Ideal S1x256x256 .f32) : FVec Ideal S256x128 .bf16 :=
  k0_pay241 k0_pay4
    (HEAD (k0_pay78 a (k0_pay24 (k0_pay5 Q) K0 B0)) (k0_pay79 a (k0_pay24 (k0_pay5 Q) K1 B1)) (k0_pay24 (k0_pay5 Q) K2 B2) V0 V1 V2)
    (HEAD (k0_pay78 a (k0_pay24 (k0_pay6 Q) K0 C0)) (k0_pay79 a (k0_pay24 (k0_pay6 Q) K1 C1)) (k0_pay24 (k0_pay6 Q) K2 C2) V0 V1 V2)

theorem lt_mask (l : Fin 128) : IntOp.cmpi CmpIPredicate.slt (BitVec.ofNat 32 l.val) 64#32 = if l.val < 64 then 1#1 else 0#1 := by
  revert l; decide +kernel

theorem ge_mask (l : Fin 128) : IntOp.xori (IntOp.cmpi CmpIPredicate.slt (BitVec.ofNat 32 l.val) 64#32) 1#1 = if l.val < 64 then 0#1 else 1#1 := by
  revert l; decide +kernel

/-- The scale one eighth. -/
theorem eighth : Ideal.ofBits FTy.bf16 15872#16 = ((1 / 8 : ℝ) : EReal) := by
  simp [Ideal.ofBits, Ideal.ieee, -EReal.coe_mul]; norm_num

theorem neg_inf : Ideal.ofBits FTy.f32 4286578688#32 = ⊥ := by
  simp [Ideal.ofBits, Ideal.ieee]

theorem neg_named : (Named.named KernelIdeal.κ "neg" 4048155338#32 : Ideal .f32) = ⊥ :=
  rfl

/-- The even head's score. -/
theorem score_even (Q K : FVec Ideal S256x128 .bf16) (B : FVec Ideal S1x256x256 .f32) (r κ : Fin 256) :
    k0_pay24 (F := Ideal) (k0_pay5 Q) K B (ix2 r κ)
      = (∑ d : Fin 64, Q (ix2 r ⟨d.val, by omega⟩) * ((1 / 8 : ℝ) : EReal) * K (ix2 κ ⟨d.val, by omega⟩)) + B (ix3 0 r κ) := by
  have h1 : k0_pay24 (F := Ideal) (k0_pay5 Q) K B (ix2 r κ) = ∑ x : Fin 128, k0_pay5 (F := Ideal) Q (ix2 r x) * K (ix2 κ x) + B (ix3 0 r κ) := by
    generalize k0_pay5 (F := Ideal) Q = q
    pointwise [k0_pay24]
  have h2 : ∀ x : Fin 128, k0_pay5 (F := Ideal) Q (ix2 r x) = if x.val < 64 then Q (ix2 r x) * ((1 / 8 : ℝ) : EReal) else 0 := by
    intro x
    pointwise [k0_pay5, k0_pay4]
    rw [lt_mask, eighth]
    by_cases hx : x.val < 64
    · rw [if_pos hx, if_pos hx]; rfl
    · rw [if_neg hx, if_neg hx]; rfl
  rw [h1]
  congr 1
  refine (Fin.sum_univ_add (a := 64) (b := 64) (fun x : Fin 128 => k0_pay5 (F := Ideal) Q (ix2 r x) * K (ix2 κ x))).trans ?_
  refine (congrArg₂ (· + ·) (Finset.sum_congr rfl fun d _ => ?_) (Finset.sum_eq_zero fun d _ => ?_)).trans (add_zero _)
  · show k0_pay5 (F := Ideal) Q (ix2 r (⟨d.val, by omega⟩ : Fin 128)) * _ = _
    rw [h2, if_pos d.isLt]; rfl
  · show k0_pay5 (F := Ideal) Q (ix2 r (⟨64 + d.val, by omega⟩ : Fin 128)) * _ = _
    rw [h2, if_neg (by simp), zero_mul]

/-- The odd head's score. -/
theorem score_odd (Q K : FVec Ideal S256x128 .bf16) (B : FVec Ideal S1x256x256 .f32) (r κ : Fin 256) :
    k0_pay24 (F := Ideal) (k0_pay6 Q) K B (ix2 r κ)
      = (∑ d : Fin 64, Q (ix2 r ⟨64 + d.val, by omega⟩) * ((1 / 8 : ℝ) : EReal) * K (ix2 κ ⟨64 + d.val, by omega⟩)) + B (ix3 0 r κ) := by
  have h1 : k0_pay24 (F := Ideal) (k0_pay6 Q) K B (ix2 r κ) = ∑ x : Fin 128, k0_pay6 (F := Ideal) Q (ix2 r x) * K (ix2 κ x) + B (ix3 0 r κ) := by
    generalize k0_pay6 (F := Ideal) Q = q
    pointwise [k0_pay24]
  have h2 : ∀ x : Fin 128, k0_pay6 (F := Ideal) Q (ix2 r x) = if x.val < 64 then 0 else Q (ix2 r x) * ((1 / 8 : ℝ) : EReal) := by
    intro x
    pointwise [k0_pay6, k0_pay4]
    rw [ge_mask, eighth]
    by_cases hx : x.val < 64
    · rw [if_pos hx, if_pos hx]; rfl
    · rw [if_neg hx, if_neg hx]; rfl
  rw [h1]
  congr 1
  refine (Fin.sum_univ_add (a := 64) (b := 64) (fun x : Fin 128 => k0_pay6 (F := Ideal) Q (ix2 r x) * K (ix2 κ x))).trans ?_
  refine (congrArg₂ (· + ·) (Finset.sum_eq_zero fun d _ => ?_) (Finset.sum_congr rfl fun d _ => ?_)).trans (zero_add _)
  · show k0_pay6 (F := Ideal) Q (ix2 r (⟨d.val, by omega⟩ : Fin 128)) * _ = _
    rw [h2, if_pos d.isLt, zero_mul]
  · show k0_pay6 (F := Ideal) Q (ix2 r (⟨64 + d.val, by omega⟩ : Fin 128)) * _ = _
    rw [h2, if_neg (by simp)]; rfl

/-- The tile of queries has a block of keys two tiles back. -/
def back2 (a : BitVec 32) : BitVec 1 := Scalar.cmpi CmpIPredicate.sge (Scalar.addi (Scalar.subi a 2#32) 0#32) 0#32
/-- The tile of queries has a block of keys one tile back. -/
def back1 (a : BitVec 32) : BitVec 1 := Scalar.cmpi CmpIPredicate.sge (Scalar.addi (Scalar.subi a 2#32) 1#32) 0#32

theorem mask0 (a : BitVec 32) (S : FVec Ideal S256x256 .f32) (r κ : Fin 256) :
    k0_pay78 (F := Ideal) a S (ix2 r κ) = Scalar.select (back2 a) (S (ix2 r κ)) ⊥ := by
  rw [← neg_named]
  pointwise [k0_pay78]
  rfl

theorem mask1 (a : BitVec 32) (S : FVec Ideal S256x256 .f32) (r κ : Fin 256) :
    k0_pay79 (F := Ideal) a S (ix2 r κ) = Scalar.select (back1 a) (S (ix2 r κ)) ⊥ := by
  rw [← neg_named]
  pointwise [k0_pay79]
  rfl

/-- A head's attention is the quotient over the joined blocks. -/
theorem head_apply (S0 S1 S2 : FVec Ideal S256x256 .f32) (V0 V1 V2 : FVec Ideal S256x128 .bf16) (r : Fin 256) (l : Fin 128) :
    HEAD S0 S1 S2 V0 V1 V2 (ix2 r l) = OUT (JOIN (fun κ => S0 (ix2 r κ)) (fun κ => S1 (ix2 r κ)) (fun κ => S2 (ix2 r κ)))
      (JOIN (fun κ => V0 (ix2 κ l)) (fun κ => V1 (ix2 κ l)) (fun κ => V2 (ix2 κ l))) := by
  have hmx : k0_pay110 (F := Ideal) S2 S0 S1 (ix2 r 0) = Finset.univ.sup fun κ => max (max (S0 (ix2 r κ)) (S1 (ix2 r κ))) (S2 (ix2 r κ)) := by
    pointwise [k0_pay110]
    rw [neg_inf]; rfl
  rw [← out_join _ _ _ _ _ _ _ hmx]
  unfold HEAD
  generalize k0_pay110 (F := Ideal) S2 S0 S1 = M
  have hp : ∀ (S : FVec Ideal S256x256 .f32) (κ : Fin 256), k0_pay126 (F := Ideal) S M (ix2 r κ) = Ideal.exp (S (ix2 r κ) - M (ix2 r 0)) := by
    intro S κ
    pointwise [k0_pay126]
  have hv : ∀ (V : FVec Ideal S256x128 .bf16) (κ : Fin 256), k0_pay176 (F := Ideal) k0_pay174 V (ix2 κ ⟨l.val, by omega⟩) = V (ix2 κ l) := by
    intro V κ
    pointwise [k0_pay176, k0_pay174]
  have ho : ∀ (V : FVec Ideal S256x128 .bf16) (κ : Fin 256), k0_pay176 (F := Ideal) k0_pay174 V (ix2 κ 128) = 1 := by
    intro V κ
    pointwise [k0_pay176, k0_pay174]
  have ha : ∀ (P0 P1 P2 W0 W1 W2 : FVec Ideal S256x256 .bf16) (x : Fin 256), k0_pay199 (F := Ideal) P0 P1 P2 W0 W1 W2 (ix2 r x)
      = ∑ κ : Fin 256, P0 (ix2 r κ) * W0 (ix2 κ x) + ∑ κ : Fin 256, P1 (ix2 r κ) * W1 (ix2 κ x) + ∑ κ : Fin 256, P2 (ix2 r κ) * W2 (ix2 κ x) := by
    intro P0 P1 P2 W0 W1 W2 x
    pointwise [k0_pay199]
  have hd : ∀ A : FVec Ideal S256x256 .f32, k0_pay227 (F := Ideal) A (ix2 r l) = Ideal.div (A (ix2 r ⟨l.val, by omega⟩)) (A (ix2 r 128)) := by
    intro A
    pointwise [k0_pay227]
  rw [hd, ha, ha]
  simp only [hp, hv, ho, mul_one]

/-- What a store of two heads writes at a lane of the first. -/
theorem piece_even (a : BitVec 32) (Q K0 K1 K2 V0 V1 V2 : FVec Ideal S256x128 .bf16) (B0 B1 B2 C0 C1 C2 : FVec Ideal S1x256x256 .f32)
    (r : Fin 256) (l : Fin 128) (hl : l.val < 64) :
    PIECE a Q K0 K1 K2 V0 V1 V2 B0 B1 B2 C0 C1 C2 (ix2 r l) = OUT (JOIN
      (fun κ => Scalar.select (back2 a) ((∑ d : Fin 64, Q (ix2 r ⟨d.val, by omega⟩) * ((1 / 8 : ℝ) : EReal) * K0 (ix2 κ ⟨d.val, by omega⟩)) + B0 (ix3 0 r κ)) ⊥)
      (fun κ => Scalar.select (back1 a) ((∑ d : Fin 64, Q (ix2 r ⟨d.val, by omega⟩) * ((1 / 8 : ℝ) : EReal) * K1 (ix2 κ ⟨d.val, by omega⟩)) + B1 (ix3 0 r κ)) ⊥)
      (fun κ => ((∑ d : Fin 64, Q (ix2 r ⟨d.val, by omega⟩) * ((1 / 8 : ℝ) : EReal) * K2 (ix2 κ ⟨d.val, by omega⟩)) + B2 (ix3 0 r κ))))
      (JOIN (fun κ => V0 (ix2 κ l)) (fun κ => V1 (ix2 κ l)) (fun κ => V2 (ix2 κ l))) := by
  have hs : ∀ E O : FVec Ideal S256x128 .f32, k0_pay241 (F := Ideal) k0_pay4 E O (ix2 r l) = E (ix2 r l) := by
    intro E O
    pointwise [k0_pay241, k0_pay4]
    rw [lt_mask, if_pos hl]; rfl
  unfold PIECE
  rw [hs, head_apply]
  simp only [mask0, mask1, score_even]

/-- What a store of two heads writes at a lane of the second. -/
theorem piece_odd (a : BitVec 32) (Q K0 K1 K2 V0 V1 V2 : FVec Ideal S256x128 .bf16) (B0 B1 B2 C0 C1 C2 : FVec Ideal S1x256x256 .f32)
    (r : Fin 256) (l : Fin 128) (hl : ¬ l.val < 64) :
    PIECE a Q K0 K1 K2 V0 V1 V2 B0 B1 B2 C0 C1 C2 (ix2 r l) = OUT (JOIN
      (fun κ => Scalar.select (back2 a) ((∑ d : Fin 64, Q (ix2 r ⟨64 + d.val, by omega⟩) * ((1 / 8 : ℝ) : EReal) * K0 (ix2 κ ⟨64 + d.val, by omega⟩)) + C0 (ix3 0 r κ)) ⊥)
      (fun κ => Scalar.select (back1 a) ((∑ d : Fin 64, Q (ix2 r ⟨64 + d.val, by omega⟩) * ((1 / 8 : ℝ) : EReal) * K1 (ix2 κ ⟨64 + d.val, by omega⟩)) + C1 (ix3 0 r κ)) ⊥)
      (fun κ => ((∑ d : Fin 64, Q (ix2 r ⟨64 + d.val, by omega⟩) * ((1 / 8 : ℝ) : EReal) * K2 (ix2 κ ⟨64 + d.val, by omega⟩)) + C2 (ix3 0 r κ))))
      (JOIN (fun κ => V0 (ix2 κ l)) (fun κ => V1 (ix2 κ l)) (fun κ => V2 (ix2 κ l))) := by
  have hs : ∀ E O : FVec Ideal S256x128 .f32, k0_pay241 (F := Ideal) k0_pay4 E O (ix2 r l) = O (ix2 r l) := by
    intro E O
    pointwise [k0_pay241, k0_pay4]
    rw [lt_mask, if_neg hl]; rfl
  unfold PIECE
  rw [hs, head_apply]
  simp only [mask0, mask1, score_odd]

end Cert.KernelIdeal.Attn
-- ==== Proof.AttnBias.lean ====
module

public import proofs.«01_k».proof.Defs
public import proofs.«01_k».proof.Proof.Gen.KernelIdeal.Value
public import proofs.«01_k».proof.Proof.AttnPair
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.KernelIdeal.Attn
open Cert.KernelIdeal Cert.KernelIdeal.Gen

/-- The distance between a query and a key, by the difference of their chunks and of their places in them. -/
def dist : IVec S15x127 32 :=
  addi (addi (broadcastInDim S15x127 ![0, 1] bcast_S15x1_S15x127_0_1 (muli (broadcastInDim S15x1 ![0] bcast_S15_S15x1_0
      (addi (broadcastInDim S15 ![] bcast_S_S15 (constantI S_ 32 4294967285#32)) (iotaInDim S15 32 0))) (broadcastInDim S15x1 ![] bcast_S_S15x1 (constantI S_ 32 64#32))))
    (broadcastInDim S15x127 ![0, 1] bcast_S1x127_S15x127_0_1 (broadcastInDim S1x127 ![1] bcast_S127_S1x127_1
      (addi (broadcastInDim S127 ![] bcast_S_S127 (constantI S_ 32 4294967233#32)) (iotaInDim S127 32 0)))))
    (broadcastInDim S15x127 ![] bcast_S_S15x127 (constantI S_ 32 512#32))

/-- The clipped distance, shifted to the bias row. -/
def clipped : IVec S15x127 32 :=
  minsi (broadcastInDim S15x127 ![] bcast_S_S15x127 (id (constantI S_ 32 319#32)))
    (maxsi (broadcastInDim S15x127 ![] bcast_S_S15x127 (id (constantI S_ 32 0#32)))
      (addi (minsi dist (broadcastInDim S15x127 ![] bcast_S_S15x127 (constantI S_ 32 256#32))) (broadcastInDim S15x127 ![] bcast_S_S15x127 (constantI S_ 32 63#32))))

def place : IVec S15x127x1 32 :=
  broadcastInDim S15x127x1 ![0, 1] bcast_S15x127_S15x127x1_0_1
    (select (cmpi .slt clipped (broadcastInDim S15x127 ![] bcast_S_S15x127 (constantI S_ 32 0#32))) (addi clipped (broadcastInDim S15x127 ![] bcast_S_S15x127 (constantI S_ 32 320#32))) clipped)

/-- The bias rows picked by the distances. -/
def rows (x : FVec Ideal S1x16x320 .f32) : FVec Ideal S16x15x127 .f32 :=
  Host.gather gather_S16x320_S15x127x1_S16x15x127_0_1_n_n_1_2_161 (shapeCast S16x320 x shapeCasts_S1x16x320_S16x320) place

def padded (w : FVec Ideal S16x15x127 .f32) : FVec Ideal S16x15x128 .f32 :=
  pad S16x15x128 ![0, 0, 0] ![0, 0, 1] ![0, 0, 0] w (sitofp .f32 (constantI S_ 32 0#32)) pads_S16x15x127_S16x15x128_000_000_010 h_S_

/-- One tile for each difference of chunks: its entries move by one place from row to row. -/
def skewed (p : FVec Ideal S16x15x128 .f32) : FVec Ideal S16x15x64x64 .f32 :=
  transpose S16x15x64x64 [0, 1, 3, 2] (extractStridedSlice S16x15x64x64 ![0, 0, 0, 63]
    (shapeCast S16x15x64x127 (extractStridedSlice S16x15x8128 ![0, 0, 0]
      (shapeCast S16x15x8192 (broadcastInDim S16x15x64x128 ![0, 1, 2, 3] bcast_S16x15x1x128_S16x15x64x128_0_1_2_3
        (broadcastInDim S16x15x1x128 ![0, 1, 3] bcast_S16x15x128_S16x15x1x128_0_1_3 p)) shapeCasts_S16x15x64x128_S16x15x8192)
      slices_S16x15x8192_S16x15x8128_0_0_0) shapeCasts_S16x15x8128_S16x15x64x127) slices_S16x15x64x127_S16x15x64x64_0_0_0_63)
    transposes_S16x15x64x64_S16x15x64x64_0_1_3_2

def qchunk : IVec S4x1 32 := broadcastInDim S4x1 ![0] bcast_S4_S4x1_0 (iotaInDim S4 32 0)
def kchunk : IVec S1x12 32 := broadcastInDim S1x12 ![1] bcast_S12_S1x12_1 (iotaInDim S12 32 0)

def chunkDiff : IVec S4x12 32 :=
  addi (subi (broadcastInDim S4x12 ![0, 1] bcast_S4x1_S4x12_0_1 qchunk) (broadcastInDim S4x12 ![0, 1] bcast_S1x12_S4x12_0_1 kchunk)) (broadcastInDim S4x12 ![] bcast_S_S4x12 (constantI S_ 32 11#32))

/-- The tile of a pair of chunks. -/
def tileOf : IVec S4x12x1 32 :=
  broadcastInDim S4x12x1 ![0, 1] bcast_S4x12_S4x12x1_0_1
    (select (cmpi .slt chunkDiff (broadcastInDim S4x12 ![] bcast_S_S4x12 (constantI S_ 32 0#32))) (addi chunkDiff (broadcastInDim S4x12 ![] bcast_S_S4x12 (constantI S_ 32 15#32))) chunkDiff)

def back : IVec S4x12 32 :=
  subi (broadcastInDim S4x12 ![0, 1] bcast_S4x1_S4x12_0_1 (addi qchunk (broadcastInDim S4x1 ![] bcast_S_S4x1 (constantI S_ 32 8#32)))) (broadcastInDim S4x12 ![0, 1] bcast_S1x12_S4x12_0_1 kchunk)

/-- Whether a key's chunk lies in a query's band. -/
def inBand : IVec S4x12 1 := andi (cmpi .sge back (broadcastInDim S4x12 ![] bcast_S_S4x12 (constantI S_ 32 0#32))) (cmpi .sle back (broadcastInDim S4x12 ![] bcast_S_S4x12 (constantI S_ 32 8#32)))

def tiles (s : FVec Ideal S16x15x64x64 .f32) : FVec Ideal S16x4x12x64x64 .f32 :=
  Host.gather gather_S16x15x64x64_S4x12x1_S16x4x12x64x64_034_1_n_n_1_2_1616464 s tileOf

def table (w : FVec Ideal S16x4x12x64x64 .f32) : FVec Ideal S16x256x768 .f32 :=
  shapeCast S16x256x768 (transpose S16x4x64x12x64 [0, 1, 3, 2, 4]
    (select (broadcastInDim S16x4x12x64x64 ![0, 1, 2, 3, 4] bcast_S1x4x12x1x1_S16x4x12x64x64_0_1_2_3_4
        (broadcastInDim S1x4x12x1x1 ![1, 2] bcast_S4x12_S1x4x12x1x1_1_2 inBand)) w
      (broadcastInDim S16x4x12x64x64 ![] bcast_S_S16x4x12x64x64 (id (constant S_ .f32 0xFF800000#32) : FVec Ideal S_ .f32)))
    transposes_S16x4x12x64x64_S16x4x64x12x64_0_1_3_2_4) shapeCasts_S16x4x64x12x64_S16x256x768

theorem place_at (e : Fin 15) (l : Fin 127) : (place (ix3 e l 0)).toInt.toNat = min (64 * e.val + l.val - 192) 319 := by
  pointwise [place, clipped, dist]
  revert e l
  decide +kernel

theorem tileOf_at (a : Fin 4) (b : Fin 12) : (tileOf (ix3 a b 0)).toInt.toNat = a.val + 11 - b.val := by
  pointwise [tileOf, chunkDiff, qchunk, kchunk]
  revert a b
  decide +kernel

theorem inBand_at (a : Fin 4) (b : Fin 12) : inBand (ix2 a b) = if a.val ≤ b.val ∧ b.val ≤ a.val + 8 then 1#1 else 0#1 := by
  pointwise [inBand, back, qchunk, kchunk]
  revert a b
  decide +kernel

theorem gather_rows (x : FVec Ideal S16x320 .f32) (ix : IVec S15x127x1 32) (h : Fin 16) (e : Fin 15) (l : Fin 127) :
    Host.gather gather_S16x320_S15x127x1_S16x15x127_0_1_n_n_1_2_161 x ix (ix3 h e l)
      = x (ix2 h ⟨min (ix (ix3 e l 0)).toInt.toNat 319, by omega⟩) := by
  unfold Host.gather
  refine congrArg x (funext fun a => Fin.ext ?_)
  match a with
  | ⟨0, _⟩ => exact (Nat.zero_add _).trans rfl
  | ⟨1, _⟩ =>
    have hs : gather_S16x320_S15x127x1_S16x15x127_0_1_n_n_1_2_161.siIdx (ix3 h e l) ⟨0, by decide⟩ = ix3 e l 0 := by
      funext b
      match b with
      | ⟨0, _⟩ => rfl
      | ⟨1, _⟩ => rfl
      | ⟨2, _⟩ => rfl
    show min (ix (gather_S16x320_S15x127x1_S16x15x127_0_1_n_n_1_2_161.siIdx (ix3 h e l) ⟨0, by decide⟩)).toInt.toNat 319 + 0 + 0 = _
    rw [hs]; rfl

theorem gather_tiles (s : FVec Ideal S16x15x64x64 .f32) (ix : IVec S4x12x1 32) (h : Fin 16) (a : Fin 4) (b : Fin 12) (x y : Fin 64) :
    Host.gather gather_S16x15x64x64_S4x12x1_S16x4x12x64x64_034_1_n_n_1_2_1616464 s ix (ix5 h a b x y)
      = s (ix4 h ⟨min (ix (ix3 a b 0)).toInt.toNat 14, by omega⟩ x y) := by
  unfold Host.gather
  refine congrArg s (funext fun k => Fin.ext ?_)
  match k with
  | ⟨0, _⟩ => exact (Nat.zero_add _).trans rfl
  | ⟨1, _⟩ =>
    have hs : gather_S16x15x64x64_S4x12x1_S16x4x12x64x64_034_1_n_n_1_2_1616464.siIdx (ix5 h a b x y) ⟨0, by decide⟩ = ix3 a b 0 := by
      funext b
      match b with
      | ⟨0, _⟩ => rfl
      | ⟨1, _⟩ => rfl
      | ⟨2, _⟩ => rfl
    show min (ix (gather_S16x15x64x64_S4x12x1_S16x4x12x64x64_034_1_n_n_1_2_1616464.siIdx (ix5 h a b x y) ⟨0, by decide⟩)).toInt.toNat 14 + 0 + 0 = _
    rw [hs]; rfl
  | ⟨2, _⟩ => exact (Nat.zero_add _).trans rfl
  | ⟨3, _⟩ => exact (Nat.zero_add _).trans rfl

theorem rows_at (x : FVec Ideal S1x16x320 .f32) (h : Fin 16) (e : Fin 15) (l : Fin 127) :
    rows x (ix3 h e l) = x (ix3 0 h ⟨min (64 * e.val + l.val - 192) 319, by omega⟩) := by
  unfold rows
  rw [gather_rows]
  simp only [place_at]
  pointwise
  blk_ext

theorem padded_at (w : FVec Ideal S16x15x127 .f32) (h : Fin 16) (e : Fin 15) (l : Fin 127) :
    padded w (ix3 h e ⟨l.val, by omega⟩) = w (ix3 h e l) := by
  pointwise [padded]

theorem skewed_at (p : FVec Ideal S16x15x128 .f32) (h : Fin 16) (e : Fin 15) (x y : Fin 64) :
    skewed p (ix4 h e x y) = p (ix3 h e ⟨x.val + 63 - y.val, by omega⟩) := by
  pointwise [skewed]
  blk_ext

theorem table_at (w : FVec Ideal S16x4x12x64x64 .f32) (h : Fin 16) (r : Fin 256) (κ : Fin 768) :
    table w (ix3 h r κ) = if r.val / 64 ≤ κ.val / 64 ∧ κ.val / 64 ≤ r.val / 64 + 8 then
      w (ix5 h ⟨r.val / 64, by omega⟩ ⟨κ.val / 64, by omega⟩ ⟨r.val % 64, by omega⟩ ⟨κ.val % 64, by omega⟩) else ⊥ := by
  have hb := inBand_at ⟨r.val / 64, by omega⟩ ⟨κ.val / 64, by omega⟩
  unfold table
  generalize inBand = M at hb
  pointwise
  rw [hb]
  have hn : (id (constant S_ FTy.f32 4286578688#32) : FVec Ideal S_ .f32) ix0 = (⊥ : EReal) := neg_inf
  rw [hn]
  dsimp only
  by_cases h : r.val / 64 ≤ κ.val / 64 ∧ κ.val / 64 ≤ r.val / 64 + 8
  · rw [if_pos h, if_pos h]; rfl
  · rw [if_neg h, if_neg h]; rfl

/-- The bias table: the bias row at the clipped distance inside the band, nothing outside. -/
theorem bias_at (x : FVec Ideal S1x16x320 .f32) (h : Fin 16) (r : Fin 256) (κ : Fin 768) :
    table (tiles (skewed (padded (rows x)))) (ix3 h r κ) = if r.val / 64 ≤ κ.val / 64 ∧ κ.val / 64 ≤ r.val / 64 + 8 then
      x (ix3 0 h ⟨min (r.val + 575 - κ.val) 319, by omega⟩) else ⊥ := by
  rw [table_at]
  by_cases hb : r.val / 64 ≤ κ.val / 64 ∧ κ.val / 64 ≤ r.val / 64 + 8
  · rw [if_pos hb, if_pos hb]
    unfold tiles
    rw [gather_tiles, skewed_at]
    simp only [tileOf_at]
    refine (padded_at _ h _ ⟨r.val % 64 + 63 - κ.val % 64, by omega⟩).trans ?_
    rw [rows_at]
    refine congrArg (fun z => x (ix3 0 h z)) (Fin.ext ?_)
    dsimp only
    omega
  · rw [if_neg hb, if_neg hb]

end Cert.KernelIdeal.Attn
-- ==== Proof.AttnWin.lean ====
module

public import proofs.«01_k».proof.Defs
public import proofs.«01_k».proof.Proof.Gen.KernelIdeal.Value
public import proofs.«01_k».proof.Proof.AttnPair
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.KernelIdeal.Attn
open Cert.KernelIdeal Cert.KernelIdeal.Gen Cert.KernelIdeal.Value Cert.AttnMath
variable (m : (ℓ : Loc nD τ sig) → Buf (Elt Ideal) ℓ)

/-- Which blocks the windows stage: the tile's queries, the keys and values of the tile and of the two before it
    (the first tiles of a batch entry repeat the entry's first), and the whole bias table. -/
theorem idx : ∀ t : Fin cfg0.N,
    win0_0.index t = ![t.val, 4]
    ∧ win0_1.index t = ![t.val / 32 * 32 + (t.val % 32 - 2), 5] ∧ win0_2.index t = ![t.val / 32 * 32 + (t.val % 32 - 1), 5] ∧ win0_3.index t = ![t.val, 5]
    ∧ win0_4.index t = ![t.val / 32 * 32 + (t.val % 32 - 2), 6] ∧ win0_5.index t = ![t.val / 32 * 32 + (t.val % 32 - 1), 6] ∧ win0_6.index t = ![t.val, 6]
    ∧ win0_7.index t = ![0, 0, 0] ∧ win0_8.index t = ![t.val, 0] ∧ win0_9.index t = ![t.val, 0] ∧ win0_10.index t = ![t.val, 0] :=
  (by decide +kernel : ∀ t : Fin grid0.N, _)

/-- The projection. -/
abbrev PJ (c : Dev nD) : FVec Ideal S32768x10752 .bf16 := m ((c : Thread nD τ).loc main_arg0)
/-- The bias table as the region finds it. -/
abbrev BT (c : Dev nD) : FVec Ideal S16x256x768 .f32 := V m c main_v65
/-- The weights carried along, as the region finds them. -/
abbrev WD (c : Dev nD) : FVec Ideal S65536x2048 .f32 := V m c main_v67

theorem row_lt (t : Fin cfg0.N) (r : Fin 256) : t.val * 256 + r.val < 32768 := by
  have : t.val < 128 := t.isLt
  omega
theorem krow_lt (t : Fin cfg0.N) (j : ℕ) (r : Fin 256) : (t.val / 32 * 32 + (t.val % 32 - j)) * 256 + r.val < 32768 := by
  have : t.val < 128 := t.isLt
  omega

theorem x0_apply (c : Dev nD) (t : Fin cfg0.N) (r : Fin 256) (l : Fin 1024) :
    X0_0 m c t (ix2 r l) = PJ m c (ix2 ⟨t.val * 256 + r.val, row_lt t r⟩ ⟨4096 + l.val, by omega⟩) := by
  unfold X0_0 Window.fill
  rw [dif_pos (moved0_0 t (ix2 r l))]
  blk_ext [iblk, V, (idx t).1]

theorem x1_apply (c : Dev nD) (t : Fin cfg0.N) (r : Fin 256) (l : Fin 1024) :
    X0_1 m c t (ix2 r l) = PJ m c (ix2 ⟨(t.val / 32 * 32 + (t.val % 32 - 2)) * 256 + r.val, krow_lt t 2 r⟩ ⟨5120 + l.val, by omega⟩) := by
  unfold X0_1 Window.fill
  rw [dif_pos (moved0_1 t (ix2 r l))]
  blk_ext [iblk, V, (idx t).2.1]

theorem x2_apply (c : Dev nD) (t : Fin cfg0.N) (r : Fin 256) (l : Fin 1024) :
    X0_2 m c t (ix2 r l) = PJ m c (ix2 ⟨(t.val / 32 * 32 + (t.val % 32 - 1)) * 256 + r.val, krow_lt t 1 r⟩ ⟨5120 + l.val, by omega⟩) := by
  unfold X0_2 Window.fill
  rw [dif_pos (moved0_2 t (ix2 r l))]
  blk_ext [iblk, V, (idx t).2.2.1]

theorem x3_apply (c : Dev nD) (t : Fin cfg0.N) (r : Fin 256) (l : Fin 1024) :
    X0_3 m c t (ix2 r l) = PJ m c (ix2 ⟨t.val * 256 + r.val, row_lt t r⟩ ⟨5120 + l.val, by omega⟩) := by
  unfold X0_3 Window.fill
  rw [dif_pos (moved0_3 t (ix2 r l))]
  blk_ext [iblk, V, (idx t).2.2.2.1]

theorem x4_apply (c : Dev nD) (t : Fin cfg0.N) (r : Fin 256) (l : Fin 1024) :
    X0_4 m c t (ix2 r l) = PJ m c (ix2 ⟨(t.val / 32 * 32 + (t.val % 32 - 2)) * 256 + r.val, krow_lt t 2 r⟩ ⟨6144 + l.val, by omega⟩) := by
  unfold X0_4 Window.fill
  rw [dif_pos (moved0_4 t (ix2 r l))]
  blk_ext [iblk, V, (idx t).2.2.2.2.1]

theorem x5_apply (c : Dev nD) (t : Fin cfg0.N) (r : Fin 256) (l : Fin 1024) :
    X0_5 m c t (ix2 r l) = PJ m c (ix2 ⟨(t.val / 32 * 32 + (t.val % 32 - 1)) * 256 + r.val, krow_lt t 1 r⟩ ⟨6144 + l.val, by omega⟩) := by
  unfold X0_5 Window.fill
  rw [dif_pos (moved0_5 t (ix2 r l))]
  blk_ext [iblk, V, (idx t).2.2.2.2.2.1]

theorem x6_apply (c : Dev nD) (t : Fin cfg0.N) (r : Fin 256) (l : Fin 1024) :
    X0_6 m c t (ix2 r l) = PJ m c (ix2 ⟨t.val * 256 + r.val, row_lt t r⟩ ⟨6144 + l.val, by omega⟩) := by
  unfold X0_6 Window.fill
  rw [dif_pos (moved0_6 t (ix2 r l))]
  blk_ext [iblk, V, (idx t).2.2.2.2.2.2.1]

theorem x7_apply (c : Dev nD) (t : Fin cfg0.N) (h : Fin 16) (r : Fin 256) (κ : Fin 768) :
    (iblk m c 7 t : FVec Ideal S16x256x768 .f32) (ix3 h r κ) = BT m c (ix3 h r κ) := by
  show iblk m c 7 t (ix3 h r κ) = V m c main_v65 (ix3 h r κ)
  generalize hV : V m c main_v65 = W
  blk_ext [iblk, hV, (idx t).2.2.2.2.2.2.2.1]

theorem grid_tile : ∀ t : Fin cfg0.N, back2 (BitVec.ofNat 32 (grid0.coords t 2).val) = (if 2 ≤ t.val % 32 then 1#1 else 0#1)
    ∧ back1 (BitVec.ofNat 32 (grid0.coords t 2).val) = (if 1 ≤ t.val % 32 then 1#1 else 0#1) :=
  (by decide +kernel : ∀ t : Fin grid0.N, _)

end Cert.KernelIdeal.Attn
-- ==== Proof.AttnCore.lean ====
module

public import proofs.«01_k».proof.Proof.AttnWin

@[expose] public section

set_option maxRecDepth 16384

noncomputable section

open Idealize.ShloMosaic Idealize.ShloMosaic.TcCoe Idealize.SL.Sem
open Idealize.ShloMosaic.Pipeline (Dat Window)

namespace Cert.KernelIdeal.Attn
open Cert.KernelIdeal Cert.KernelIdeal.Gen Cert.KernelIdeal.Value Cert.AttnMath
variable (m : (ℓ : Loc nD τ sig) → Buf (Elt Ideal) ℓ)

/-- The row of the key (or value) at place `κ` of the three blocks before and at a tile. -/
def krow (t : Fin cfg0.N) (κ : Fin 768) : Fin 32768 :=
  ⟨(t.val / 32 * 32 + (t.val % 32 + κ.val / 256 - 2)) * 256 + κ.val % 256, by have : t.val < 128 := t.isLt; omega⟩

/-- The score of the tile's query `r` against the key at `κ`, in head `h`; none before the entry's first token. -/
def SCORE (c : Dev nD) (t : Fin cfg0.N) (h : Fin 16) (r : Fin 256) (κ : Fin 768) : EReal :=
  if 512 ≤ κ.val + 256 * (t.val % 32) then
    (∑ d : Fin 64, PJ m c (ix2 ⟨t.val * 256 + r.val, row_lt t r⟩ ⟨4096 + (h.val * 64 + d.val), by omega⟩) * ((1 / 8 : ℝ) : EReal)
      * PJ m c (ix2 (krow t κ) ⟨5120 + (h.val * 64 + d.val), by omega⟩)) + BT m c (ix3 h r κ)
  else ⊥

/-- The value at `κ` in head `h`, lane `d`. -/
def VAL (c : Dev nD) (t : Fin cfg0.N) (h : Fin 16) (d : Fin 64) (κ : Fin 768) : EReal :=
  PJ m c (ix2 (krow t κ) ⟨6144 + (h.val * 64 + d.val), by omega⟩)

/-- What the tile's attention is, lane by lane. -/
def SPEC (c : Dev nD) (t : Fin cfg0.N) (y : S256x1024.Idx) : EReal :=
  OUT (SCORE m c t ⟨(y 1).val / 64, by have : (y 1).val < 1024 := (y 1).isLt; omega⟩ (y 0)) (VAL m c t ⟨(y 1).val / 64, by have : (y 1).val < 1024 := (y 1).isLt; omega⟩ ⟨(y 1).val % 64, by omega⟩)

theorem join_ext {f0 f1 f2 : Fin 256 → EReal} {F : Fin 768 → EReal} (h0 : ∀ κ : Fin 256, f0 κ = F ⟨κ.val, by omega⟩)
    (h1 : ∀ κ : Fin 256, f1 κ = F ⟨256 + κ.val, by omega⟩) (h2 : ∀ κ : Fin 256, f2 κ = F ⟨512 + κ.val, by omega⟩) : JOIN f0 f1 f2 = F := by
  funext κ
  unfold JOIN
  by_cases a : κ.val < 256
  · rw [dif_pos a]; exact h0 _
  · rw [dif_neg a]
    by_cases b : κ.val < 512
    · rw [dif_pos b]; exact (h1 _).trans (congrArg F (Fin.ext (by simp; omega)))
    · rw [dif_neg b]; exact (h2 _).trans (congrArg F (Fin.ext (by simp; omega)))

/-- The three blocks of keys read as rows of the projection. -/
theorem krow0 (t : Fin cfg0.N) (κ : Fin 256) : (⟨(t.val / 32 * 32 + (t.val % 32 - 2)) * 256 + κ.val, krow_lt t 2 κ⟩ : Fin 32768) = krow t ⟨κ.val, by omega⟩ :=
  Fin.ext (by unfold krow; dsimp only; have e1 : κ.val / 256 = 0 := by omega
              have e2 : κ.val % 256 = κ.val := by omega
              rw [e1, e2]; omega)
theorem krow1 (t : Fin cfg0.N) (κ : Fin 256) : (⟨(t.val / 32 * 32 + (t.val % 32 - 1)) * 256 + κ.val, krow_lt t 1 κ⟩ : Fin 32768) = krow t ⟨256 + κ.val, by omega⟩ :=
  Fin.ext (by unfold krow; dsimp only; have e1 : (256 + κ.val) / 256 = 1 := by omega
              have e2 : (256 + κ.val) % 256 = κ.val := by omega
              rw [e1, e2]; omega)
theorem krow2 (t : Fin cfg0.N) (κ : Fin 256) : (⟨t.val * 256 + κ.val, row_lt t κ⟩ : Fin 32768) = krow t ⟨512 + κ.val, by omega⟩ :=
  Fin.ext (by unfold krow; dsimp only; have e1 : (512 + κ.val) / 256 = 2 := by omega
              have e2 : (512 + κ.val) % 256 = κ.val := by omega
              rw [e1, e2]; omega)

/-- A store of two heads writes the attention of those heads. -/
theorem core (c : Dev nD) (t : Fin cfg0.N) (g : Fin 8) (Q K0 K1 K2 V0 V1 V2 : FVec Ideal S256x128 .bf16) (B0 B1 B2 C0 C1 C2 : FVec Ideal S1x256x256 .f32)
    (hQ : ∀ (r : Fin 256) (l : Fin 128), Q (ix2 r l) = X0_0 m c t (ix2 r ⟨g.val * 128 + l.val, by omega⟩))
    (hK0 : ∀ (r : Fin 256) (l : Fin 128), K0 (ix2 r l) = X0_1 m c t (ix2 r ⟨g.val * 128 + l.val, by omega⟩))
    (hK1 : ∀ (r : Fin 256) (l : Fin 128), K1 (ix2 r l) = X0_2 m c t (ix2 r ⟨g.val * 128 + l.val, by omega⟩))
    (hK2 : ∀ (r : Fin 256) (l : Fin 128), K2 (ix2 r l) = X0_3 m c t (ix2 r ⟨g.val * 128 + l.val, by omega⟩))
    (hV0 : ∀ (r : Fin 256) (l : Fin 128), V0 (ix2 r l) = X0_4 m c t (ix2 r ⟨g.val * 128 + l.val, by omega⟩))
    (hV1 : ∀ (r : Fin 256) (l : Fin 128), V1 (ix2 r l) = X0_5 m c t (ix2 r ⟨g.val * 128 + l.val, by omega⟩))
    (hV2 : ∀ (r : Fin 256) (l : Fin 128), V2 (ix2 r l) = X0_6 m c t (ix2 r ⟨g.val * 128 + l.val, by omega⟩))
    (hB0 : ∀ r κ : Fin 256, B0 (ix3 0 r κ) = iblk m c 7 t (ix3 ⟨2 * g.val, by omega⟩ r ⟨κ.val, by omega⟩))
    (hB1 : ∀ r κ : Fin 256, B1 (ix3 0 r κ) = iblk m c 7 t (ix3 ⟨2 * g.val, by omega⟩ r ⟨256 + κ.val, by omega⟩))
    (hB2 : ∀ r κ : Fin 256, B2 (ix3 0 r κ) = iblk m c 7 t (ix3 ⟨2 * g.val, by omega⟩ r ⟨512 + κ.val, by omega⟩))
    (hC0 : ∀ r κ : Fin 256, C0 (ix3 0 r κ) = iblk m c 7 t (ix3 ⟨2 * g.val + 1, by omega⟩ r ⟨κ.val, by omega⟩))
    (hC1 : ∀ r κ : Fin 256, C1 (ix3 0 r κ) = iblk m c 7 t (ix3 ⟨2 * g.val + 1, by omega⟩ r ⟨256 + κ.val, by omega⟩))
    (hC2 : ∀ r κ : Fin 256, C2 (ix3 0 r κ) = iblk m c 7 t (ix3 ⟨2 * g.val + 1, by omega⟩ r ⟨512 + κ.val, by omega⟩))
    (r' : Fin 256) (l : Fin 128) (l' : Fin 1024) (h1 : l'.val = g.val * 128 + l.val) :
    PIECE (BitVec.ofNat 32 (grid0.coords t 2).val) Q K0 K1 K2 V0 V1 V2 B0 B1 B2 C0 C1 C2 (ix2 r' l) = SPEC m c t (ix2 r' l') := by
  have hm2 : ∀ (κ : Fin 256) (a : EReal), Scalar.select (back2 (BitVec.ofNat 32 (grid0.coords t 2).val)) a ⊥ = if 512 ≤ κ.val + 256 * (t.val % 32) then a else ⊥ := by
    intro κ a
    rw [(grid_tile t).1]
    by_cases h : 2 ≤ t.val % 32
    · rw [if_pos h, if_pos (by omega)]; rfl
    · rw [if_neg h, if_neg (by omega)]; rfl
  have hm1 : ∀ (κ : Fin 256) (a : EReal), Scalar.select (back1 (BitVec.ofNat 32 (grid0.coords t 2).val)) a ⊥ = if 512 ≤ (256 + κ.val) + 256 * (t.val % 32) then a else ⊥ := by
    intro κ a
    rw [(grid_tile t).2]
    by_cases h : 1 ≤ t.val % 32
    · rw [if_pos h, if_pos (by omega)]; rfl
    · rw [if_neg h, if_neg (by omega)]; rfl
  show _ = OUT (SCORE m c t ⟨l'.val / 64, _⟩ r') (VAL m c t ⟨l'.val / 64, _⟩ ⟨l'.val % 64, _⟩)
  by_cases hl : l.val < 64
  · rw [piece_even _ _ _ _ _ _ _ _ _ _ _ _ _ _ _ _ hl]
    have ed : ∀ (n : ℕ) (hn : n + 1024 ≤ 10752) (d : Fin 64), (⟨n + (g.val * 128 + d.val), by omega⟩ : Fin 10752) = ⟨n + (l'.val / 64 * 64 + d.val), by omega⟩ :=
      fun n hn d => Fin.ext (by dsimp only; omega)
    have el : ∀ (n : ℕ) (hn : n + 1024 ≤ 10752), (⟨n + (g.val * 128 + l.val), by omega⟩ : Fin 10752) = ⟨n + (l'.val / 64 * 64 + l'.val % 64), by omega⟩ :=
      fun n hn => Fin.ext (by dsimp only; omega)
    have eh : (⟨2 * g.val, by omega⟩ : Fin 16) = ⟨l'.val / 64, by omega⟩ := Fin.ext (by dsimp only; omega)
    congr 1
    · refine join_ext (fun κ => ?_) (fun κ => ?_) (fun κ => ?_)
      · rw [hm2 κ]
        unfold SCORE
        simp only [hQ, hK0, hB0, x0_apply, x1_apply, x7_apply, krow0, ed 4096 (by norm_num), ed 5120 (by norm_num), eh]
      · rw [hm1 κ]
        unfold SCORE
        simp only [hQ, hK1, hB1, x0_apply, x2_apply, x7_apply, krow1, ed 4096 (by norm_num), ed 5120 (by norm_num), eh]
      · unfold SCORE
        rw [if_pos (by show 512 ≤ 512 + κ.val + _; omega)]
        simp only [hQ, hK2, hB2, x0_apply, x3_apply, x7_apply, krow2 t κ, ed 4096 (by norm_num), ed 5120 (by norm_num), eh]
    · refine join_ext (fun κ => ?_) (fun κ => ?_) (fun κ => ?_)
      · unfold VAL
        simp only [hV0, x4_apply, krow0, el 6144 (by norm_num)]
      · unfold VAL
        simp only [hV1, x5_apply, krow1, el 6144 (by norm_num)]
      · unfold VAL
        simp only [hV2, x6_apply, krow2 t κ, el 6144 (by norm_num)]
  · rw [piece_odd _ _ _ _ _ _ _ _ _ _ _ _ _ _ _ _ hl]
    have ed : ∀ (n : ℕ) (hn : n + 1024 ≤ 10752) (d : Fin 64), (⟨n + (g.val * 128 + (64 + d.val)), by omega⟩ : Fin 10752) = ⟨n + (l'.val / 64 * 64 + d.val), by omega⟩ :=
      fun n hn d => Fin.ext (by dsimp only; omega)
    have el : ∀ (n : ℕ) (hn : n + 1024 ≤ 10752), (⟨n + (g.val * 128 + l.val), by omega⟩ : Fin 10752) = ⟨n + (l'.val / 64 * 64 + l'.val % 64), by omega⟩ :=
      fun n hn => Fin.ext (by dsimp only; omega)
    have eh : (⟨2 * g.val + 1, by omega⟩ : Fin 16) = ⟨l'.val / 64, by omega⟩ := Fin.ext (by dsimp only; omega)
    congr 1
    · refine join_ext (fun κ => ?_) (fun κ => ?_) (fun κ => ?_)
      · rw [hm2 κ]
        unfold SCORE
        simp only [hQ, hK0, hC0, x0_apply, x1_apply, x7_apply, krow0, ed 4096 (by norm_num), ed 5120 (by norm_num), eh]
      · rw [hm1 κ]
        unfold SCORE
        simp only [hQ, hK1, hC1, x0_apply, x2_apply, x7_apply, krow1, ed 4096 (by norm_num), ed 5120 (by norm_num), eh]
      · unfold SCORE
        rw [if_pos (by show 512 ≤ 512 + κ.val + _; omega)]
        simp only [hQ, hK2, hC2, x0_apply, x3_apply, x7_apply, krow2 t κ, ed 4096 (by norm_num), ed 5120 (by norm_num), eh]
    · refine join_ext (fun κ => ?_) (fun κ => ?_) (fun κ => ?_)
      · unfold VAL
        simp only [hV0, x4_apply, krow0, el 6144 (by norm_num)]
      · unfold VAL
        simp only [hV1, x5_apply, krow1, el 6144 (by norm_num)]
      · unfold VAL
        simp only [hV2, x6_apply, krow2 t κ, el 6144 (by norm_num)]

end Cert.KernelIdeal.Attn
-- ==== Proof.AttnPoint.lean ====
module

public import proofs.«01_k».proof.Proof.AttnCore

@[expose] public section

set_option maxRecDepth 16384

noncomputable section

open Idealize.ShloMosaic Idealize.ShloMosaic.TcCoe Idealize.SL.Sem
open Idealize.ShloMosaic.Pipeline (Dat Window)

namespace Cert.KernelIdeal.Attn
open Cert.KernelIdeal Cert.KernelIdeal.Gen Cert.KernelIdeal.Value Cert.AttnMath
variable (m : (ℓ : Loc nD τ sig) → Buf (Elt Ideal) ℓ)

/-- A load of 128 lanes of a block. -/
theorem ld_lane (X : Vec Ideal S256x1024 .bf16) (o : ℕ) (inb : ∀ a, (![0, o] : Fin 2 → ℕ) a + S256x128.size a ≤ S256x1024.size a) (g : Fin 8) (hg : o = g.val * 128)
    (r : Fin 256) (l : Fin 128) :
    View.ld X (Rect.unit (s := S256x1024) ![0, o] S256x128.size inb) (ix2 r l) = X (ix2 r ⟨g.val * 128 + l.val, by omega⟩) := by
  subst hg
  refine congrArg X (funext fun a => Fin.ext ?_)
  match a with
  | ⟨0, _⟩ => show 0 + 1 * r.val = r.val; omega
  | ⟨1, _⟩ => show g.val * 128 + 1 * l.val = g.val * 128 + l.val; omega

/-- A load of one head's bias against one block of keys. -/
theorem ld_bias (X : Vec Ideal S16x256x768 .f32) (hh o : ℕ) (inb : ∀ a, (![hh, 0, o] : Fin 3 → ℕ) a + S1x256x256.size a ≤ S16x256x768.size a)
    (H : Fin 16) (hH : hh = H.val) (k : Fin 256 → Fin 768) (hk : ∀ κ, (k κ).val = o + κ.val) (r κ : Fin 256) :
    View.ld X (Rect.unit (s := S16x256x768) ![hh, 0, o] S1x256x256.size inb) (ix3 0 r κ) = X (ix3 H r (k κ)) := by
  subst hH
  refine congrArg X (funext fun a => Fin.ext ?_)
  match a with
  | ⟨0, _⟩ => show H.val + 1 * 0 = H.val; omega
  | ⟨1, _⟩ => show 0 + 1 * r.val = r.val; omega
  | ⟨2, _⟩ => show o + 1 * κ.val = (k κ).val; rw [hk]; omega

theorem ix2_of {a b : ℕ} (x : (⟨2, ![a, b]⟩ : Shape).Idx) (i : Fin a) (j : Fin b) (hi : (x 0).val = i.val) (hj : (x 1).val = j.val) : x = ix2 i j := by
  funext k
  match k with
  | ⟨0, _⟩ => exact Fin.ext hi
  | ⟨1, _⟩ => exact Fin.ext hj

/-- What a grid point leaves of the attention, lane by lane. -/
theorem point (c : Dev nD) (t : Fin cfg0.N) (y : S256x1024.Idx) : (outsAt0 m c t).1 y = SPEC m c t y := by
  unfold outsAt0
  frame_out
  canon_tiles x h
  case piece0 =>
    refine Eq.trans (b := PIECE (BitVec.ofNat 32 (grid0.coords t 2).val) (View.ld (X0_0 m c t) (Rect.unit (s := S256x1024) ![0, 896] S256x128.size inb_S256x1024_S256x128_0_896)) (View.ld (X0_1 m c t) (Rect.unit (s := S256x1024) ![0, 896] S256x128.size inb_S256x1024_S256x128_0_896)) (View.ld (X0_2 m c t) (Rect.unit (s := S256x1024) ![0, 896] S256x128.size inb_S256x1024_S256x128_0_896)) (View.ld (X0_3 m c t) (Rect.unit (s := S256x1024) ![0, 896] S256x128.size inb_S256x1024_S256x128_0_896))
      (View.ld (View.read (Elt Ideal) (ms0_4 t).view (Memref.IsWhole.unread (hs0_4 t) (X0_4 m c t))) (Rect.unit (s := S256x1024) ![0, 896] S256x128.size inb_S256x1024_S256x128_0_896)) (View.ld (View.read (Elt Ideal) (ms0_5 t).view (Memref.IsWhole.unread (hs0_5 t) (X0_5 m c t))) (Rect.unit (s := S256x1024) ![0, 896] S256x128.size inb_S256x1024_S256x128_0_896)) (View.ld (View.read (Elt Ideal) (ms0_6 t).view (Memref.IsWhole.unread (hs0_6 t) (X0_6 m c t))) (Rect.unit (s := S256x1024) ![0, 896] S256x128.size inb_S256x1024_S256x128_0_896))
      (View.ld (iblk m c 7 t) (Rect.unit (s := S16x256x768) ![14, 0, 0] S1x256x256.size inb_S16x256x768_S1x256x256_14_0_0)) (View.ld (iblk m c 7 t) (Rect.unit (s := S16x256x768) ![14, 0, 256] S1x256x256.size inb_S16x256x768_S1x256x256_14_0_256)) (View.ld (iblk m c 7 t) (Rect.unit (s := S16x256x768) ![14, 0, 512] S1x256x256.size inb_S16x256x768_S1x256x256_14_0_512))
      (View.ld (iblk m c 7 t) (Rect.unit (s := S16x256x768) ![15, 0, 0] S1x256x256.size inb_S16x256x768_S1x256x256_15_0_0)) (View.ld (iblk m c 7 t) (Rect.unit (s := S16x256x768) ![15, 0, 256] S1x256x256.size inb_S16x256x768_S1x256x256_15_0_256)) (View.ld (iblk m c 7 t) (Rect.unit (s := S16x256x768) ![15, 0, 512] S1x256x256.size inb_S16x256x768_S1x256x256_15_0_512)) x) ?_ ?_
    · rfl
    · rw [ix2_of x (x 0) (x 1) rfl rfl, ix2_of y (x 0) ⟨7 * 128 + (x 1).val, by omega⟩ (by omega) (by show _ = 7 * 128 + _; omega)]
      exact core m c t 7 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl
  case piece1 =>
    refine Eq.trans (b := PIECE (BitVec.ofNat 32 (grid0.coords t 2).val) (View.ld (X0_0 m c t) (Rect.unit (s := S256x1024) ![0, 768] S256x128.size inb_S256x1024_S256x128_0_768)) (View.ld (X0_1 m c t) (Rect.unit (s := S256x1024) ![0, 768] S256x128.size inb_S256x1024_S256x128_0_768)) (View.ld (X0_2 m c t) (Rect.unit (s := S256x1024) ![0, 768] S256x128.size inb_S256x1024_S256x128_0_768)) (View.ld (X0_3 m c t) (Rect.unit (s := S256x1024) ![0, 768] S256x128.size inb_S256x1024_S256x128_0_768))
      (View.ld (View.read (Elt Ideal) (ms0_4 t).view (Memref.IsWhole.unread (hs0_4 t) (X0_4 m c t))) (Rect.unit (s := S256x1024) ![0, 768] S256x128.size inb_S256x1024_S256x128_0_768)) (View.ld (View.read (Elt Ideal) (ms0_5 t).view (Memref.IsWhole.unread (hs0_5 t) (X0_5 m c t))) (Rect.unit (s := S256x1024) ![0, 768] S256x128.size inb_S256x1024_S256x128_0_768)) (View.ld (View.read (Elt Ideal) (ms0_6 t).view (Memref.IsWhole.unread (hs0_6 t) (X0_6 m c t))) (Rect.unit (s := S256x1024) ![0, 768] S256x128.size inb_S256x1024_S256x128_0_768))
      (View.ld (iblk m c 7 t) (Rect.unit (s := S16x256x768) ![12, 0, 0] S1x256x256.size inb_S16x256x768_S1x256x256_12_0_0)) (View.ld (iblk m c 7 t) (Rect.unit (s := S16x256x768) ![12, 0, 256] S1x256x256.size inb_S16x256x768_S1x256x256_12_0_256)) (View.ld (iblk m c 7 t) (Rect.unit (s := S16x256x768) ![12, 0, 512] S1x256x256.size inb_S16x256x768_S1x256x256_12_0_512))
      (View.ld (iblk m c 7 t) (Rect.unit (s := S16x256x768) ![13, 0, 0] S1x256x256.size inb_S16x256x768_S1x256x256_13_0_0)) (View.ld (iblk m c 7 t) (Rect.unit (s := S16x256x768) ![13, 0, 256] S1x256x256.size inb_S16x256x768_S1x256x256_13_0_256)) (View.ld (iblk m c 7 t) (Rect.unit (s := S16x256x768) ![13, 0, 512] S1x256x256.size inb_S16x256x768_S1x256x256_13_0_512)) x) ?_ ?_
    · rfl
    · rw [ix2_of x (x 0) (x 1) rfl rfl, ix2_of y (x 0) ⟨6 * 128 + (x 1).val, by omega⟩ (by omega) (by show _ = 6 * 128 + _; omega)]
      exact core m c t 6 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl
  case piece2 =>
    refine Eq.trans (b := PIECE (BitVec.ofNat 32 (grid0.coords t 2).val) (View.ld (X0_0 m c t) (Rect.unit (s := S256x1024) ![0, 640] S256x128.size inb_S256x1024_S256x128_0_640)) (View.ld (X0_1 m c t) (Rect.unit (s := S256x1024) ![0, 640] S256x128.size inb_S256x1024_S256x128_0_640)) (View.ld (X0_2 m c t) (Rect.unit (s := S256x1024) ![0, 640] S256x128.size inb_S256x1024_S256x128_0_640)) (View.ld (X0_3 m c t) (Rect.unit (s := S256x1024) ![0, 640] S256x128.size inb_S256x1024_S256x128_0_640))
      (View.ld (View.read (Elt Ideal) (ms0_4 t).view (Memref.IsWhole.unread (hs0_4 t) (X0_4 m c t))) (Rect.unit (s := S256x1024) ![0, 640] S256x128.size inb_S256x1024_S256x128_0_640)) (View.ld (View.read (Elt Ideal) (ms0_5 t).view (Memref.IsWhole.unread (hs0_5 t) (X0_5 m c t))) (Rect.unit (s := S256x1024) ![0, 640] S256x128.size inb_S256x1024_S256x128_0_640)) (View.ld (View.read (Elt Ideal) (ms0_6 t).view (Memref.IsWhole.unread (hs0_6 t) (X0_6 m c t))) (Rect.unit (s := S256x1024) ![0, 640] S256x128.size inb_S256x1024_S256x128_0_640))
      (View.ld (iblk m c 7 t) (Rect.unit (s := S16x256x768) ![10, 0, 0] S1x256x256.size inb_S16x256x768_S1x256x256_10_0_0)) (View.ld (iblk m c 7 t) (Rect.unit (s := S16x256x768) ![10, 0, 256] S1x256x256.size inb_S16x256x768_S1x256x256_10_0_256)) (View.ld (iblk m c 7 t) (Rect.unit (s := S16x256x768) ![10, 0, 512] S1x256x256.size inb_S16x256x768_S1x256x256_10_0_512))
      (View.ld (iblk m c 7 t) (Rect.unit (s := S16x256x768) ![11, 0, 0] S1x256x256.size inb_S16x256x768_S1x256x256_11_0_0)) (View.ld (iblk m c 7 t) (Rect.unit (s := S16x256x768) ![11, 0, 256] S1x256x256.size inb_S16x256x768_S1x256x256_11_0_256)) (View.ld (iblk m c 7 t) (Rect.unit (s := S16x256x768) ![11, 0, 512] S1x256x256.size inb_S16x256x768_S1x256x256_11_0_512)) x) ?_ ?_
    · rfl
    · rw [ix2_of x (x 0) (x 1) rfl rfl, ix2_of y (x 0) ⟨5 * 128 + (x 1).val, by omega⟩ (by omega) (by show _ = 5 * 128 + _; omega)]
      exact core m c t 5 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl
  case piece3 =>
    refine Eq.trans (b := PIECE (BitVec.ofNat 32 (grid0.coords t 2).val) (View.ld (X0_0 m c t) (Rect.unit (s := S256x1024) ![0, 512] S256x128.size inb_S256x1024_S256x128_0_512)) (View.ld (X0_1 m c t) (Rect.unit (s := S256x1024) ![0, 512] S256x128.size inb_S256x1024_S256x128_0_512)) (View.ld (X0_2 m c t) (Rect.unit (s := S256x1024) ![0, 512] S256x128.size inb_S256x1024_S256x128_0_512)) (View.ld (X0_3 m c t) (Rect.unit (s := S256x1024) ![0, 512] S256x128.size inb_S256x1024_S256x128_0_512))
      (View.ld (View.read (Elt Ideal) (ms0_4 t).view (Memref.IsWhole.unread (hs0_4 t) (X0_4 m c t))) (Rect.unit (s := S256x1024) ![0, 512] S256x128.size inb_S256x1024_S256x128_0_512)) (View.ld (View.read (Elt Ideal) (ms0_5 t).view (Memref.IsWhole.unread (hs0_5 t) (X0_5 m c t))) (Rect.unit (s := S256x1024) ![0, 512] S256x128.size inb_S256x1024_S256x128_0_512)) (View.ld (View.read (Elt Ideal) (ms0_6 t).view (Memref.IsWhole.unread (hs0_6 t) (X0_6 m c t))) (Rect.unit (s := S256x1024) ![0, 512] S256x128.size inb_S256x1024_S256x128_0_512))
      (View.ld (iblk m c 7 t) (Rect.unit (s := S16x256x768) ![8, 0, 0] S1x256x256.size inb_S16x256x768_S1x256x256_8_0_0)) (View.ld (iblk m c 7 t) (Rect.unit (s := S16x256x768) ![8, 0, 256] S1x256x256.size inb_S16x256x768_S1x256x256_8_0_256)) (View.ld (iblk m c 7 t) (Rect.unit (s := S16x256x768) ![8, 0, 512] S1x256x256.size inb_S16x256x768_S1x256x256_8_0_512))
      (View.ld (iblk m c 7 t) (Rect.unit (s := S16x256x768) ![9, 0, 0] S1x256x256.size inb_S16x256x768_S1x256x256_9_0_0)) (View.ld (iblk m c 7 t) (Rect.unit (s := S16x256x768) ![9, 0, 256] S1x256x256.size inb_S16x256x768_S1x256x256_9_0_256)) (View.ld (iblk m c 7 t) (Rect.unit (s := S16x256x768) ![9, 0, 512] S1x256x256.size inb_S16x256x768_S1x256x256_9_0_512)) x) ?_ ?_
    · rfl
    · rw [ix2_of x (x 0) (x 1) rfl rfl, ix2_of y (x 0) ⟨4 * 128 + (x 1).val, by omega⟩ (by omega) (by show _ = 4 * 128 + _; omega)]
      exact core m c t 4 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl
  case piece4 =>
    refine Eq.trans (b := PIECE (BitVec.ofNat 32 (grid0.coords t 2).val) (View.ld (X0_0 m c t) (Rect.unit (s := S256x1024) ![0, 384] S256x128.size inb_S256x1024_S256x128_0_384)) (View.ld (X0_1 m c t) (Rect.unit (s := S256x1024) ![0, 384] S256x128.size inb_S256x1024_S256x128_0_384)) (View.ld (X0_2 m c t) (Rect.unit (s := S256x1024) ![0, 384] S256x128.size inb_S256x1024_S256x128_0_384)) (View.ld (X0_3 m c t) (Rect.unit (s := S256x1024) ![0, 384] S256x128.size inb_S256x1024_S256x128_0_384))
      (View.ld (View.read (Elt Ideal) (ms0_4 t).view (Memref.IsWhole.unread (hs0_4 t) (X0_4 m c t))) (Rect.unit (s := S256x1024) ![0, 384] S256x128.size inb_S256x1024_S256x128_0_384)) (View.ld (View.read (Elt Ideal) (ms0_5 t).view (Memref.IsWhole.unread (hs0_5 t) (X0_5 m c t))) (Rect.unit (s := S256x1024) ![0, 384] S256x128.size inb_S256x1024_S256x128_0_384)) (View.ld (View.read (Elt Ideal) (ms0_6 t).view (Memref.IsWhole.unread (hs0_6 t) (X0_6 m c t))) (Rect.unit (s := S256x1024) ![0, 384] S256x128.size inb_S256x1024_S256x128_0_384))
      (View.ld (iblk m c 7 t) (Rect.unit (s := S16x256x768) ![6, 0, 0] S1x256x256.size inb_S16x256x768_S1x256x256_6_0_0)) (View.ld (iblk m c 7 t) (Rect.unit (s := S16x256x768) ![6, 0, 256] S1x256x256.size inb_S16x256x768_S1x256x256_6_0_256)) (View.ld (iblk m c 7 t) (Rect.unit (s := S16x256x768) ![6, 0, 512] S1x256x256.size inb_S16x256x768_S1x256x256_6_0_512))
      (View.ld (iblk m c 7 t) (Rect.unit (s := S16x256x768) ![7, 0, 0] S1x256x256.size inb_S16x256x768_S1x256x256_7_0_0)) (View.ld (iblk m c 7 t) (Rect.unit (s := S16x256x768) ![7, 0, 256] S1x256x256.size inb_S16x256x768_S1x256x256_7_0_256)) (View.ld (iblk m c 7 t) (Rect.unit (s := S16x256x768) ![7, 0, 512] S1x256x256.size inb_S16x256x768_S1x256x256_7_0_512)) x) ?_ ?_
    · rfl
    · rw [ix2_of x (x 0) (x 1) rfl rfl, ix2_of y (x 0) ⟨3 * 128 + (x 1).val, by omega⟩ (by omega) (by show _ = 3 * 128 + _; omega)]
      exact core m c t 3 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl
  case piece5 =>
    refine Eq.trans (b := PIECE (BitVec.ofNat 32 (grid0.coords t 2).val) (View.ld (X0_0 m c t) (Rect.unit (s := S256x1024) ![0, 256] S256x128.size inb_S256x1024_S256x128_0_256)) (View.ld (X0_1 m c t) (Rect.unit (s := S256x1024) ![0, 256] S256x128.size inb_S256x1024_S256x128_0_256)) (View.ld (X0_2 m c t) (Rect.unit (s := S256x1024) ![0, 256] S256x128.size inb_S256x1024_S256x128_0_256)) (View.ld (X0_3 m c t) (Rect.unit (s := S256x1024) ![0, 256] S256x128.size inb_S256x1024_S256x128_0_256))
      (View.ld (View.read (Elt Ideal) (ms0_4 t).view (Memref.IsWhole.unread (hs0_4 t) (X0_4 m c t))) (Rect.unit (s := S256x1024) ![0, 256] S256x128.size inb_S256x1024_S256x128_0_256)) (View.ld (View.read (Elt Ideal) (ms0_5 t).view (Memref.IsWhole.unread (hs0_5 t) (X0_5 m c t))) (Rect.unit (s := S256x1024) ![0, 256] S256x128.size inb_S256x1024_S256x128_0_256)) (View.ld (View.read (Elt Ideal) (ms0_6 t).view (Memref.IsWhole.unread (hs0_6 t) (X0_6 m c t))) (Rect.unit (s := S256x1024) ![0, 256] S256x128.size inb_S256x1024_S256x128_0_256))
      (View.ld (iblk m c 7 t) (Rect.unit (s := S16x256x768) ![4, 0, 0] S1x256x256.size inb_S16x256x768_S1x256x256_4_0_0)) (View.ld (iblk m c 7 t) (Rect.unit (s := S16x256x768) ![4, 0, 256] S1x256x256.size inb_S16x256x768_S1x256x256_4_0_256)) (View.ld (iblk m c 7 t) (Rect.unit (s := S16x256x768) ![4, 0, 512] S1x256x256.size inb_S16x256x768_S1x256x256_4_0_512))
      (View.ld (iblk m c 7 t) (Rect.unit (s := S16x256x768) ![5, 0, 0] S1x256x256.size inb_S16x256x768_S1x256x256_5_0_0)) (View.ld (iblk m c 7 t) (Rect.unit (s := S16x256x768) ![5, 0, 256] S1x256x256.size inb_S16x256x768_S1x256x256_5_0_256)) (View.ld (iblk m c 7 t) (Rect.unit (s := S16x256x768) ![5, 0, 512] S1x256x256.size inb_S16x256x768_S1x256x256_5_0_512)) x) ?_ ?_
    · rfl
    · rw [ix2_of x (x 0) (x 1) rfl rfl, ix2_of y (x 0) ⟨2 * 128 + (x 1).val, by omega⟩ (by omega) (by show _ = 2 * 128 + _; omega)]
      exact core m c t 2 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl
  case piece6 =>
    refine Eq.trans (b := PIECE (BitVec.ofNat 32 (grid0.coords t 2).val) (View.ld (X0_0 m c t) (Rect.unit (s := S256x1024) ![0, 128] S256x128.size inb_S256x1024_S256x128_0_128)) (View.ld (X0_1 m c t) (Rect.unit (s := S256x1024) ![0, 128] S256x128.size inb_S256x1024_S256x128_0_128)) (View.ld (X0_2 m c t) (Rect.unit (s := S256x1024) ![0, 128] S256x128.size inb_S256x1024_S256x128_0_128)) (View.ld (X0_3 m c t) (Rect.unit (s := S256x1024) ![0, 128] S256x128.size inb_S256x1024_S256x128_0_128))
      (View.ld (View.read (Elt Ideal) (ms0_4 t).view (Memref.IsWhole.unread (hs0_4 t) (X0_4 m c t))) (Rect.unit (s := S256x1024) ![0, 128] S256x128.size inb_S256x1024_S256x128_0_128)) (View.ld (View.read (Elt Ideal) (ms0_5 t).view (Memref.IsWhole.unread (hs0_5 t) (X0_5 m c t))) (Rect.unit (s := S256x1024) ![0, 128] S256x128.size inb_S256x1024_S256x128_0_128)) (View.ld (View.read (Elt Ideal) (ms0_6 t).view (Memref.IsWhole.unread (hs0_6 t) (X0_6 m c t))) (Rect.unit (s := S256x1024) ![0, 128] S256x128.size inb_S256x1024_S256x128_0_128))
      (View.ld (iblk m c 7 t) (Rect.unit (s := S16x256x768) ![2, 0, 0] S1x256x256.size inb_S16x256x768_S1x256x256_2_0_0)) (View.ld (iblk m c 7 t) (Rect.unit (s := S16x256x768) ![2, 0, 256] S1x256x256.size inb_S16x256x768_S1x256x256_2_0_256)) (View.ld (iblk m c 7 t) (Rect.unit (s := S16x256x768) ![2, 0, 512] S1x256x256.size inb_S16x256x768_S1x256x256_2_0_512))
      (View.ld (iblk m c 7 t) (Rect.unit (s := S16x256x768) ![3, 0, 0] S1x256x256.size inb_S16x256x768_S1x256x256_3_0_0)) (View.ld (iblk m c 7 t) (Rect.unit (s := S16x256x768) ![3, 0, 256] S1x256x256.size inb_S16x256x768_S1x256x256_3_0_256)) (View.ld (iblk m c 7 t) (Rect.unit (s := S16x256x768) ![3, 0, 512] S1x256x256.size inb_S16x256x768_S1x256x256_3_0_512)) x) ?_ ?_
    · rfl
    · rw [ix2_of x (x 0) (x 1) rfl rfl, ix2_of y (x 0) ⟨1 * 128 + (x 1).val, by omega⟩ (by omega) (by show _ = 1 * 128 + _; omega)]
      exact core m c t 1 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl
  case piece7 =>
    refine Eq.trans (b := PIECE (BitVec.ofNat 32 (grid0.coords t 2).val) (View.ld (X0_0 m c t) (Rect.unit (s := S256x1024) ![0, 0] S256x128.size inb_S256x1024_S256x128_0_0)) (View.ld (X0_1 m c t) (Rect.unit (s := S256x1024) ![0, 0] S256x128.size inb_S256x1024_S256x128_0_0)) (View.ld (X0_2 m c t) (Rect.unit (s := S256x1024) ![0, 0] S256x128.size inb_S256x1024_S256x128_0_0)) (View.ld (X0_3 m c t) (Rect.unit (s := S256x1024) ![0, 0] S256x128.size inb_S256x1024_S256x128_0_0))
      (View.ld (View.read (Elt Ideal) (ms0_4 t).view (Memref.IsWhole.unread (hs0_4 t) (X0_4 m c t))) (Rect.unit (s := S256x1024) ![0, 0] S256x128.size inb_S256x1024_S256x128_0_0)) (View.ld (View.read (Elt Ideal) (ms0_5 t).view (Memref.IsWhole.unread (hs0_5 t) (X0_5 m c t))) (Rect.unit (s := S256x1024) ![0, 0] S256x128.size inb_S256x1024_S256x128_0_0)) (View.ld (View.read (Elt Ideal) (ms0_6 t).view (Memref.IsWhole.unread (hs0_6 t) (X0_6 m c t))) (Rect.unit (s := S256x1024) ![0, 0] S256x128.size inb_S256x1024_S256x128_0_0))
      (View.ld (iblk m c 7 t) (Rect.unit (s := S16x256x768) ![0, 0, 0] S1x256x256.size inb_S16x256x768_S1x256x256_0_0_0)) (View.ld (iblk m c 7 t) (Rect.unit (s := S16x256x768) ![0, 0, 256] S1x256x256.size inb_S16x256x768_S1x256x256_0_0_256)) (View.ld (iblk m c 7 t) (Rect.unit (s := S16x256x768) ![0, 0, 512] S1x256x256.size inb_S16x256x768_S1x256x256_0_0_512))
      (View.ld (iblk m c 7 t) (Rect.unit (s := S16x256x768) ![1, 0, 0] S1x256x256.size inb_S16x256x768_S1x256x256_1_0_0)) (View.ld (iblk m c 7 t) (Rect.unit (s := S16x256x768) ![1, 0, 256] S1x256x256.size inb_S16x256x768_S1x256x256_1_0_256)) (View.ld (iblk m c 7 t) (Rect.unit (s := S16x256x768) ![1, 0, 512] S1x256x256.size inb_S16x256x768_S1x256x256_1_0_512)) x) ?_ ?_
    · rfl
    · rw [ix2_of x (x 0) (x 1) rfl rfl, ix2_of y (x 0) ⟨0 * 128 + (x 1).val, by omega⟩ (by omega) (by show _ = 0 * 128 + _; omega)]
      exact core m c t 0 _ _ _ _ _ _ _ _ _ _ _ _ _
        (ld_lane _ _ _ _ (by norm_num)) (ld_lane _ _ _ _ (by norm_num)) (ld_lane _ _ _ _ (by norm_num)) (ld_lane _ _ _ _ (by norm_num))
        (by rw [Memref.IsWhole.read_unread]; exact ld_lane _ _ _ _ (by norm_num)) (by rw [Memref.IsWhole.read_unread]; exact ld_lane _ _ _ _ (by norm_num))
        (by rw [Memref.IsWhole.read_unread]; exact ld_lane _ _ _ _ (by norm_num))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        (ld_bias _ _ _ _ _ (by norm_num) (fun κ => ⟨κ.val, by omega⟩) (fun κ => (Nat.zero_add _).symm)) (ld_bias _ _ _ _ _ (by norm_num) (fun κ => ⟨256 + κ.val, by omega⟩) (fun κ => rfl)) (ld_bias _ _ _ _ _ (by norm_num) (fun κ => ⟨512 + κ.val, by omega⟩) (fun κ => rfl))
        _ _ _ rfl

end Cert.KernelIdeal.Attn
-- ==== Proof.AttnHost.lean ====
module

public import proofs.«01_k».proof.Defs
public import proofs.«01_k».proof.Proof.Gen.KernelIdeal.Value
public import proofs.«01_k».proof.Proof.AttnPair
public import proofs.«01_k».proof.Proof.AttnBias
public import proofs.«01_k».proof.Proof.AttnPoint
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat Window)

namespace Cert.KernelIdeal.Attn
open Cert.KernelIdeal Cert.KernelIdeal.Gen Cert.KernelIdeal.Value Cert.AttnMath

variable (m : (ℓ : Loc nD τ sig) → Buf (Elt Ideal) ℓ)

/-- The host operations before the region leave the bias table in its array. -/
theorem BT_eq (c : Dev nD) : BT m c = table (tiles (skewed (padded (rows (m ((c : Thread nD τ).loc main_arg1)))))) := by
  show V m c main_v65 = _
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.ternary, StableHlo.TRef.toBuf, StableHlo.TRef.ofBuf, cast_eq]
  after_results <;> rfl

/-- And the riding weight, as rows. -/
theorem WD_eq (c : Dev nD) : WD m c = shapeCast S65536x2048 (shapeCast S32x2048x2048 (m ((c : Thread nD τ).loc main_arg2) : FVec Ideal S1x32x2048x2048 .f32)
    shapeCasts_S1x32x2048x2048_S32x2048x2048) shapeCasts_S32x2048x2048_S65536x2048 := by
  show V m c main_v67 = _
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.ternary, StableHlo.TRef.toBuf, StableHlo.TRef.ofBuf, cast_eq]
  after_results <;> rfl

end Cert.KernelIdeal.Attn
-- ==== Proof.AttnRefA.lean ====
module

public import proofs.«01_k».proof.Defs
public import proofs.«01_k».proof.Proof.Gen.ReferenceIdeal.Read
public import proofs.«01_k».proof.Proof.AttnMath
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.ReferenceIdeal.Attn
open Cert.ReferenceIdeal Cert.ReferenceIdeal.Read Cert.AttnMath

/-- The bias rows picked by an index table. -/
theorem gather_bias (x : FVec Ideal S16x320 .f32) (ix : IVec S64x576x1 32) (h : Fin 16) (q : Fin 64) (j : Fin 576) :
    Host.gather gather_S16x320_S64x576x1_S16x64x576_0_1_n_n_1_2_161 x ix (ix3 h q j)
      = x (ix2 h ⟨min (ix (ix3 q j 0)).toInt.toNat 319, by omega⟩) := by
  unfold Host.gather
  refine congrArg x (funext fun a => Fin.ext ?_)
  match a with
  | ⟨0, _⟩ => exact (Nat.zero_add _).trans rfl
  | ⟨1, _⟩ =>
    have hs : gather_S16x320_S64x576x1_S16x64x576_0_1_n_n_1_2_161.siIdx (ix3 h q j) ⟨0, by decide⟩ = ix3 q j 0 := by
      funext b
      match b with
      | ⟨0, _⟩ => rfl
      | ⟨1, _⟩ => rfl
      | ⟨2, _⟩ => rfl
    show min (ix (gather_S16x320_S64x576x1_S16x64x576_0_1_n_n_1_2_161.siIdx (ix3 h q j) ⟨0, by decide⟩)).toInt.toNat 319 + 0 + 0 = _
    rw [hs]; rfl

/-- The queries of a chunk. -/
theorem gather_q (x : FVec Ideal S4x8192x16x64 .f32) (ix : IVec S128x4 32) (c : Fin 128) (b : Fin 4) (q : Fin 64) (h : Fin 16) (d : Fin 64) :
    Host.gather gather_S4x8192x16x64_S128x4_S128x4x64x16x64_1234_n_n_n_0123_1_4641664 x ix (ix5 c b q h d)
      = x (ix4 b ⟨min (ix (ix2 c 1)).toInt.toNat 8128 + q.val, by omega⟩ h d) := by
  unfold Host.gather
  refine congrArg x (funext fun a => Fin.ext ?_)
  match a with
  | ⟨0, _⟩ => show min _ 0 + 0 + b.val = b.val; rw [Nat.min_zero]; omega
  | ⟨1, _⟩ =>
    have hs : gather_S4x8192x16x64_S128x4_S128x4x64x16x64_1234_n_n_n_0123_1_4641664.siIdx (ix5 c b q h d) ⟨1, by decide⟩ = ix2 c 1 := by
      funext b
      match b with
      | ⟨0, _⟩ => rfl
      | ⟨1, _⟩ => rfl
    show min (ix (gather_S4x8192x16x64_S128x4_S128x4x64x16x64_1234_n_n_n_0123_1_4641664.siIdx (ix5 c b q h d) ⟨1, by decide⟩)).toInt.toNat 8128 + 0 + q.val = _
    rw [hs]; rfl
  | ⟨2, _⟩ => show min _ 0 + 0 + h.val = h.val; rw [Nat.min_zero]; omega
  | ⟨3, _⟩ => show min _ 0 + 0 + d.val = d.val; rw [Nat.min_zero]; omega

/-- The keys, or values, of a chunk's band. -/
theorem gather_k (x : FVec Ideal S4x8704x16x64 .f32) (ix : IVec S128x4 32) (c : Fin 128) (b : Fin 4) (j : Fin 576) (h : Fin 16) (d : Fin 64) :
    Host.gather gather_S4x8704x16x64_S128x4_S128x4x576x16x64_1234_n_n_n_0123_1_45761664 x ix (ix5 c b j h d)
      = x (ix4 b ⟨min (ix (ix2 c 1)).toInt.toNat 8128 + j.val, by omega⟩ h d) := by
  unfold Host.gather
  refine congrArg x (funext fun a => Fin.ext ?_)
  match a with
  | ⟨0, _⟩ => show min _ 0 + 0 + b.val = b.val; rw [Nat.min_zero]; omega
  | ⟨1, _⟩ =>
    have hs : gather_S4x8704x16x64_S128x4_S128x4x576x16x64_1234_n_n_n_0123_1_45761664.siIdx (ix5 c b j h d) ⟨1, by decide⟩ = ix2 c 1 := by
      funext b
      match b with
      | ⟨0, _⟩ => rfl
      | ⟨1, _⟩ => rfl
    show min (ix (gather_S4x8704x16x64_S128x4_S128x4x576x16x64_1234_n_n_n_0123_1_45761664.siIdx (ix5 c b j h d) ⟨1, by decide⟩)).toInt.toNat 8128 + 0 + j.val = _
    rw [hs]; rfl
  | ⟨2, _⟩ => show min _ 0 + 0 + h.val = h.val; rw [Nat.min_zero]; omega
  | ⟨3, _⟩ => show min _ 0 + 0 + d.val = d.val; rw [Nat.min_zero]; omega

theorem q_at (P : FVec Ideal S32768x10752 .bf16) (b : Fin 4) (s : Fin 8192) (h : Fin 16) (d : Fin 64) :
    val_main_v5 (F := Ideal) P (ix4 b s h d) = P (ix2 ⟨b.val * 8192 + s.val, by omega⟩ ⟨4096 + (h.val * 64 + d.val), by omega⟩) := by
  pointwise [val_main_v5, val_main_v4, val_main_v1, val_main_v0]
  blk_ext

theorem k_at (P : FVec Ideal S32768x10752 .bf16) (b : Fin 4) (s : Fin 8192) (h : Fin 16) (d : Fin 64) :
    val_main_v7 (F := Ideal) P (ix4 b s h d) = P (ix2 ⟨b.val * 8192 + s.val, by omega⟩ ⟨5120 + (h.val * 64 + d.val), by omega⟩) := by
  pointwise [val_main_v7, val_main_v6, val_main_v2, val_main_v0]
  blk_ext

theorem v_at (P : FVec Ideal S32768x10752 .bf16) (b : Fin 4) (s : Fin 8192) (h : Fin 16) (d : Fin 64) :
    val_main_v9 (F := Ideal) P (ix4 b s h d) = P (ix2 ⟨b.val * 8192 + s.val, by omega⟩ ⟨6144 + (h.val * 64 + d.val), by omega⟩) := by
  pointwise [val_main_v9, val_main_v8, val_main_v3, val_main_v0]
  blk_ext

theorem bias_at (x : FVec Ideal S1x16x320 .f32) (h : Fin 16) (k : Fin 320) : val_main_v10 (F := Ideal) x (ix2 h k) = x (ix3 0 h k) := by
  pointwise [val_main_v10]

theorem pad_k (P : FVec Ideal S32768x10752 .bf16) (b : Fin 4) (s : Fin 8704) (h : Fin 16) (d : Fin 64) :
    val_main_v11 (F := Ideal) P (ix4 b s h d) = if hs : 512 ≤ s.val then val_main_v7 (F := Ideal) P (ix4 b ⟨s.val - 512, by omega⟩ h d) else 0 := by
  generalize hX : val_main_v7 (F := Ideal) P = X
  unfold val_main_v11
  rw [hX]
  pointwise [val_main_call0_v0, val_main_c]
  have hz : (FloatOps.sitofp .f32 (0#32 : BitVec 32) : Ideal .f32) = (0 : EReal) := by
    show (((0#32 : BitVec 32).toInt : ℝ) : EReal) = 0
    simp
  by_cases hs : 512 ≤ s.val
  · rw [dif_pos ⟨hs, by omega⟩, dif_pos hs]
  · rw [dif_neg (fun h => hs h.1), dif_neg hs, hz]

theorem pad_v (P : FVec Ideal S32768x10752 .bf16) (b : Fin 4) (s : Fin 8704) (h : Fin 16) (d : Fin 64) :
    val_main_v12 (F := Ideal) P (ix4 b s h d) = if hs : 512 ≤ s.val then val_main_v9 (F := Ideal) P (ix4 b ⟨s.val - 512, by omega⟩ h d) else 0 := by
  generalize hX : val_main_v9 (F := Ideal) P = X
  unfold val_main_v12
  rw [hX]
  pointwise [val_main_call1_v0, val_main_c_0]
  have hz : (FloatOps.sitofp .f32 (0#32 : BitVec 32) : Ideal .f32) = (0 : EReal) := by
    show (((0#32 : BitVec 32).toInt : ℝ) : EReal) = 0
    simp
  by_cases hs : 512 ≤ s.val
  · rw [dif_pos ⟨hs, by omega⟩, dif_pos hs]
  · rw [dif_neg (fun h => hs h.1), dif_neg hs, hz]

end Cert.ReferenceIdeal.Attn
-- ==== Proof.AttnRefB.lean ====
module

public import proofs.«01_k».proof.Defs
public import proofs.«01_k».proof.Proof.Gen.ReferenceIdeal.Read
public import proofs.«01_k».proof.Proof.AttnMath
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.ReferenceIdeal.Attn
open Cert.ReferenceIdeal Cert.ReferenceIdeal.Read Cert.AttnMath

/-- A chunk's first token, as the slices' start. -/
theorem start1 (c : Fin 128) : (val_main_v46 (F := Ideal) (ix2 c 1)).toInt.toNat = 64 * c.val := by
  pointwise [val_main_v46, val_main_v43, val_main_v41, val_main_v38, val_main_v40, val_main_v36, val_main_v34, val_main_v35, val_main_c_6, val_main_v37, val_main_c_7, val_main_v39, val_main_c_8, val_main_v42, val_main_v44, val_main_v45]
  revert c
  decide +kernel

theorem start2 (c : Fin 128) : (val_main_v57 (F := Ideal) (ix2 c 1)).toInt.toNat = 64 * c.val := by
  pointwise [val_main_v57, val_main_v54, val_main_v52, val_main_v49, val_main_v51, val_main_v48, val_main_v50, val_main_c_12, val_main_c_13, val_main_v36, val_main_v34, val_main_v35, val_main_c_6, val_main_v53, val_main_v55, val_main_v56]
  revert c
  decide +kernel

theorem start3 (c : Fin 128) : (val_main_v68 (F := Ideal) (ix2 c 1)).toInt.toNat = 64 * c.val := by
  pointwise [val_main_v68, val_main_v65, val_main_v63, val_main_v60, val_main_v62, val_main_v59, val_main_v61, val_main_c_17, val_main_c_18, val_main_v36, val_main_v34, val_main_v35, val_main_c_6, val_main_v64, val_main_v66, val_main_v67]
  revert c
  decide +kernel

/-- The bias row's index, by the distance alone. -/
theorem tab_dist (n : Fin 640) (h0 : 1 ≤ n.val) : (Scalar.select (IntOp.cmpi CmpIPredicate.slt (IntOp.addi (IntOp.minsi (IntOp.subi (BitVec.ofNat 32 n.val) 64#32) 256#32) 63#32) 0#32)
    (IntOp.addi (IntOp.addi (IntOp.minsi (IntOp.subi (BitVec.ofNat 32 n.val) 64#32) 256#32) 63#32) 320#32)
    (IntOp.addi (IntOp.minsi (IntOp.subi (BitVec.ofNat 32 n.val) 64#32) 256#32) 63#32)).toInt.toNat = min (n.val - 1) 319 := by
  revert n
  decide +kernel

/-- Whether a place of the padded keys holds a key. -/
theorem valid_place (n : Fin 8768) : IntOp.cmpi CmpIPredicate.sge (BitVec.ofNat 32 n.val) 512#32 = if 512 ≤ n.val then 1#1 else 0#1 := by
  revert n
  decide +kernel

/-- The place in the bias row of the distance between a query and a key of the band. -/
theorem tab (q : Fin 64) (j : Fin 576) : (val_main_v31 (F := Ideal) (ix3 q j 0)).toInt.toNat = min (q.val + 575 - j.val) 319 := by
  pointwise [val_main_v31, val_main_v30, val_main_v27, val_main_v29, val_main_v25, val_main_v26, val_main_v28, val_main_v24, val_main_v23, val_main_v21, val_main_v22, val_main_v20, val_main_v19, val_main_v18, val_main_v17, val_main_v16, val_main_v15, val_main_v14, val_main_v13, val_main_c_1, val_main_c_2, val_main_c_3, val_main_c_4, val_main_c_5]
  have e : IntOp.subi (IntOp.addi (BitVec.ofNat 32 q.val) 512#32) (BitVec.ofNat 32 j.val) = IntOp.subi (BitVec.ofNat 32 (q.val + 576 - j.val)) 64#32 := by
    have hq := q.isLt
    have hj := j.isLt
    refine BitVec.eq_of_toNat_eq ?_
    simp only [IntOp.subi, IntOp.addi, BitVec.toNat_sub, BitVec.toNat_add, BitVec.toNat_ofNat]
    omega
  rw [e]
  have hn : q.val + 575 - j.val = q.val + 576 - j.val - 1 := by omega
  rw [hn]
  exact tab_dist ⟨q.val + 576 - j.val, by omega⟩ (by dsimp only; omega)

theorem valid (c : Fin 128) (j : Fin 576) : val_main_v83 (F := Ideal) (ix2 c j) = if 512 ≤ j.val + 64 * c.val then 1#1 else 0#1 := by
  pointwise [val_main_v83, val_main_v82, val_main_v81, val_main_v80, val_main_v79, val_main_v78, val_main_v77, val_main_v36, val_main_v34, val_main_v35, val_main_c_6, val_main_v33, val_main_c_22]
  have e : IntOp.addi (BitVec.ofNat 32 j.val) (IntOp.muli (BitVec.ofNat 32 c.val) 64#32) = BitVec.ofNat 32 (j.val + 64 * c.val) := by
    refine BitVec.eq_of_toNat_eq ?_
    simp only [IntOp.muli, IntOp.addi, BitVec.toNat_mul, BitVec.toNat_add, BitVec.toNat_ofNat]
    omega
  rw [e]
  exact valid_place ⟨j.val + 64 * c.val, by omega⟩

theorem eighth32 : Ideal.ofBits FTy.f32 0x3E000000#32 = ((1 / 8 : ℝ) : EReal) := by
  simp [Ideal.ofBits, Ideal.ieee, -EReal.coe_mul]; norm_num

theorem neg_inf32 : Ideal.ofBits FTy.f32 0xFF800000#32 = ⊥ := by
  simp [Ideal.ofBits, Ideal.ieee]

end Cert.ReferenceIdeal.Attn
-- ==== Proof.AttnRef.lean ====
module

public import proofs.«01_k».proof.Defs
public import proofs.«01_k».proof.Proof.Gen.ReferenceIdeal.Read
public import proofs.«01_k».proof.Proof.AttnMath
public import proofs.«01_k».proof.Proof.AttnRefA
public import proofs.«01_k».proof.Proof.AttnRefB
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.ReferenceIdeal.Attn
open Cert.ReferenceIdeal Cert.ReferenceIdeal.Read Cert.AttnMath

/-- The queries' rows in a chunk. -/
theorem qc_at (P : FVec Ideal S32768x10752 .bf16) (c : Fin 128) (b : Fin 4) (q : Fin 64) (h : Fin 16) (d : Fin 64) :
    val_main_v47 (F := Ideal) P (ix5 c b q h d) = P (ix2 ⟨b.val * 8192 + (64 * c.val + q.val), by omega⟩ ⟨4096 + (h.val * 64 + d.val), by omega⟩) := by
  unfold val_main_v47
  rw [gather_q]
  simp only [start1]
  refine (congrArg (val_main_v5 (F := Ideal) P) (?_ : _ = ix4 b (⟨64 * c.val + q.val, by omega⟩ : Fin 8192) h d)).trans (q_at P b _ h d)
  exact congrArg (fun z => ix4 b z h d) (Fin.ext (by dsimp only; omega))

/-- The row of the key at place `j` of a chunk's band, where there is one. -/
theorem kc_at (P : FVec Ideal S32768x10752 .bf16) (c : Fin 128) (b : Fin 4) (j : Fin 576) (h : Fin 16) (d : Fin 64) (hv : 512 ≤ j.val + 64 * c.val) :
    val_main_v58 (F := Ideal) P (ix5 c b j h d) = P (ix2 ⟨b.val * 8192 + (64 * c.val + j.val - 512), by omega⟩ ⟨5120 + (h.val * 64 + d.val), by omega⟩) := by
  unfold val_main_v58
  rw [gather_k, pad_k]
  simp only [start2]
  have e : min (64 * c.val) 8128 = 64 * c.val := by omega
  rw [dif_pos (by omega)]
  refine (congrArg (val_main_v7 (F := Ideal) P) (?_ : _ = ix4 b (⟨64 * c.val + j.val - 512, by omega⟩ : Fin 8192) h d)).trans (k_at P b _ h d)
  exact congrArg (fun z => ix4 b z h d) (Fin.ext (by dsimp only; omega))

theorem vc_at (P : FVec Ideal S32768x10752 .bf16) (c : Fin 128) (b : Fin 4) (j : Fin 576) (h : Fin 16) (d : Fin 64) (hv : 512 ≤ j.val + 64 * c.val) :
    val_main_v69 (F := Ideal) P (ix5 c b j h d) = P (ix2 ⟨b.val * 8192 + (64 * c.val + j.val - 512), by omega⟩ ⟨6144 + (h.val * 64 + d.val), by omega⟩) := by
  unfold val_main_v69
  rw [gather_k, pad_v]
  simp only [start3]
  have e : min (64 * c.val) 8128 = 64 * c.val := by omega
  rw [dif_pos (by omega)]
  refine (congrArg (val_main_v9 (F := Ideal) P) (?_ : _ = ix4 b (⟨64 * c.val + j.val - 512, by omega⟩ : Fin 8192) h d)).trans (v_at P b _ h d)
  exact congrArg (fun z => ix4 b z h d) (Fin.ext (by dsimp only; omega))

theorem vc_none (P : FVec Ideal S32768x10752 .bf16) (c : Fin 128) (b : Fin 4) (j : Fin 576) (h : Fin 16) (d : Fin 64) (hv : ¬ 512 ≤ j.val + 64 * c.val) :
    val_main_v69 (F := Ideal) P (ix5 c b j h d) = 0 := by
  unfold val_main_v69
  rw [gather_k, pad_v]
  simp only [start3]
  have e : min (64 * c.val) 8128 = 64 * c.val := by omega
  rw [dif_neg (by omega)]

/-- The reference's score in a chunk: none before the entry's first token. -/
def RSC (P : FVec Ideal S32768x10752 .bf16) (x : FVec Ideal S1x16x320 .f32) (c : Fin 128) (b : Fin 4) (h : Fin 16) (q : Fin 64) (j : Fin 576) : EReal :=
  if hv : 512 ≤ j.val + 64 * c.val then
    (∑ d : Fin 64, P (ix2 ⟨b.val * 8192 + (64 * c.val + q.val), by omega⟩ ⟨4096 + (h.val * 64 + d.val), by omega⟩)
      * P (ix2 ⟨b.val * 8192 + (64 * c.val + j.val - 512), by omega⟩ ⟨5120 + (h.val * 64 + d.val), by omega⟩)) * ((1 / 8 : ℝ) : EReal)
      + x (ix3 0 h ⟨min (q.val + 575 - j.val) 319, by omega⟩)
  else ⊥

theorem bias_q (x : FVec Ideal S1x16x320 .f32) (h : Fin 16) (q : Fin 64) (j : Fin 576) :
    val_main_v32 (F := Ideal) x (ix3 h q j) = x (ix3 0 h ⟨min (q.val + 575 - j.val) 319, by omega⟩) := by
  unfold val_main_v32
  rw [gather_bias]
  simp only [tab]
  rw [bias_at]
  exact congrArg (fun z => x (ix3 0 h z)) (Fin.ext (by dsimp only; omega))

theorem score_at (P : FVec Ideal S32768x10752 .bf16) (x : FVec Ideal S1x16x320 .f32) (c : Fin 128) (b : Fin 4) (h : Fin 16) (q : Fin 64) (j : Fin 576) :
    val_main_v84 (F := Ideal) P x (ix5 c b h q j) = RSC P x c b h q j := by
  have h70 : val_main_v70 (F := Ideal) P (ix5 c b h q j) = ∑ d : Fin 64, val_main_v47 (F := Ideal) P (ix5 c b q h d) * val_main_v58 (F := Ideal) P (ix5 c b j h d) := by
    rw [val_main_v70_apply]
    refine Finset.sum_congr rfl fun d _ => congrArg₂ (· * ·) (congrArg _ ?_) (congrArg _ ?_)
    · funext a; match a with | ⟨0, _⟩ => rfl | ⟨1, _⟩ => rfl | ⟨2, _⟩ => rfl | ⟨3, _⟩ => rfl | ⟨4, _⟩ => rfl
    · funext a; match a with | ⟨0, _⟩ => rfl | ⟨1, _⟩ => rfl | ⟨2, _⟩ => rfl | ⟨3, _⟩ => rfl | ⟨4, _⟩ => rfl
  have h83 := valid c j
  have h32 := bias_q x h q j
  generalize e70 : val_main_v70 (F := Ideal) P = A at h70
  generalize e83 : val_main_v83 (F := Ideal) = B at h83
  generalize e32 : val_main_v32 (F := Ideal) x = C at h32
  have main : val_main_v84 (F := Ideal) P x (ix5 c b h q j) = Scalar.select (B (ix2 c j)) (A (ix5 c b h q j) * Ideal.ofBits FTy.f32 0x3E000000#32 + C (ix3 h q j)) (Ideal.ofBits FTy.f32 0xFF800000#32) := by
    unfold val_main_v84 val_main_v76 val_main_v72 val_main_v75 val_main_v74 val_main_v73 val_main_call2_v1
    rw [e70, e83, e32]
    pointwise [val_main_v71, val_main_cst, val_main_call2_v3, val_main_call2_v2, val_main_call2_v0, val_main_cst_23]
    rfl
  rw [main, h83, h70, h32, eighth32, neg_inf32]
  unfold RSC
  by_cases hv : 512 ≤ j.val + 64 * c.val
  · rw [dif_pos hv, if_pos hv]
    refine congrArg (fun z => z * ((1 / 8 : ℝ) : EReal) + _) (Finset.sum_congr rfl fun d _ => ?_)
    rw [qc_at, kc_at P c b j h d hv]
  · rw [dif_neg hv, if_neg hv]; rfl

/-- The largest score of a row. -/
theorem max_at (P : FVec Ideal S32768x10752 .bf16) (x : FVec Ideal S1x16x320 .f32) (c : Fin 128) (b : Fin 4) (h : Fin 16) (q : Fin 64) :
    val_main_v87 (F := Ideal) P x (ix4 c b h q) = Finset.univ.sup fun j : Fin 576 => val_main_v84 (F := Ideal) P x (ix5 c b h q j) := by
  have hn : Ideal.ofBits FTy.f32 0xFF800000#32 = ⊥ := by simp [Ideal.ofBits, Ideal.ieee]
  rw [val_main_v87_apply]
  have h86 : val_main_v86 (F := Ideal) (ix4 c b h q) = (⊥ : EReal) := by
    rw [val_main_v86_apply]; exact hn
  rw [h86]
  unfold val_main_v85
  generalize val_main_v84 (F := Ideal) P x = S
  rw [Host.reduce_eq_fold_single _ _ _ Gen.reducesTo_S128x4x16x64x576_S128x4x16x64_d4 (by decide)]
  have h24 : val_main_cst_24 (F := Ideal) (Shape.Idx.first Gen.h_S_) = (⊥ : EReal) := hn
  rw [h24]
  refine (max_eq_right bot_le).trans ?_
  refine (Finset.fold_congr fun j _ => ?_ : _ = Finset.fold _ _ (fun j : Fin 576 => S (ix5 c b h q j)) _).trans rfl
  exact congrArg S (funext fun a => Fin.ext (by match a with | ⟨0, _⟩ => rfl | ⟨1, _⟩ => rfl | ⟨2, _⟩ => rfl | ⟨3, _⟩ => rfl | ⟨4, _⟩ => rfl))

theorem exp_at (P : FVec Ideal S32768x10752 .bf16) (x : FVec Ideal S1x16x320 .f32) (c : Fin 128) (b : Fin 4) (h : Fin 16) (q : Fin 64) (j : Fin 576) :
    val_main_v91 (F := Ideal) P x (ix5 c b h q j) = Ideal.exp (val_main_v84 (F := Ideal) P x (ix5 c b h q j)
      - Finset.univ.sup fun j : Fin 576 => val_main_v84 (F := Ideal) P x (ix5 c b h q j)) := by
  rw [val_main_v91_apply, val_main_v90_apply, val_main_v89_apply, val_main_v88_apply, ← max_at]
  have e : idx_main_v88 (idx_main_v89 (ix5 c b h q j)) = ix4 c b h q := by
    funext a; match a with | ⟨0, _⟩ => rfl | ⟨1, _⟩ => rfl | ⟨2, _⟩ => rfl | ⟨3, _⟩ => rfl
  rw [e]
  rfl

/-- The weight of a key of the band. -/
theorem prob_at (P : FVec Ideal S32768x10752 .bf16) (x : FVec Ideal S1x16x320 .f32) (c : Fin 128) (b : Fin 4) (h : Fin 16) (q : Fin 64) (j : Fin 576) :
    val_main_v95 (F := Ideal) P x (ix5 c b h q j) = Ideal.div (val_main_v91 (F := Ideal) P x (ix5 c b h q j))
      (∑ j : Fin 576, val_main_v91 (F := Ideal) P x (ix5 c b h q j)) := by
  rw [val_main_v95_apply, val_main_v94_apply, val_main_v93_apply, val_main_v92_apply]
  have h26 : val_main_cst_26 (F := Ideal) (Shape.Idx.first Gen.h_S_) = (0 : EReal) := by
    show Ideal.ofBits FTy.f32 0#32 = 0
    simp [Ideal.ofBits, Ideal.ieee]
  rw [h26, zero_add]
  have e : ∀ k : Fin 576, idx_main_v92 (idx_main_v93 (idx_main_v94 (ix5 c b h q j))) k = ix5 c b h q k := by
    intro k
    funext a; match a with | ⟨0, _⟩ => rfl | ⟨1, _⟩ => rfl | ⟨2, _⟩ => rfl | ⟨3, _⟩ => rfl | ⟨4, _⟩ => rfl
  simp only [e]
  rfl

/-- The reference's result in its own chunks: the softmax of the band's scores times the band's values. -/
theorem out_at (P : FVec Ideal S32768x10752 .bf16) (x : FVec Ideal S1x16x320 .f32) (c : Fin 128) (b : Fin 4) (h : Fin 16) (q : Fin 64) (d : Fin 64) :
    val_main_v96 (F := Ideal) P x (ix5 c b h d q) = ∑ j : Fin 576, val_main_v69 (F := Ideal) P (ix5 c b j h d)
      * Ideal.div (Ideal.exp (RSC P x c b h q j - Finset.univ.sup fun j => RSC P x c b h q j)) (∑ j : Fin 576, Ideal.exp (RSC P x c b h q j - Finset.univ.sup fun j => RSC P x c b h q j)) := by
  have h96 : val_main_v96 (F := Ideal) P x (ix5 c b h d q) = ∑ j : Fin 576, val_main_v69 (F := Ideal) P (ix5 c b j h d) * val_main_v95 (F := Ideal) P x (ix5 c b h q j) := by
    rw [val_main_v96_apply]
    refine Finset.sum_congr rfl fun d _ => congrArg₂ (· * ·) (congrArg _ ?_) (congrArg _ ?_)
    · funext a; match a with | ⟨0, _⟩ => rfl | ⟨1, _⟩ => rfl | ⟨2, _⟩ => rfl | ⟨3, _⟩ => rfl | ⟨4, _⟩ => rfl
    · funext a; match a with | ⟨0, _⟩ => rfl | ⟨1, _⟩ => rfl | ⟨2, _⟩ => rfl | ⟨3, _⟩ => rfl | ⟨4, _⟩ => rfl
  rw [h96]
  refine Finset.sum_congr rfl fun j _ => congrArg (val_main_v69 (F := Ideal) P (ix5 c b j h d) * ·) ?_
  rw [prob_at]
  simp only [exp_at, score_at]

/-- The reference's result, row by row and lane by lane. -/
theorem ref_at (P : FVec Ideal S32768x10752 .bf16) (x : FVec Ideal S1x16x320 .f32) (b : Fin 4) (c : Fin 128) (q : Fin 64) (h : Fin 16) (d : Fin 64) :
    val_main_v101 (F := Ideal) P x (ix2 ⟨b.val * 8192 + (64 * c.val + q.val), by omega⟩ ⟨h.val * 64 + d.val, by omega⟩) = val_main_v96 (F := Ideal) P x (ix5 c b h d q) := by
  unfold val_main_v101 val_main_v100 val_main_v99 val_main_v98 val_main_v97
  generalize val_main_v96 (F := Ideal) P x = W
  pointwise
  blk_ext
end Cert.ReferenceIdeal.Attn
-- ==== Proof.AttnGlue.lean ====
module

public import proofs.«01_k».proof.Defs
public import proofs.«01_k».proof.Proof.Gen.ReferenceIdeal.Read
public import proofs.«01_k».proof.Proof.AttnMath
public import proofs.«01_k».proof.Proof.AttnRef
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.ReferenceIdeal.Attn
open Cert.ReferenceIdeal Cert.ReferenceIdeal.Read Cert.AttnMath

/-- Values under a weight of zero do not matter. -/
theorem out_congr (S V V' : Fin 768 → EReal) (h : ∀ κ, S κ ≠ ⊥ → V κ = V' κ) : OUT S V = OUT S V' := by
  unfold OUT
  refine congrArg (fun z => Ideal.div z _) (Finset.sum_congr rfl fun κ _ => ?_)
  by_cases hb : S κ = ⊥
  · have e : Ideal.exp (S κ - Finset.univ.sup S) = 0 := by
      rw [hb, EReal.bot_sub]; rfl
    rw [e, zero_mul, zero_mul]
  · rw [h κ hb]

/-- A finite sum of products of reals is a real. -/
theorem real_sum (f : Fin 64 → EReal) (h : ∀ d, ∃ r : ℝ, f d = r) : ∃ r : ℝ, (∑ d, f d) = r := by
  refine Finset.sum_induction f (fun z => ∃ r : ℝ, z = r) ?_ ⟨0, rfl⟩ fun d _ => h d
  rintro _ _ ⟨a, rfl⟩ ⟨b, rfl⟩
  exact ⟨a + b, (EReal.coe_add a b).symm⟩

theorem real_mul {a b : EReal} (ha : ∃ r : ℝ, a = r) (hb : ∃ r : ℝ, b = r) : ∃ r : ℝ, a * b = r := by
  obtain ⟨a, rfl⟩ := ha
  obtain ⟨b, rfl⟩ := hb
  exact ⟨a * b, (EReal.coe_mul a b).symm⟩

/-- A tile's attention over its window of keys is the reference's over the chunk's band. -/
theorem glue (P : FVec Ideal S32768x10752 .bf16) (x : FVec Ideal S1x16x320 .f32) (hP : ∀ i, ∃ r : ℝ, P i = r) (hx : ∀ i, ∃ r : ℝ, x i = r)
    (t : Fin 128) (h : Fin 16) (r : Fin 256) (d : Fin 64) (S V : Fin 768 → EReal) (K : Fin 768 → Fin 32768)
    (hK : ∀ κ, (K κ).val = (t.val / 32 * 32 + (t.val % 32 + κ.val / 256 - 2)) * 256 + κ.val % 256)
    (hS : ∀ κ, S κ = if 512 ≤ κ.val + 256 * (t.val % 32) then
      (∑ d : Fin 64, P (ix2 ⟨t.val * 256 + r.val, by omega⟩ ⟨4096 + (h.val * 64 + d.val), by omega⟩) * ((1 / 8 : ℝ) : EReal)
        * P (ix2 (K κ) ⟨5120 + (h.val * 64 + d.val), by omega⟩))
        + (if r.val / 64 ≤ κ.val / 64 ∧ κ.val / 64 ≤ r.val / 64 + 8 then x (ix3 0 h ⟨min (r.val + 575 - κ.val) 319, by omega⟩) else ⊥)
      else ⊥)
    (hV : ∀ κ, V κ = P (ix2 (K κ) ⟨6144 + (h.val * 64 + d.val), by omega⟩)) :
    OUT S V = val_main_v101 (F := Ideal) P x (ix2 ⟨t.val * 256 + r.val, by omega⟩ ⟨h.val * 64 + d.val, by omega⟩) := by
  have hcb : 4 * (t.val % 32) + r.val / 64 < 128 := by omega
  let c : Fin 128 := ⟨4 * (t.val % 32) + r.val / 64, hcb⟩
  let b : Fin 4 := ⟨t.val / 32, by omega⟩
  let q : Fin 64 := ⟨r.val % 64, by omega⟩
  have hc : c.val = 4 * (t.val % 32) + r.val / 64 := rfl
  have hb : b.val = t.val / 32 := rfl
  have hq : q.val = r.val % 64 := rfl
  clear_value c b q
  have ho : 64 * (r.val / 64) ≤ 192 := by omega
  have hrow : (⟨t.val * 256 + r.val, by omega⟩ : Fin 32768) = ⟨b.val * 8192 + (64 * c.val + q.val), by omega⟩ := Fin.ext (by dsimp only; omega)
  have hval : ∀ j : Fin 576, (512 ≤ 64 * (r.val / 64) + j.val + 256 * (t.val % 32)) = (512 ≤ j.val + 64 * c.val) := by
    intro j
    refine propext ⟨fun _ => by omega, fun _ => by omega⟩
  have hkey : ∀ (j : Fin 576) (hj : 512 ≤ j.val + 64 * c.val), K ⟨64 * (r.val / 64) + j.val, by omega⟩ = ⟨b.val * 8192 + (64 * c.val + j.val - 512), by omega⟩ := by
    intro j hj
    refine Fin.ext ?_
    rw [hK]
    dsimp only
    omega
  have hband : ∀ j : Fin 576, S ⟨64 * (r.val / 64) + j.val, by omega⟩ = RSC P x c b h q j := by
    intro j
    rw [hS]
    unfold RSC
    dsimp only
    by_cases hv : 512 ≤ j.val + 64 * c.val
    · rw [dif_pos hv, if_pos ((hval j).mpr hv), if_pos (by omega), hkey j hv, hrow]
      have hi : (⟨min (r.val + 575 - (64 * (r.val / 64) + j.val)) 319, by omega⟩ : Fin 320) = ⟨min (q.val + 575 - j.val) 319, by omega⟩ := Fin.ext (by dsimp only; omega)
      rw [hi, sum_mul_real _ _ _ (by exact_mod_cast (by norm_num : (0 : ℝ) ≤ 1 / 8)) (EReal.coe_ne_top _)]
      exact congrArg (· + _) (Finset.sum_congr rfl fun d _ => mul_right_comm _ _ _)
    · rw [dif_neg hv, if_neg (fun hh => hv ((hval j).mp hh))]
  have hsum : ∀ κ, ∃ s : ℝ, (∑ d : Fin 64, P (ix2 ⟨t.val * 256 + r.val, by omega⟩ ⟨4096 + (h.val * 64 + d.val), by omega⟩) * ((1 / 8 : ℝ) : EReal)
        * P (ix2 (K κ) ⟨5120 + (h.val * 64 + d.val), by omega⟩)) = s :=
    fun κ => real_sum _ fun d => real_mul (real_mul (hP _) ⟨_, rfl⟩) (hP _)
  have hout : ∀ κ : Fin 768, ¬(64 * (r.val / 64) ≤ κ.val ∧ κ.val < 64 * (r.val / 64) + 576) → S κ = ⊥ := by
    intro κ hκ
    rw [hS]
    by_cases hv : 512 ≤ κ.val + 256 * (t.val % 32)
    · rw [if_pos hv, if_neg (by omega), EReal.add_bot]
    · rw [if_neg hv]
  have htop : ∀ κ, S κ ≠ ⊤ := by
    intro κ
    rw [hS]
    obtain ⟨s, hs⟩ := hsum κ
    rw [hs]
    by_cases hv : 512 ≤ κ.val + 256 * (t.val % 32)
    · rw [if_pos hv]
      by_cases hw : r.val / 64 ≤ κ.val / 64 ∧ κ.val / 64 ≤ r.val / 64 + 8
      · rw [if_pos hw]
        obtain ⟨u, hu⟩ := hx (ix3 0 h ⟨min (r.val + 575 - κ.val) 319, by omega⟩)
        rw [hu, ← EReal.coe_add]
        exact EReal.coe_ne_top _
      · rw [if_neg hw, EReal.add_bot]; exact bot_ne_top
    · rw [if_neg hv]; exact bot_ne_top
  have hbot : ∃ κ, S κ ≠ ⊥ := by
    refine ⟨⟨512 + r.val, by omega⟩, ?_⟩
    rw [hS]
    obtain ⟨s, hs⟩ := hsum ⟨512 + r.val, by omega⟩
    rw [hs, if_pos (by dsimp only; omega), if_pos (by dsimp only; omega)]
    obtain ⟨u, hu⟩ := hx (ix3 0 h ⟨min (r.val + 575 - (512 + r.val)) 319, by omega⟩)
    dsimp only
    rw [hu, ← EReal.coe_add]
    exact EReal.coe_ne_bot _
  rw [out_congr S V (fun κ => if 512 ≤ κ.val + 256 * (t.val % 32) then V κ else 0) (by
    intro κ hκ
    by_cases hv : 512 ≤ κ.val + 256 * (t.val % 32)
    · rw [if_pos hv]
    · rw [hS, if_neg hv] at hκ
      exact absurd rfl hκ)]
  unfold OUT
  rw [softmax S _ (64 * (r.val / 64)) ho hout htop hbot]
  simp only [hband]
  rw [hrow]
  refine Eq.trans ?_ (ref_at P x b c q h d).symm
  rw [out_at]
  refine Finset.sum_congr rfl fun j _ => ?_
  rw [mul_comm]
  refine congrArg (· * _) ?_
  by_cases hv : 512 ≤ j.val + 64 * c.val
  · rw [if_pos ((hval j).mpr hv), hV, hkey j hv, vc_at P c b j h d hv]
  · rw [if_neg (fun hh => hv ((hval j).mp hh)), vc_none P c b j h d hv]

end Cert.ReferenceIdeal.Attn
-- ==== Proof.Attn.lean ====
module

public import proofs.«01_k».proof.Defs
public import proofs.«01_k».proof.Proof.Gen.KernelIdeal.Value
public import proofs.«01_k».proof.Proof.AttnPair
public import proofs.«01_k».proof.Proof.AttnHost
public import proofs.«01_k».proof.Proof.AttnGlue
public import proofs.«01_k».proof.Proof.AttnPoint
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat Window)

namespace Cert.KernelIdeal.Attn
open Cert.KernelIdeal Cert.KernelIdeal.Gen Cert.KernelIdeal.Value Cert.AttnMath

variable (m : (ℓ : Loc nD τ sig) → Buf (Elt Ideal) ℓ)

/-- What the attention's array holds. -/
theorem final (c : Dev nD) : (dats m 0 c).arrAt 9 (cfgs 0).N
    = (fun i => SPEC m c ⟨(i 0).val / 256, by have : (i 0).val < 32768 := (i 0).isLt; show _ < 128; omega⟩ (ix2 ⟨(i 0).val % 256, by omega⟩ (i 1)) : FVec Ideal S32768x1024 .bf16) := by
  refine (dats m 0 c).arrAt_eq_of_covers 9 _ (by decide +kernel) fun t _ y => ?_
  blk_simp
  rw [after0_9]
  obtain ⟨y0, y1, rfl⟩ : ∃ (a : Fin 256) (b : Fin 1024), y = ix2 a b := ⟨y 0, y 1, eq_ix2 y⟩
  refine (point m c t (ix2 y0 y1)).trans ?_
  obtain ⟨-, -, -, -, -, -, -, -, -, h9, -⟩ := idx t
  have e : win0_9.index t 0 = t.val := by rw [h9]; rfl
  refine congrArg₂ (SPEC m c) (Fin.ext ?_) (congrArg₂ ix2 (Fin.ext ?_) (Fin.ext ?_))
  · show t.val = (win0_9.index t 0 * 256 + y0.val) / 256
    rw [e]; omega
  · show y0.val = (win0_9.index t 0 * 256 + y0.val) % 256
    rw [e]; omega
  · blk_ext [h9]

/-- The riding weight's block, rounded. -/
theorem side_point (c : Dev nD) (t : Fin cfg0.N) (y : S512x2048.Idx) : (outsAt0 m c t).2 y = (iblk m c 8 t : FVec Ideal S512x2048 .f32) y := by
  unfold outsAt0
  frame_out
  pointwise

theorem final_side (c : Dev nD) : (dats m 0 c).arrAt 10 (cfgs 0).N = (WD m c : FVec Ideal S65536x2048 .bf16) := by
  refine (dats m 0 c).arrAt_eq_of_covers 10 _ (by decide +kernel) fun t _ y => ?_
  blk_simp
  rw [after0_10]
  obtain ⟨y0, y1, rfl⟩ : ∃ (a : Fin 512) (b : Fin 2048), y = ix2 a b := ⟨y 0, y 1, eq_ix2 y⟩
  refine (side_point m c t (ix2 y0 y1)).trans ?_
  blk_ext [iblk, V, idx t]

/-- An entry whose size is below infinity is a real. -/
theorem real_of {a : EReal} (h : Ideal.cmp .olt (max a (-a)) ⊤ = 1#1) : ∃ r : ℝ, a = r := by
  have hl : max a (-a) < ⊤ := by
    by_contra hn
    simp [Ideal.cmp, hn] at h
  induction a using EReal.rec with
  | bot => simp at hl
  | coe r => exact ⟨r, rfl⟩
  | top => simp at hl

theorem inf16 : Ideal.ofBits FTy.bf16 0x7F80#16 = ⊤ := by
  simp [Ideal.ofBits, Ideal.ieee]

theorem inf32 : Ideal.ofBits FTy.f32 0x7F800000#32 = ⊤ := by
  simp [Ideal.ofBits, Ideal.ieee]

/-- The bias row. -/
abbrev X1 (c : Dev nD) : FVec Ideal S1x16x320 .f32 := m ((c : Thread nD τ).loc main_arg1)

/-- The attention of the tile is the reference's rows. -/
theorem spec_eq (c : Dev nD) (t : Fin cfg0.N) (r : Fin 256) (l : Fin 1024)
    (hP : ∀ i, ∃ r : ℝ, PJ m c i = r) (hx : ∀ i, ∃ r : ℝ, X1 m c i = r) :
    SPEC m c t (ix2 r l) = Cert.ReferenceIdeal.Read.val_main_v101 (F := Ideal) (PJ m c) (X1 m c) (ix2 ⟨t.val * 256 + r.val, row_lt t r⟩ l) := by
  refine (Cert.ReferenceIdeal.Attn.glue (PJ m c) (X1 m c) hP hx t ⟨l.val / 64, by omega⟩ r ⟨l.val % 64, by omega⟩
    (SCORE m c t ⟨l.val / 64, by omega⟩ r) (VAL m c t ⟨l.val / 64, by omega⟩ ⟨l.val % 64, by omega⟩) (krow t) (fun κ => rfl) ?_ (fun κ => rfl)).trans ?_
  · intro κ
    unfold SCORE
    rw [BT_eq, bias_at]
  · exact congrArg (fun z => Cert.ReferenceIdeal.Read.val_main_v101 (F := Ideal) (PJ m c) (X1 m c) (ix2 ⟨t.val * 256 + r.val, row_lt t r⟩ z)) (Fin.ext (by dsimp only; omega))

/-- The precondition says every entry of the projection is a real. -/
theorem finite_proj [Cert.Pre_finite.Facts] {P : FVec Ideal Cert.Pre_finite.S32768x10752 .bf16} {x : FVec Ideal Cert.Pre_finite.S1x16x320 .f32} {w : FVec Ideal Cert.Pre_finite.S1x32x2048x2048 .f32}
    (h : (Cert.Pre_finite.fn (F := Ideal) P x w).1 = fun _ => 1#1) (i) : ∃ r : ℝ, P i = r := by
  refine real_of ?_
  rw [← inf16]
  exact congrFun h i

theorem finite_bias [Cert.Pre_finite.Facts] {P : FVec Ideal Cert.Pre_finite.S32768x10752 .bf16} {x : FVec Ideal Cert.Pre_finite.S1x16x320 .f32} {w : FVec Ideal Cert.Pre_finite.S1x32x2048x2048 .f32}
    (h : (Cert.Pre_finite.fn (F := Ideal) P x w).2 = fun _ => 1#1) (i) : ∃ r : ℝ, x i = r := by
  refine real_of ?_
  rw [← inf32]
  exact congrFun h i

end Cert.KernelIdeal.Attn

namespace Cert.Proof.AttnClaim

/-- The attention's two result arrays are the reference's. -/
theorem algebraic [Cert.Pre_finite.Facts] : Cert.algebraic_KernelIdeal_ReferenceIdeal_pre_finite := by
  pair_intro
  · run_from Cert.KernelIdeal.Value.run_blocks m g
  · run_from Cert.ReferenceIdeal.Value.run m' g'
    · refine (Cert.ReferenceIdeal.Read.val_main_v101_eq m' c).trans ?_
      refine (congrArg₂ (Cert.ReferenceIdeal.Read.val_main_v101 (F := Ideal)) (hagree c).1 (hagree c).2.1).trans ?_
      rw [Cert.KernelIdeal.Attn.final m c]
      funext i
      obtain ⟨r, l, rfl⟩ : ∃ (a : Fin 32768) (b : Fin 1024), i = ix2 a b := ⟨i 0, i 1, eq_ix2 i⟩
      refine Eq.symm ((Cert.KernelIdeal.Attn.spec_eq m c ⟨r.val / 256, by show _ < 128; omega⟩ ⟨r.val % 256, by omega⟩ l ?_ ?_).trans ?_)
      · exact fun i => Cert.KernelIdeal.Attn.finite_proj (hpre c).1 i
      · exact fun i => Cert.KernelIdeal.Attn.finite_bias (hpre c).2 i
      · exact congrArg (fun z => Cert.ReferenceIdeal.Read.val_main_v101 (F := Ideal) (Cert.KernelIdeal.Attn.PJ m c) (Cert.KernelIdeal.Attn.X1 m c) (ix2 z l)) (Fin.ext (by dsimp only; omega))
    · rw [Cert.KernelIdeal.Attn.final_side m c, Cert.KernelIdeal.Attn.WD_eq]
      rfl

end Cert.Proof.AttnClaim
-- ==== Proof.ExpertsRun.lean ====
/-
  The runs of the experts' body, one per way its five conditions can fall: what each leaves in the output block and in the scratch copy of the row block, stated explicitly over the blocks the body was handed.
-/
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Pipeline.Frame
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Init

@[expose] public section

set_option maxRecDepth 16384
set_option Elab.async false

noncomputable section

namespace Cert.Kernel3Ideal.Run

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three integer tables, whole. -/
abbrev tb0 : Memref sig .tc .smem S288 .i32 := Memref.whole main_arg0
abbrev tb1 : Memref sig .tc .smem S1 .i32 := Memref.whole main_arg1
abbrev tb2 : Memref sig .tc .smem S288 .i32 := Memref.whole main_arg2

/-- The number of used blocks, as the body reads it. -/
abbrev word1 (T1 : S1.Idx → Elt F .i32) : BitVec 32 :=
  View.readAt (Elt F) (tb1).view (Rect.unit (s := S1) ![0] S1.size inb_S1_S1_0).toLoadRect T1 (Shape.Idx.first (numel1_S1.symm ▸ Nat.one_pos))

/-- The number of valid rows of the point's block, as the body reads it. -/
abbrev word2 (i : grid0.Coords) (T2 : S288.Idx → Elt F .i32) : BitVec 32 :=
  View.readAt (Elt F) (tb2).view (Rect.unit (s := S288) (k0_off1 i) S1.size (k0_off1_inb i)).toLoadRect T2 (Shape.Idx.first (numel1_S1.symm ▸ Nat.one_pos))

/-- The first 256 rows of a block of 512. -/
abbrev top {e : EltTy} (x : S512x2048.Idx → Elt F e) : S256x2048.Idx → Elt F e :=
  VecWindow.window x ![0, 0] S256x2048.size inb_S512x2048_S256x2048_0_0

/-- A block of 512 rows with its first 256 replaced. -/
abbrev putTop {e : EltTy} (x : S512x2048.Idx → Elt F e) (w : S256x2048.Idx → Elt F e) : S512x2048.Idx → Elt F e :=
  VecWindow.put x ![0, 0] S256x2048.size w

/-- A block of 512 rows with its last 256 replaced. -/
abbrev putBot {e : EltTy} (x : S512x2048.Idx → Elt F e) (w : S256x2048.Idx → Elt F e) : S512x2048.Idx → Elt F e :=
  VecWindow.put x ![256, 0] S256x2048.size w

variable (c : Dev nD) (i : grid0.Coords) (arg5 : Memref sig .tc .vmem S512x2048 .f32) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x2048 .bf16) (harg10 : arg10.IsWhole) (arg11 : Memref sig .tc .vmem S1x1x2048 .f32) (harg11 : arg11.IsWhole) (arg12 : Memref sig .tc .vmem S512x2048 .f32) (harg12 : arg12.IsWhole) (arg13 : Memref sig .tc .vmem S512x2048 .bf16) (harg13 : arg13.IsWhole)
  (T0 : S288.Idx → Elt F .i32) (T1 : S1.Idx → Elt F .i32) (T2 : S288.Idx → Elt F .i32)
  (x0 : S512x2048.Idx → Elt F .f32) (x1 x2 : S1x2048x1024.Idx → Elt F .bf16) (x3 x4 : S1x1x1024.Idx → Elt F .f32) (x5 : S1x1024x2048.Idx → Elt F .bf16) (x6 : S1x1x2048.Idx → Elt F .f32)

/-- The input blocks and the body's halves of the tables. -/
abbrev Held : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (arg9.view.loc (c : Thread nD τ) ↦[arg9.view.set]{fullShare} arg9.view.rep x4)
    ∗ (arg10.view.loc (c : Thread nD τ) ↦[arg10.view.set]{fullShare} arg10.view.rep x5)
    ∗ (arg11.view.loc (c : Thread nD τ) ↦[arg11.view.set]{fullShare} arg11.view.rep x6)
    ∗ ((tb0).view.loc (c : Thread nD τ) ↦{fullShare.right} T0)
    ∗ ((tb1).view.loc (c : Thread nD τ) ↦{fullShare.right} T1)
    ∗ ((tb2).view.loc (c : Thread nD τ) ↦{fullShare.right} T2))

/-- The body on these memrefs. -/
abbrev body : Prog (TpuEff nD τ sig (Elt F) Λ₀ .tc) PUnit :=
  cc0_moe_experts i tb0 (Memref.isWhole_whole _) tb1 (Memref.isWhole_whole _) tb2 (Memref.isWhole_whole _) arg5 harg5 arg6 harg6 arg7 harg7 arg8 harg8 arg9 harg9 arg10 harg10 arg11 harg11 arg12 harg12 arg13 harg13

/-- The body, handed the output block at `d` and the scratch at `s`, leaves them at `o` and `s'`. -/
abbrev Runs (d : S512x2048.Idx → Elt F .f32) (s : S512x2048.Idx → Elt F .bf16) (o : S512x2048.Idx → Elt F .f32) (s' : S512x2048.Idx → Elt F .bf16) : Prop :=
  ∀ K : PUnit → sProp 𝕄,
    iprop(Held c arg5 arg6 arg7 arg8 arg9 arg10 arg11 T0 T1 T2 x0 x1 x2 x3 x4 x5 x6
      ∗ owns (c : Thread nD τ) arg12 fullShare d ∗ owns (c : Thread nD τ) arg13 fullShare s
      ∗ (iprop(Held c arg5 arg6 arg7 arg8 arg9 arg10 arg11 T0 T1 T2 x0 x1 x2 x3 x4 x5 x6
          ∗ owns (c : Thread nD τ) arg12 fullShare o ∗ owns (c : Thread nD τ) arg13 fullShare s') -∗ K ⟨⟩))
      ⊢ wp frame (wpE (defs₀ (F := F)) Variants.none c none) Set.univ
          (body i arg5 harg5 arg6 harg6 arg7 harg7 arg8 harg8 arg9 harg9 arg10 harg10 arg11 harg11 arg12 harg12 arg13 harg13) K

/-- Equal arguments give equal values, for functions of five and of six arguments. -/
theorem congr5 {α₁ α₂ α₃ α₄ α₅ β : Type} (f : α₁ → α₂ → α₃ → α₄ → α₅ → β) {a₁ b₁ a₂ b₂ a₃ b₃ a₄ b₄ a₅ b₅}
    (h₁ : a₁ = b₁) (h₂ : a₂ = b₂) (h₃ : a₃ = b₃) (h₄ : a₄ = b₄) (h₅ : a₅ = b₅) : f a₁ a₂ a₃ a₄ a₅ = f b₁ b₂ b₃ b₄ b₅ := by
  subst h₁ h₂ h₃ h₄ h₅; rfl

theorem congr6 {α₁ α₂ α₃ α₄ α₅ α₆ β : Type} (f : α₁ → α₂ → α₃ → α₄ → α₅ → α₆ → β) {a₁ b₁ a₂ b₂ a₃ b₃ a₄ b₄ a₅ b₅ a₆ b₆}
    (h₁ : a₁ = b₁) (h₂ : a₂ = b₂) (h₃ : a₃ = b₃) (h₄ : a₄ = b₄) (h₅ : a₅ = b₅) (h₆ : a₆ = b₆) : f a₁ a₂ a₃ a₄ a₅ a₆ = f b₁ b₂ b₃ b₄ b₅ b₆ := by
  subst h₁ h₂ h₃ h₄ h₅ h₆; rfl

set_option maxHeartbeats 8000000 in
/-- An unused block: the output block is set to zero. -/
theorem run_Z (d : S512x2048.Idx → Elt F .f32) (s : S512x2048.Idx → Elt F .bf16)
    (h1 : k0_cond1 i (word1 T1) = 1#1) (h2 : ¬(k0_cond2 i (word1 T1) (word2 i T2) = 1#1)) (h3 : ¬(k0_cond3 i (word1 T1) (word2 i T2) = 1#1)) (h4 : ¬(k0_cond4 i (word1 T1) (word2 i T2) = 1#1)) (h5 : ¬(k0_cond5 i (word1 T1) (word2 i T2) = 1#1)) :
    Runs c i arg5 harg5 arg6 harg6 arg7 harg7 arg8 harg8 arg9 harg9 arg10 harg10 arg11 harg11 arg12 harg12 arg13 harg13 T0 T1 T2 x0 x1 x2 x3 x4 x5 x6 d s (k0_pay1) (s) := fun K => by
  unfold owns
  unfold body
  rw [cc0_moe_experts_eq_skeleton]; unfold cc0_moe_experts_skel
  simp only [k0_part1_eq_skeleton, k0_part2_eq_skeleton, k0_part3_eq_skeleton, k0_part4_eq_skeleton]
  unfold k0_part1_skel k0_part2_skel k0_part3_skel k0_part4_skel
  iintro ⟨⟨H0, H1, H2, H3, H4, H5, H6, HT0, HT1, HT2⟩, ⟨%f7, %hf7, HO7⟩, ⟨%f8, %hf8, HS⟩, Hk⟩
  have hT0 : (tb0).IsWhole := Memref.isWhole_whole _
  have hT1 : (tb1).IsWhole := Memref.isWhole_whole _
  have hT2 : (tb2).IsWhole := Memref.isWhole_whole _
  sl_exec (disch := first | (guard_target = k0_cond1 _ _ = _; exact h1) | (guard_target = ¬(k0_cond2 _ _ _ = _); exact h2) | (guard_target = ¬(k0_cond3 _ _ _ = _); exact h3) | (guard_target = ¬(k0_cond4 _ _ _ = _); exact h4) | (guard_target = ¬(k0_cond5 _ _ _ = _); exact h5))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  isplitl [HO7]
  · iexists _; isplitr; swap
    · iexact HO7
    · ipureintro
      exact View.read_writes_full _ _ _ _ _
  · iexists _; isplitr; swap
    · iexact HS
    · ipureintro
      exact hf8

set_option maxHeartbeats 8000000 in
/-- The second point of an unused block: nothing is stored. -/
theorem run_N (d : S512x2048.Idx → Elt F .f32) (s : S512x2048.Idx → Elt F .bf16)
    (h1 : ¬(k0_cond1 i (word1 T1) = 1#1)) (h2 : ¬(k0_cond2 i (word1 T1) (word2 i T2) = 1#1)) (h3 : ¬(k0_cond3 i (word1 T1) (word2 i T2) = 1#1)) (h4 : ¬(k0_cond4 i (word1 T1) (word2 i T2) = 1#1)) (h5 : ¬(k0_cond5 i (word1 T1) (word2 i T2) = 1#1)) :
    Runs c i arg5 harg5 arg6 harg6 arg7 harg7 arg8 harg8 arg9 harg9 arg10 harg10 arg11 harg11 arg12 harg12 arg13 harg13 T0 T1 T2 x0 x1 x2 x3 x4 x5 x6 d s (d) (s) := fun K => by
  unfold owns
  unfold body
  rw [cc0_moe_experts_eq_skeleton]; unfold cc0_moe_experts_skel
  simp only [k0_part1_eq_skeleton, k0_part2_eq_skeleton, k0_part3_eq_skeleton, k0_part4_eq_skeleton]
  unfold k0_part1_skel k0_part2_skel k0_part3_skel k0_part4_skel
  iintro ⟨⟨H0, H1, H2, H3, H4, H5, H6, HT0, HT1, HT2⟩, ⟨%f7, %hf7, HO7⟩, ⟨%f8, %hf8, HS⟩, Hk⟩
  have hT0 : (tb0).IsWhole := Memref.isWhole_whole _
  have hT1 : (tb1).IsWhole := Memref.isWhole_whole _
  have hT2 : (tb2).IsWhole := Memref.isWhole_whole _
  sl_exec (disch := first | (guard_target = ¬(k0_cond1 _ _ = _); exact h1) | (guard_target = ¬(k0_cond2 _ _ _ = _); exact h2) | (guard_target = ¬(k0_cond3 _ _ _ = _); exact h3) | (guard_target = ¬(k0_cond4 _ _ _ = _); exact h4) | (guard_target = ¬(k0_cond5 _ _ _ = _); exact h5))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  isplitl [HO7]
  · iexists _; isplitr; swap
    · iexact HO7
    · ipureintro
      exact hf7
  · iexists _; isplitr; swap
    · iexact HS
    · ipureintro
      exact hf8

set_option maxHeartbeats 8000000 in
/-- First half of the hidden units, every row: the output block is set and the scratch keeps the row block. -/
theorem run_A (d : S512x2048.Idx → Elt F .f32) (s : S512x2048.Idx → Elt F .bf16)
    (h1 : ¬(k0_cond1 i (word1 T1) = 1#1)) (h2 : k0_cond2 i (word1 T1) (word2 i T2) = 1#1) (h3 : ¬(k0_cond3 i (word1 T1) (word2 i T2) = 1#1)) (h4 : ¬(k0_cond4 i (word1 T1) (word2 i T2) = 1#1)) (h5 : ¬(k0_cond5 i (word1 T1) (word2 i T2) = 1#1)) :
    Runs c i arg5 harg5 arg6 harg6 arg7 harg7 arg8 harg8 arg9 harg9 arg10 harg10 arg11 harg11 arg12 harg12 arg13 harg13 T0 T1 T2 x0 x1 x2 x3 x4 x5 x6 d s (k0_pay2 (k0_pay9 x0 x1 x3 x2 x4) x5 x6) (k0_pay8 x0) := fun K => by
  unfold owns
  unfold body
  rw [cc0_moe_experts_eq_skeleton]; unfold cc0_moe_experts_skel
  simp only [k0_part1_eq_skeleton, k0_part2_eq_skeleton, k0_part3_eq_skeleton, k0_part4_eq_skeleton]
  unfold k0_part1_skel k0_part2_skel k0_part3_skel k0_part4_skel
  iintro ⟨⟨H0, H1, H2, H3, H4, H5, H6, HT0, HT1, HT2⟩, ⟨%f7, %hf7, HO7⟩, ⟨%f8, %hf8, HS⟩, Hk⟩
  have hT0 : (tb0).IsWhole := Memref.isWhole_whole _
  have hT1 : (tb1).IsWhole := Memref.isWhole_whole _
  have hT2 : (tb2).IsWhole := Memref.isWhole_whole _
  sl_exec (disch := first | (guard_target = ¬(k0_cond1 _ _ = _); exact h1) | (guard_target = k0_cond2 _ _ _ = _; exact h2) | (guard_target = ¬(k0_cond3 _ _ _ = _); exact h3) | (guard_target = ¬(k0_cond4 _ _ _ = _); exact h4) | (guard_target = ¬(k0_cond5 _ _ _ = _); exact h5))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  isplitl [HO7]
  · iexists _; isplitr; swap
    · iexact HO7
    · ipureintro
      exact (View.read_writes_full _ _ _ _ _).trans (congr (congr (congrArg k0_pay2 (congr5 k0_pay9 (View.readAt_rep_full _ _ _) (View.readAt_rep_full _ _ _) (View.readAt_rep_full _ _ _) (View.readAt_rep_full _ _ _) (View.readAt_rep_full _ _ _))) (View.readAt_rep_full _ _ _)) (View.readAt_rep_full _ _ _))
  · iexists _; isplitr; swap
    · iexact HS
    · ipureintro
      exact (View.read_writes_full _ _ _ _ _).trans (congrArg k0_pay8 (View.readAt_rep_full _ _ _))

set_option maxHeartbeats 8000000 in
/-- First half of the hidden units, the first 256 rows alone: the others are set to zero. -/
theorem run_B (d : S512x2048.Idx → Elt F .f32) (s : S512x2048.Idx → Elt F .bf16)
    (h1 : ¬(k0_cond1 i (word1 T1) = 1#1)) (h2 : ¬(k0_cond2 i (word1 T1) (word2 i T2) = 1#1)) (h3 : k0_cond3 i (word1 T1) (word2 i T2) = 1#1) (h4 : ¬(k0_cond4 i (word1 T1) (word2 i T2) = 1#1)) (h5 : ¬(k0_cond5 i (word1 T1) (word2 i T2) = 1#1)) :
    Runs c i arg5 harg5 arg6 harg6 arg7 harg7 arg8 harg8 arg9 harg9 arg10 harg10 arg11 harg11 arg12 harg12 arg13 harg13 T0 T1 T2 x0 x1 x2 x3 x4 x5 x6 d s (putBot (putTop d (k0_pay3 (k0_pay12 (top x0) x1 x3 x2 x4) x5 x6)) k0_pay4) (putTop s (k0_pay11 (top x0))) := fun K => by
  unfold owns
  unfold body
  rw [cc0_moe_experts_eq_skeleton]; unfold cc0_moe_experts_skel
  simp only [k0_part1_eq_skeleton, k0_part2_eq_skeleton, k0_part3_eq_skeleton, k0_part4_eq_skeleton]
  unfold k0_part1_skel k0_part2_skel k0_part3_skel k0_part4_skel
  iintro ⟨⟨H0, H1, H2, H3, H4, H5, H6, HT0, HT1, HT2⟩, ⟨%f7, %hf7, HO7⟩, ⟨%f8, %hf8, HS⟩, Hk⟩
  have hT0 : (tb0).IsWhole := Memref.isWhole_whole _
  have hT1 : (tb1).IsWhole := Memref.isWhole_whole _
  have hT2 : (tb2).IsWhole := Memref.isWhole_whole _
  sl_exec (disch := first | (guard_target = ¬(k0_cond1 _ _ = _); exact h1) | (guard_target = ¬(k0_cond2 _ _ _ = _); exact h2) | (guard_target = k0_cond3 _ _ _ = _; exact h3) | (guard_target = ¬(k0_cond4 _ _ _ = _); exact h4) | (guard_target = ¬(k0_cond5 _ _ _ = _); exact h5))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  isplitl [HO7]
  · iexists _; isplitr; swap
    · iexact HO7
    · ipureintro
      refine (View.read_writes_cons_put _ _ _ _ _ rfl).trans (congr (congrArg (fun x w => putBot x w) ?_) (Eq.refl k0_pay4))
      refine (View.read_writes_cons_put _ _ _ _ _ rfl).trans (congr (congrArg (fun x w => putTop x w) ?_) ?_)
      · rw [View.writes_nil]; exact hf7
      · exact congr (congr (congrArg k0_pay3 (congr5 k0_pay12 (View.readAt_rep_unit _ _ _ rfl inb_S512x2048_S256x2048_0_0) (View.readAt_rep_full _ _ _) (View.readAt_rep_full _ _ _) (View.readAt_rep_full _ _ _) (View.readAt_rep_full _ _ _))) (View.readAt_rep_full _ _ _)) (View.readAt_rep_full _ _ _)
  · iexists _; isplitr; swap
    · iexact HS
    · ipureintro
      refine (View.read_writes_cons_put _ _ _ _ _ rfl).trans (congr (congrArg (fun x w => putTop x w) ?_) ?_)
      · rw [View.writes_nil]; exact hf8
      · exact congrArg k0_pay11 (View.readAt_rep_unit _ _ _ rfl inb_S512x2048_S256x2048_0_0)

set_option maxHeartbeats 8000000 in
/-- Second half of the hidden units, every row: added to the output block. -/
theorem run_C (d : S512x2048.Idx → Elt F .f32) (s : S512x2048.Idx → Elt F .bf16)
    (h1 : ¬(k0_cond1 i (word1 T1) = 1#1)) (h2 : ¬(k0_cond2 i (word1 T1) (word2 i T2) = 1#1)) (h3 : ¬(k0_cond3 i (word1 T1) (word2 i T2) = 1#1)) (h4 : k0_cond4 i (word1 T1) (word2 i T2) = 1#1) (h5 : ¬(k0_cond5 i (word1 T1) (word2 i T2) = 1#1)) :
    Runs c i arg5 harg5 arg6 harg6 arg7 harg7 arg8 harg8 arg9 harg9 arg10 harg10 arg11 harg11 arg12 harg12 arg13 harg13 T0 T1 T2 x0 x1 x2 x3 x4 x5 x6 d s (k0_pay5 (k0_pay13 s x1 x3 x2 x4 x5) d) (s) := fun K => by
  unfold owns
  unfold body
  rw [cc0_moe_experts_eq_skeleton]; unfold cc0_moe_experts_skel
  simp only [k0_part1_eq_skeleton, k0_part2_eq_skeleton, k0_part3_eq_skeleton, k0_part4_eq_skeleton]
  unfold k0_part1_skel k0_part2_skel k0_part3_skel k0_part4_skel
  iintro ⟨⟨H0, H1, H2, H3, H4, H5, H6, HT0, HT1, HT2⟩, ⟨%f7, %hf7, HO7⟩, ⟨%f8, %hf8, HS⟩, Hk⟩
  have hT0 : (tb0).IsWhole := Memref.isWhole_whole _
  have hT1 : (tb1).IsWhole := Memref.isWhole_whole _
  have hT2 : (tb2).IsWhole := Memref.isWhole_whole _
  sl_exec (disch := first | (guard_target = ¬(k0_cond1 _ _ = _); exact h1) | (guard_target = ¬(k0_cond2 _ _ _ = _); exact h2) | (guard_target = ¬(k0_cond3 _ _ _ = _); exact h3) | (guard_target = k0_cond4 _ _ _ = _; exact h4) | (guard_target = ¬(k0_cond5 _ _ _ = _); exact h5))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  isplitl [HO7]
  · iexists _; isplitr; swap
    · iexact HO7
    · ipureintro
      exact (View.read_writes_full _ _ _ _ _).trans (congr (congrArg k0_pay5 (congr6 k0_pay13 ((View.readAt_full _ _ _).trans hf8) (View.readAt_rep_full _ _ _) (View.readAt_rep_full _ _ _) (View.readAt_rep_full _ _ _) (View.readAt_rep_full _ _ _) (View.readAt_rep_full _ _ _))) ((View.readAt_full _ _ _).trans hf7))
  · iexists _; isplitr; swap
    · iexact HS
    · ipureintro
      exact hf8

set_option maxHeartbeats 8000000 in
/-- Second half of the hidden units, the first 256 rows alone: added to the output block. -/
theorem run_D (d : S512x2048.Idx → Elt F .f32) (s : S512x2048.Idx → Elt F .bf16)
    (h1 : ¬(k0_cond1 i (word1 T1) = 1#1)) (h2 : ¬(k0_cond2 i (word1 T1) (word2 i T2) = 1#1)) (h3 : ¬(k0_cond3 i (word1 T1) (word2 i T2) = 1#1)) (h4 : ¬(k0_cond4 i (word1 T1) (word2 i T2) = 1#1)) (h5 : k0_cond5 i (word1 T1) (word2 i T2) = 1#1) :
    Runs c i arg5 harg5 arg6 harg6 arg7 harg7 arg8 harg8 arg9 harg9 arg10 harg10 arg11 harg11 arg12 harg12 arg13 harg13 T0 T1 T2 x0 x1 x2 x3 x4 x5 x6 d s (putTop d (k0_pay6 (k0_pay14 (top s) x1 x3 x2 x4 x5) (top d))) (s) := fun K => by
  unfold owns
  unfold body
  rw [cc0_moe_experts_eq_skeleton]; unfold cc0_moe_experts_skel
  simp only [k0_part1_eq_skeleton, k0_part2_eq_skeleton, k0_part3_eq_skeleton, k0_part4_eq_skeleton]
  unfold k0_part1_skel k0_part2_skel k0_part3_skel k0_part4_skel
  iintro ⟨⟨H0, H1, H2, H3, H4, H5, H6, HT0, HT1, HT2⟩, ⟨%f7, %hf7, HO7⟩, ⟨%f8, %hf8, HS⟩, Hk⟩
  have hT0 : (tb0).IsWhole := Memref.isWhole_whole _
  have hT1 : (tb1).IsWhole := Memref.isWhole_whole _
  have hT2 : (tb2).IsWhole := Memref.isWhole_whole _
  sl_exec (disch := first | (guard_target = ¬(k0_cond1 _ _ = _); exact h1) | (guard_target = ¬(k0_cond2 _ _ _ = _); exact h2) | (guard_target = ¬(k0_cond3 _ _ _ = _); exact h3) | (guard_target = ¬(k0_cond4 _ _ _ = _); exact h4) | (guard_target = k0_cond5 _ _ _ = _; exact h5))
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  isplitl [HO7]
  · iexists _; isplitr; swap
    · iexact HO7
    · ipureintro
      refine (View.read_writes_cons_put _ _ _ _ _ rfl).trans (congr (congrArg (fun x w => putTop x w) ?_) ?_)
      · rw [View.writes_nil]; exact hf7
      · refine congr (congrArg k0_pay6 (congr6 k0_pay14 ?_ (View.readAt_rep_full _ _ _) (View.readAt_rep_full _ _ _) (View.readAt_rep_full _ _ _) (View.readAt_rep_full _ _ _) (View.readAt_rep_full _ _ _))) ?_
        · exact (View.readAt_unit _ _ _ rfl inb_S512x2048_S256x2048_0_0).trans (congrArg top hf8)
        · exact (View.readAt_unit _ _ _ rfl inb_S512x2048_S256x2048_0_0).trans (congrArg top hf7)
  · iexists _; isplitr; swap
    · iexact HS
    · ipureintro
      exact hf8

end Cert.Kernel3Ideal.Run

end
-- ==== Proof.ExpertsCfg.lean ====
/-
  The experts' tables, conditions and grid points: what the body's words and conditions are in terms of the tables' entries, which tables keep the windows inside their arrays, and when the output block is written back.
-/
module

public import proofs.«01_k».proof.Proof.ExpertsRun
public import Idealize.ShloMosaic.Lib.Pipeline.TableIdle
public import Idealize.ShloMosaic.Lib.Pointwise

@[expose] public section

set_option maxRecDepth 16384
set_option Elab.async false

noncomputable section

namespace Cert.Kernel3Ideal.Run

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-! ## The words of the tables -/

theorem ofNat_toNat (n : ℕ) (h : n < 576) : (BitVec.ofNat 32 n).toNat = n := by
  rw [BitVec.toNat_ofNat]; exact Nat.mod_eq_of_lt (by omega)

/-- The number of used blocks is the one entry of its table. -/
theorem word1_eq (T : S1.Idx → Elt F .i32) : word1 (F := F) T = T (ix1 (0 : Fin 1)) := by
  show T _ = T _
  congr 1
  funext a
  have e : a = (0 : Fin 1) := Subsingleton.elim (α := Fin 1) _ _
  subst e
  rfl

/-- The offset of a point's entry in the tables is the point's block. -/
theorem off_eq (i : grid0.Coords) : k0_off1 i = ![(i 0).val] := by
  have h : (i 0).val < 288 := (i 0).isLt
  unfold k0_off1
  show ![(BitVec.ofNat 32 (i 0).val).toNat] = _
  rw [ofNat_toNat _ (by omega)]

/-- The number of valid rows a point reads is its block's entry. -/
theorem word2_eq (i : grid0.Coords) (T : S288.Idx → Elt F .i32) : word2 (F := F) i T = T (ix1 (i 0 : Fin 288)) := by
  show T _ = T _
  congr 1
  funext a
  refine Fin.ext ?_
  have e : a = (0 : Fin 1) := Subsingleton.elim (α := Fin 1) _ _
  subst e
  show k0_off1 i 0 + 1 * 0 = (i 0).val
  rw [off_eq]
  rfl

theorem atD1 (pf : pre0.Contents (Elt F)) : pf.atD 1 ![0] = pf 1 (ix1 (0 : Fin 1)) := by
  unfold Pipeline.Prefetch.Contents.atD
  rw [dif_pos (by decide)]
  congr 1
  funext a
  have e : a = (0 : Fin 1) := Subsingleton.elim (α := Fin 1) _ _
  subst e
  rfl

theorem atD2 (pf : pre0.Contents (Elt F)) (i : grid0.Coords) : pf.atD 2 (k0_off1 i) = pf 2 (ix1 (i 0 : Fin 288)) := by
  unfold Pipeline.Prefetch.Contents.atD
  split
  · congr 1
    funext a
    refine Fin.ext ?_
    have e : a = (0 : Fin 1) := Subsingleton.elim (α := Fin 1) _ _
    subst e
    show k0_off1 i 0 = (i 0).val
    rw [off_eq]
    rfl
  · rename_i h
    exact absurd (fun a => by
      have e : a = (0 : Fin 1) := Subsingleton.elim (α := Fin 1) _ _
      subst e
      exact k0_off1_inb i 0) h

theorem at0 (pf : pre0.Contents (Elt F)) (i : grid0.Coords) (h : ∀ a, (k0_off1 i) a + S1.size a ≤ S288.size a) :
    pf.at 0 (Rect.unit (s := S288) (k0_off1 i) S1.size h) numel1_S1 = pf 0 (ix1 (i 0 : Fin 288)) := by
  show pf 0 _ = pf 0 _
  congr 1
  funext a
  refine Fin.ext ?_
  have e : a = (0 : Fin 1) := Subsingleton.elim (α := Fin 1) _ _
  subst e
  show k0_off1 i 0 + 1 * 0 = (i 0).val
  rw [off_eq]
  rfl

theorem at1 (pf : pre0.Contents (Elt F)) (h : ∀ a, (![0] : Fin 1 → Nat) a + S1.size a ≤ S1.size a) :
    pf.at 1 (Rect.unit (s := S1) ![0] S1.size h) numel1_S1 = pf 1 (ix1 (0 : Fin 1)) := by
  show pf 1 _ = pf 1 _
  congr 1
  funext a
  have e : a = (0 : Fin 1) := Subsingleton.elim (α := Fin 1) _ _
  subst e
  rfl

/-! ## The body's conditions -/

/-- Block `b` is one of the used blocks. -/
abbrev Used (pf : pre0.Contents (Elt F)) (b : Fin 288) : Prop :=
  Scalar.cmpi .slt (BitVec.ofNat 32 b.val) (pf 1 (ix1 (0 : Fin 1)) : BitVec 32) = 1#1

/-- Block `b` has valid rows in its first half only. -/
abbrev Half (pf : pre0.Contents (Elt F)) (b : Fin 288) : Prop :=
  Scalar.cmpi .sle (pf 2 (ix1 b) : BitVec 32) 256#32 = 1#1

theorem bits (b : BitVec 1) : b = 0#1 ∨ b = 1#1 := BitVec.eq_zero_or_eq_one b

theorem second (j : Fin 2) : j = 0 ∨ j = 1 := by omega

theorem cond1_iff (i : grid0.Coords) (v0 : BitVec 32) :
    k0_cond1 i v0 = 1#1 ↔ ¬Scalar.cmpi .slt (BitVec.ofNat 32 (i 0).val) v0 = 1#1 ∧ (i 1).val = 0 := by
  unfold k0_cond1
  dsimp only
  generalize Scalar.cmpi .slt (BitVec.ofNat 32 (i 0).val) v0 = b
  have key : ∀ (b : BitVec 1) (j : Fin 2), Scalar.cmpi .ne (Scalar.extui (Scalar.andi (Scalar.xori b 1#1) (Scalar.cmpi .eq (BitVec.ofNat 32 j.val) 0#32)) : BitVec 32) 0#32 = 1#1 ↔ ¬b = 1#1 ∧ j.val = 0 := by
    intro b j
    rcases bits b with rfl | rfl <;> rcases second j with rfl | rfl <;> decide
  exact key b (i 1)

theorem cond2_iff (i : grid0.Coords) (v0 v3 : BitVec 32) :
    k0_cond2 i v0 v3 = 1#1 ↔ Scalar.cmpi .slt (BitVec.ofNat 32 (i 0).val) v0 = 1#1 ∧ (i 1).val = 0 ∧ ¬Scalar.cmpi .sle v3 256#32 = 1#1 := by
  unfold k0_cond2
  dsimp only
  generalize Scalar.cmpi .slt (BitVec.ofNat 32 (i 0).val) v0 = b
  generalize Scalar.cmpi .sle v3 256#32 = t
  have key : ∀ (b t : BitVec 1) (j : Fin 2), Scalar.cmpi .ne (Scalar.extui (Scalar.andi (Scalar.andi b (Scalar.cmpi .eq (BitVec.ofNat 32 j.val) 0#32)) (Scalar.xori t 1#1)) : BitVec 32) 0#32 = 1#1 ↔ b = 1#1 ∧ j.val = 0 ∧ ¬t = 1#1 := by
    intro b t j
    rcases bits b with rfl | rfl <;> rcases bits t with rfl | rfl <;> rcases second j with rfl | rfl <;> decide
  exact key b t (i 1)

theorem cond3_iff (i : grid0.Coords) (v0 v3 : BitVec 32) :
    k0_cond3 i v0 v3 = 1#1 ↔ Scalar.cmpi .slt (BitVec.ofNat 32 (i 0).val) v0 = 1#1 ∧ (i 1).val = 0 ∧ Scalar.cmpi .sle v3 256#32 = 1#1 := by
  unfold k0_cond3
  dsimp only
  generalize Scalar.cmpi .slt (BitVec.ofNat 32 (i 0).val) v0 = b
  generalize Scalar.cmpi .sle v3 256#32 = t
  have key : ∀ (b t : BitVec 1) (j : Fin 2), Scalar.cmpi .ne (Scalar.extui (Scalar.andi (Scalar.andi b (Scalar.cmpi .eq (BitVec.ofNat 32 j.val) 0#32)) t) : BitVec 32) 0#32 = 1#1 ↔ b = 1#1 ∧ j.val = 0 ∧ t = 1#1 := by
    intro b t j
    rcases bits b with rfl | rfl <;> rcases bits t with rfl | rfl <;> rcases second j with rfl | rfl <;> decide
  exact key b t (i 1)

theorem cond4_iff (i : grid0.Coords) (v0 v3 : BitVec 32) :
    k0_cond4 i v0 v3 = 1#1 ↔ Scalar.cmpi .slt (BitVec.ofNat 32 (i 0).val) v0 = 1#1 ∧ (i 1).val = 1 ∧ ¬Scalar.cmpi .sle v3 256#32 = 1#1 := by
  unfold k0_cond4
  dsimp only
  generalize Scalar.cmpi .slt (BitVec.ofNat 32 (i 0).val) v0 = b
  generalize Scalar.cmpi .sle v3 256#32 = t
  have key : ∀ (b t : BitVec 1) (j : Fin 2), Scalar.cmpi .ne (Scalar.extui (Scalar.andi (Scalar.andi b (Scalar.cmpi .sgt (BitVec.ofNat 32 j.val) 0#32)) (Scalar.xori t 1#1)) : BitVec 32) 0#32 = 1#1 ↔ b = 1#1 ∧ j.val = 1 ∧ ¬t = 1#1 := by
    intro b t j
    rcases bits b with rfl | rfl <;> rcases bits t with rfl | rfl <;> rcases second j with rfl | rfl <;> decide
  exact key b t (i 1)

theorem cond5_iff (i : grid0.Coords) (v0 v3 : BitVec 32) :
    k0_cond5 i v0 v3 = 1#1 ↔ Scalar.cmpi .slt (BitVec.ofNat 32 (i 0).val) v0 = 1#1 ∧ (i 1).val = 1 ∧ Scalar.cmpi .sle v3 256#32 = 1#1 := by
  unfold k0_cond5
  dsimp only
  generalize Scalar.cmpi .slt (BitVec.ofNat 32 (i 0).val) v0 = b
  generalize Scalar.cmpi .sle v3 256#32 = t
  have key : ∀ (b t : BitVec 1) (j : Fin 2), Scalar.cmpi .ne (Scalar.extui (Scalar.andi (Scalar.andi b (Scalar.cmpi .sgt (BitVec.ofNat 32 j.val) 0#32)) t) : BitVec 32) 0#32 = 1#1 ↔ b = 1#1 ∧ j.val = 1 ∧ t = 1#1 := by
    intro b t j
    rcases bits b with rfl | rfl <;> rcases bits t with rfl | rfl <;> rcases second j with rfl | rfl <;> decide
  exact key b t (i 1)

/-! ## The tables the precondition admits -/

theorem sel_le (b : BitVec 1) (n : ℕ) (h : n < 576) : (Scalar.select b (BitVec.ofNat 32 n) 0#32).toNat ≤ n := by
  unfold Scalar.select
  split
  · exact (ofNat_toNat n h).le
  · exact Nat.zero_le _

theorem add_le (b : BitVec 1) (n : ℕ) (h : n < 2) : (Scalar.addi (2#32) (Scalar.select b (BitVec.ofNat 32 n) 0#32)).toNat ≤ 2 + n := by
  have e : n = 0 ∨ n = 1 := by omega
  rcases bits b with rfl | rfl <;> rcases e with rfl | rfl <;> decide

/-- Tables whose experts are all below 32 keep every window inside its array. -/
theorem ok_of (pf : pre0.Contents (Elt F)) (h : ∀ b : Fin 288, (pf 0 (ix1 b) : BitVec 32).toNat < 32) : ok0 pf := by
  have hi : ∀ i : grid0.Coords, (i 0).val < 288 := fun i => (i 0).isLt
  have hj : ∀ i : grid0.Coords, (i 1).val < 2 := fun i => (i 1).isLt
  have he : ∀ i : grid0.Coords, (pf.at 0 (Rect.unit (s := S288) (k0_off1 i) S1.size (k0_off1_inb i)) numel1_S1 : BitVec 32).toNat < 32 := fun i => by
    rw [at0]; exact h _
  have b0 : ∀ (i : grid0.Coords) a, (cc0_transform_0 inb_S1_S1_0 numel1_S1 pf i a + 1) * S512x2048.size a ≤ S147456x2048.size a := fun i a => by
    match a with
    | ⟨0, _⟩ =>
      have := sel_le (Scalar.cmpi .slt (BitVec.ofNat 32 (i 0).val) (pf.at 1 (Rect.unit (s := S1) ![0] S1.size inb_S1_S1_0) numel1_S1)) (i 0).val (by have := hi i; omega)
      have := hi i
      show ((Scalar.select _ _ _ : BitVec 32).toNat + 1) * 512 ≤ 147456
      omega
    | ⟨1, _⟩ => show (0 + 1) * 2048 ≤ 2048; omega
  have b1 : ∀ (i : grid0.Coords) a, (cc0_transform_1 k0_off1_inb numel1_S1 inb_S1_S1_0 pf i a + 1) * S1x2048x1024.size a ≤ S32x2048x4096.size a := fun i a => by
    match a with
    | ⟨0, _⟩ => have := he i; show (BitVec.toNat (w := 32) (pf.at 0 (Rect.unit (s := S288) (k0_off1 i) S1.size (k0_off1_inb i)) numel1_S1) + 1) * 1 ≤ 32; omega
    | ⟨1, _⟩ => show (0 + 1) * 2048 ≤ 2048; omega
    | ⟨2, _⟩ =>
      have := sel_le (Scalar.cmpi .slt (BitVec.ofNat 32 (i 0).val) (pf.at 1 (Rect.unit (s := S1) ![0] S1.size inb_S1_S1_0) numel1_S1)) (i 1).val (by have := hj i; omega)
      have := hj i
      show ((Scalar.select _ _ _ : BitVec 32).toNat + 1) * 1024 ≤ 4096
      omega
  have b2 : ∀ (i : grid0.Coords) a, (cc0_transform_2 k0_off1_inb numel1_S1 inb_S1_S1_0 pf i a + 1) * S1x2048x1024.size a ≤ S32x2048x4096.size a := fun i a => by
    match a with
    | ⟨0, _⟩ => have := he i; show (BitVec.toNat (w := 32) (pf.at 0 (Rect.unit (s := S288) (k0_off1 i) S1.size (k0_off1_inb i)) numel1_S1) + 1) * 1 ≤ 32; omega
    | ⟨1, _⟩ => show (0 + 1) * 2048 ≤ 2048; omega
    | ⟨2, _⟩ =>
      have := add_le (Scalar.cmpi .slt (BitVec.ofNat 32 (i 0).val) (pf.at 1 (Rect.unit (s := S1) ![0] S1.size inb_S1_S1_0) numel1_S1)) (i 1).val (by have := hj i; omega)
      have := hj i
      show ((Scalar.addi _ (Scalar.select _ _ _) : BitVec 32).toNat + 1) * 1024 ≤ 4096
      omega
  have b3 : ∀ (i : grid0.Coords) a, (cc0_transform_3 k0_off1_inb numel1_S1 inb_S1_S1_0 pf i a + 1) * S1x1x1024.size a ≤ S32x1x4096.size a := fun i a => by
    match a with
    | ⟨0, _⟩ => have := he i; show (BitVec.toNat (w := 32) (pf.at 0 (Rect.unit (s := S288) (k0_off1 i) S1.size (k0_off1_inb i)) numel1_S1) + 1) * 1 ≤ 32; omega
    | ⟨1, _⟩ => show (0 + 1) * 1 ≤ 1; omega
    | ⟨2, _⟩ =>
      have := sel_le (Scalar.cmpi .slt (BitVec.ofNat 32 (i 0).val) (pf.at 1 (Rect.unit (s := S1) ![0] S1.size inb_S1_S1_0) numel1_S1)) (i 1).val (by have := hj i; omega)
      have := hj i
      show ((Scalar.select _ _ _ : BitVec 32).toNat + 1) * 1024 ≤ 4096
      omega
  have b4 : ∀ (i : grid0.Coords) a, (cc0_transform_4 k0_off1_inb numel1_S1 inb_S1_S1_0 pf i a + 1) * S1x1x1024.size a ≤ S32x1x4096.size a := fun i a => by
    match a with
    | ⟨0, _⟩ => have := he i; show (BitVec.toNat (w := 32) (pf.at 0 (Rect.unit (s := S288) (k0_off1 i) S1.size (k0_off1_inb i)) numel1_S1) + 1) * 1 ≤ 32; omega
    | ⟨1, _⟩ => show (0 + 1) * 1 ≤ 1; omega
    | ⟨2, _⟩ =>
      have := add_le (Scalar.cmpi .slt (BitVec.ofNat 32 (i 0).val) (pf.at 1 (Rect.unit (s := S1) ![0] S1.size inb_S1_S1_0) numel1_S1)) (i 1).val (by have := hj i; omega)
      have := hj i
      show ((Scalar.addi _ (Scalar.select _ _ _) : BitVec 32).toNat + 1) * 1024 ≤ 4096
      omega
  have b5 : ∀ (i : grid0.Coords) a, (cc0_transform_5 k0_off1_inb numel1_S1 inb_S1_S1_0 pf i a + 1) * S1x1024x2048.size a ≤ S32x2048x2048.size a := fun i a => by
    match a with
    | ⟨0, _⟩ => have := he i; show (BitVec.toNat (w := 32) (pf.at 0 (Rect.unit (s := S288) (k0_off1 i) S1.size (k0_off1_inb i)) numel1_S1) + 1) * 1 ≤ 32; omega
    | ⟨1, _⟩ =>
      have := sel_le (Scalar.cmpi .slt (BitVec.ofNat 32 (i 0).val) (pf.at 1 (Rect.unit (s := S1) ![0] S1.size inb_S1_S1_0) numel1_S1)) (i 1).val (by have := hj i; omega)
      have := hj i
      show ((Scalar.select _ _ _ : BitVec 32).toNat + 1) * 1024 ≤ 2048
      omega
    | ⟨2, _⟩ => show (0 + 1) * 2048 ≤ 2048; omega
  have b6 : ∀ (i : grid0.Coords) a, (cc0_transform_6 k0_off1_inb numel1_S1 pf i a + 1) * S1x1x2048.size a ≤ S32x1x2048.size a := fun i a => by
    match a with
    | ⟨0, _⟩ => have := he i; show (BitVec.toNat (w := 32) (pf.at 0 (Rect.unit (s := S288) (k0_off1 i) S1.size (k0_off1_inb i)) numel1_S1) + 1) * 1 ≤ 32; omega
    | ⟨1, _⟩ => show (0 + 1) * 1 ≤ 1; omega
    | ⟨2, _⟩ => show (0 + 1) * 2048 ≤ 2048; omega
  exact ⟨fun i => ⟨b0 i, .inl rfl⟩,
    fun i => ⟨b1 i, .inr (Affine.block_words_dvd (s := S32x2048x4096) (p := EltTy.packing .bf16) (by decide) (by decide))⟩,
    fun i => ⟨b2 i, .inr (Affine.block_words_dvd (s := S32x2048x4096) (p := EltTy.packing .bf16) (by decide) (by decide))⟩,
    fun i => ⟨b3 i, .inl rfl⟩, fun i => ⟨b4 i, .inl rfl⟩,
    fun i => ⟨b5 i, .inr (Affine.block_words_dvd (s := S32x2048x2048) (p := EltTy.packing .bf16) (by decide) (by decide))⟩,
    fun i => ⟨b6 i, .inl rfl⟩⟩

/-! ## The points of the grid -/

/-- Point `t` is block `t / 2`'s part `t % 2`. -/
theorem crd_val : ∀ t : Fin grid0.N, (grid0.coords t 0).val = t.val / 2 ∧ (grid0.coords t 1).val = t.val % 2 ∧ t.val < 576 :=
  by decide +kernel

/-- The output block is written back after its second part. -/
theorem flush_pt : ∀ t : Fin grid0.N,
    (true && (decide (t.val + 1 = grid0.N) || decide (∃ h : t.val + 1 < grid0.N, cc0_transform_7 (grid0.coords ⟨t.val + 1, h⟩) ≠ cc0_transform_7 (grid0.coords t)))) = decide (t.val % 2 = 1) :=
  by decide +kernel

/-- The points that store nothing into the output block are the second parts of the unused blocks. -/
theorem idle_words (i : grid0.Coords) (v0 v3 : BitVec 32) :
    (!(k0_cond1 i v0 == 1#1) && !(k0_cond2 i v0 v3 == 1#1) && !(k0_cond3 i v0 v3 == 1#1) && !(k0_cond4 i v0 v3 == 1#1) && !(k0_cond5 i v0 v3 == 1#1))
      = decide (¬Scalar.cmpi .slt (BitVec.ofNat 32 (i 0).val) v0 = 1#1 ∧ (i 1).val = 1) := by
  rw [Bool.eq_iff_iff]
  simp only [Bool.and_eq_true, Bool.not_eq_true', beq_eq_false_iff_ne, ne_eq, decide_eq_true_eq]
  rw [cond1_iff, cond2_iff, cond3_iff, cond4_iff, cond5_iff]
  have hp : (i 1).val = 0 ∨ (i 1).val = 1 := by have : (i 1).val < 2 := (i 1).isLt; omega
  rcases hp with hp | hp <;> rw [hp] <;> (simp; try tauto)

theorem idle_pt (pf : pre0.Contents (Elt F)) (i : grid0.Coords) :
    (!(k0_cond1 i (pf.atD 1 ![0]) == 1#1) && !(k0_cond2 i (pf.atD 1 ![0]) (pf.atD 2 (k0_off1 i)) == 1#1) && !(k0_cond3 i (pf.atD 1 ![0]) (pf.atD 2 (k0_off1 i)) == 1#1) && !(k0_cond4 i (pf.atD 1 ![0]) (pf.atD 2 (k0_off1 i)) == 1#1) && !(k0_cond5 i (pf.atD 1 ![0]) (pf.atD 2 (k0_off1 i)) == 1#1))
      = decide (¬Used pf (i 0) ∧ (i 1).val = 1) := by
  rw [atD1, atD2]
  exact idle_words i _ _

variable (a : (pcfg0 (F := F)).Adm)

theorem flush7 (t : Fin (cfg0 a).N) : ((cfg0 a).win 7).flush t = decide (t.val % 2 = 1) := flush_pt t

theorem idle7 (t : Fin (cfg0 a).N) (b : Fin 288) (hb : b.val = t.val / 2) :
    (cfg0 a).idle 7 ((cfg0 a).grid.coords t) = decide (¬Used a.1 b ∧ t.val % 2 = 1) := by
  obtain ⟨h0, h1, ht⟩ := crd_val t
  have e0 : (grid0.coords t 0 : Fin 288) = b := Fin.ext (h0.trans hb.symm)
  refine (idle_pt a.1 (grid0.coords t)).trans ?_
  rw [e0, h1]

end Cert.Kernel3Ideal.Run

end
-- ==== Proof.ExpertsFrame.lean ====
/-
  The experts' data: what the pipeline's buffers hold point by point, and the body at a point from the runs.
-/
module

public import proofs.«01_k».proof.Proof.ExpertsCfg
public import Idealize.ShloMosaic.Lib.Pipeline.TableIdle
public import Idealize.ShloMosaic.Lib.Pointwise

@[expose] public section

set_option maxRecDepth 16384
set_option Elab.async false

noncomputable section

namespace Cert.Kernel3Ideal.Run

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- A launch with this program's table of the launch's cells. -/
abbrev pcs : Fin 1 → Pipeline.Cfg sig Λ₀ := Pipeline.pin (pcfgs (F := F)) fun _ => a

/-- What each buffer holds when the region starts: the host operations' results over the launch memory. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem V_arg0 (c : Dev nD) : V m c main_arg0 = m ((c : Thread nD τ).loc main_arg0) := by
  unfold V; after_results

theorem V_arg1 (c : Dev nD) : V m c main_arg1 = m ((c : Thread nD τ).loc main_arg1) := by
  unfold V; after_results

theorem V_arg2 (c : Dev nD) : V m c main_arg2 = m ((c : Thread nD τ).loc main_arg2) := by
  unfold V; after_results

theorem V_arg3 (c : Dev nD) : V m c main_arg3 = m ((c : Thread nD τ).loc main_arg3) := by
  unfold V; after_results

theorem V_arg4 (c : Dev nD) : V m c main_arg4 = m ((c : Thread nD τ).loc main_arg4) := by
  unfold V; after_results

theorem V_arg5 (c : Dev nD) : V m c main_arg5 = m ((c : Thread nD τ).loc main_arg5) := by
  unfold V; after_results

theorem V_arg6 (c : Dev nD) : V m c main_arg6 = m ((c : Thread nD τ).loc main_arg6) := by
  unfold V; after_results

theorem V_arg7 (c : Dev nD) : V m c main_arg7 = m ((c : Thread nD τ).loc main_arg7) := by
  unfold V; after_results

/-! ## Blocks and staging buffers -/

/-- Point `t`'s coordinates. -/
abbrev crd (t : Fin (cfg0 a).N) : (cfg0 a).grid.Coords := (cfg0 a).grid.coords t

/-- The block of rows a point belongs to. -/
def blk (t : Fin (cfg0 a).N) : Fin 288 := ⟨t.val / 2, by have := (crd_val t).2.2; omega⟩

/-- The point before. -/
def prev (t : Fin (cfg0 a).N) : Fin (cfg0 a).N := ⟨t.val - 1, Nat.lt_of_le_of_lt (Nat.sub_le _ _) t.isLt⟩

abbrev ms0_0 (t : Fin (cfg0 a).N) : Memref sig .tc .vmem S512x2048 .f32 := spec0_0.stage ((cfg0 a).slots t (0 : Fin 8))
theorem hs0_0 (t : Fin (cfg0 a).N) : (ms0_0 a t).IsWhole := hstage0_0 (((cfg0 a).slots t (0 : Fin 8)).cast nbuf0_0)
abbrev ms0_1 (t : Fin (cfg0 a).N) : Memref sig .tc .vmem S1x2048x1024 .bf16 := spec0_1.stage ((cfg0 a).slots t (1 : Fin 8))
theorem hs0_1 (t : Fin (cfg0 a).N) : (ms0_1 a t).IsWhole := hstage0_1 (((cfg0 a).slots t (1 : Fin 8)).cast nbuf0_1)
abbrev ms0_2 (t : Fin (cfg0 a).N) : Memref sig .tc .vmem S1x2048x1024 .bf16 := spec0_2.stage ((cfg0 a).slots t (2 : Fin 8))
theorem hs0_2 (t : Fin (cfg0 a).N) : (ms0_2 a t).IsWhole := hstage0_2 (((cfg0 a).slots t (2 : Fin 8)).cast nbuf0_2)
abbrev ms0_3 (t : Fin (cfg0 a).N) : Memref sig .tc .vmem S1x1x1024 .f32 := spec0_3.stage ((cfg0 a).slots t (3 : Fin 8))
theorem hs0_3 (t : Fin (cfg0 a).N) : (ms0_3 a t).IsWhole := hstage0_3 (((cfg0 a).slots t (3 : Fin 8)).cast nbuf0_3)
abbrev ms0_4 (t : Fin (cfg0 a).N) : Memref sig .tc .vmem S1x1x1024 .f32 := spec0_4.stage ((cfg0 a).slots t (4 : Fin 8))
theorem hs0_4 (t : Fin (cfg0 a).N) : (ms0_4 a t).IsWhole := hstage0_4 (((cfg0 a).slots t (4 : Fin 8)).cast nbuf0_4)
abbrev ms0_5 (t : Fin (cfg0 a).N) : Memref sig .tc .vmem S1x1024x2048 .bf16 := spec0_5.stage ((cfg0 a).slots t (5 : Fin 8))
theorem hs0_5 (t : Fin (cfg0 a).N) : (ms0_5 a t).IsWhole := hstage0_5 (((cfg0 a).slots t (5 : Fin 8)).cast nbuf0_5)
abbrev ms0_6 (t : Fin (cfg0 a).N) : Memref sig .tc .vmem S1x1x2048 .f32 := spec0_6.stage ((cfg0 a).slots t (6 : Fin 8))
theorem hs0_6 (t : Fin (cfg0 a).N) : (ms0_6 a t).IsWhole := hstage0_6 (((cfg0 a).slots t (6 : Fin 8)).cast nbuf0_6)
abbrev ms0_7 (t : Fin (cfg0 a).N) : Memref sig .tc .vmem S512x2048 .f32 := spec0_7.stage ((cfg0 a).slots t (7 : Fin 8))
theorem hs0_7 (t : Fin (cfg0 a).N) : (ms0_7 a t).IsWhole := hstage0_7 (((cfg0 a).slots t (7 : Fin 8)).cast nbuf0_7)

/-- Window `w`'s block at point `t`, read off its array as the region finds it. -/
def iblk (c : Dev nD) (w : Fin (cfg0 a).W) (t : Fin (cfg0 a).N) : (((cfg0 a).win w).xblock (crd a t)).Idx → Elt F ((cfg0 a).win w).elt :=
  (((cfg0 a).win w).blk t).view.read (Elt F) (V m c (Pipeline.arrRef spec0 w))

abbrev x0 (c : Dev nD) (t : Fin (cfg0 a).N) : S512x2048.Idx → Elt F .f32 := iblk a m c (0 : Fin 8) t
abbrev x1 (c : Dev nD) (t : Fin (cfg0 a).N) : S1x2048x1024.Idx → Elt F .bf16 := iblk a m c (1 : Fin 8) t
abbrev x2 (c : Dev nD) (t : Fin (cfg0 a).N) : S1x2048x1024.Idx → Elt F .bf16 := iblk a m c (2 : Fin 8) t
abbrev x3 (c : Dev nD) (t : Fin (cfg0 a).N) : S1x1x1024.Idx → Elt F .f32 := iblk a m c (3 : Fin 8) t
abbrev x4 (c : Dev nD) (t : Fin (cfg0 a).N) : S1x1x1024.Idx → Elt F .f32 := iblk a m c (4 : Fin 8) t
abbrev x5 (c : Dev nD) (t : Fin (cfg0 a).N) : S1x1024x2048.Idx → Elt F .bf16 := iblk a m c (5 : Fin 8) t
abbrev x6 (c : Dev nD) (t : Fin (cfg0 a).N) : S1x1x2048.Idx → Elt F .f32 := iblk a m c (6 : Fin 8) t

/-! ## What the output block holds -/

/-- After the first part of a block. -/
def o0 (c : Dev nD) (t : Fin (cfg0 a).N) : S512x2048.Idx → Elt F .f32 :=
  if Used a.1 (blk a t) then
    if Half a.1 (blk a t) then
      putBot (putTop k0_pay1 (k0_pay3 (k0_pay12 (top (x0 a m c t)) (x1 a m c t) (x3 a m c t) (x2 a m c t) (x4 a m c t)) (x5 a m c t) (x6 a m c t))) k0_pay4
    else k0_pay2 (k0_pay9 (x0 a m c t) (x1 a m c t) (x3 a m c t) (x2 a m c t) (x4 a m c t)) (x5 a m c t) (x6 a m c t)
  else k0_pay1

/-- After the second part, whose rows are the first part's. -/
def o1 (c : Dev nD) (t : Fin (cfg0 a).N) : S512x2048.Idx → Elt F .f32 :=
  if Used a.1 (blk a t) then
    if Half a.1 (blk a t) then
      putTop (o0 a m c (prev a t)) (k0_pay6 (k0_pay14 (k0_pay11 (top (x0 a m c (prev a t)))) (x1 a m c t) (x3 a m c t) (x2 a m c t) (x4 a m c t) (x5 a m c t)) (top (o0 a m c (prev a t))))
    else k0_pay5 (k0_pay13 (k0_pay8 (x0 a m c (prev a t))) (x1 a m c t) (x3 a m c t) (x2 a m c t) (x4 a m c t) (x5 a m c t)) (o0 a m c (prev a t))
  else o0 a m c (prev a t)

/-- After point `t`. -/
def outAt (c : Dev nD) (t : Fin (cfg0 a).N) : S512x2048.Idx → Elt F .f32 :=
  if t.val % 2 = 0 then o0 a m c t else o1 a m c t

/-- Before a second part the scratch holds the narrowed rows of the first. -/
def Inv (c : Dev nD) (n : ℕ) (s : S512x2048.Idx → Elt F .bf16) : Prop :=
  ∀ t : Fin (cfg0 a).N, t.val = n → t.val % 2 = 1 → Used a.1 (blk a t) →
    (¬Half a.1 (blk a t) → s = k0_pay8 (x0 a m c (prev a t))) ∧ (Half a.1 (blk a t) → top s = k0_pay11 (top (x0 a m c (prev a t))))

theorem blk_prev (t : Fin (cfg0 a).N) (h : t.val % 2 = 1) : blk a (prev a t) = blk a t := by
  refine Fin.ext ?_
  show (t.val - 1) / 2 = t.val / 2
  omega

/-- Overwriting both halves leaves nothing of what was there. -/
theorem put_put {e : EltTy} (d d' : S512x2048.Idx → Elt F e) (p q : S256x2048.Idx → Elt F e) :
    putBot (putTop d p) q = putBot (putTop d' p) q := by
  funext y
  unfold putBot putTop VecWindow.put
  split
  · rfl
  · rename_i h
    split
    · rfl
    · rename_i h'
      exfalso
      have h0 : (y 0).val < 512 := (y 0).isLt
      have h1 : (y 1).val < 2048 := (y 1).isLt
      by_cases hy : (y 0).val < 256
      · exact h' fun j => match j with
          | ⟨0, _⟩ => ⟨Nat.zero_le _, by show (y 0).val < 0 + 256; omega⟩
          | ⟨1, _⟩ => ⟨Nat.zero_le _, by show (y 1).val < 0 + 2048; omega⟩
      · exact h fun j => match j with
          | ⟨0, _⟩ => ⟨by show 256 ≤ (y 0).val; omega, by show (y 0).val < 256 + 256; omega⟩
          | ⟨1, _⟩ => ⟨Nat.zero_le _, by show (y 1).val < 0 + 2048; omega⟩

/-! ## The data of the pipeline -/

/-- The invariant before point `n`: the scratch as the points before left it, the generator's register, the body's halves of the tables. -/
def Phi (c : Dev nD) (n : ℕ) : sProp 𝕄 :=
  iprop((∃ s, owns (c : Thread nD τ) (Memref.whole cc0_scratch0 : Memref sig .tc .vmem S512x2048 .bf16) fullShare s ∗ ⌜Inv a m c n s⌝)
    ∗ (∃ r, prngReg c r)
    ∗ ((tb0).view.loc (c : Thread nD τ) ↦{fullShare.right} a.1 0)
    ∗ ((tb1).view.loc (c : Thread nD τ) ↦{fullShare.right} a.1 1)
    ∗ ((tb2).view.loc (c : Thread nD τ) ↦{fullShare.right} a.1 2))

/-- What each window's buffer holds after each point, and the invariant between points. -/
def dats (_ : Fin 1) (c : Dev nD) : Dat τ (Elt F) Unit ℕ (UR sig nD τ) ℕ (cfg0 a) c where
  A w := V m c (Pipeline.arrRef spec0 w)
  after w t := match w with
    | ⟨0, _⟩ => iblk a m c (0 : Fin 8) t
    | ⟨1, _⟩ => iblk a m c (1 : Fin 8) t
    | ⟨2, _⟩ => iblk a m c (2 : Fin 8) t
    | ⟨3, _⟩ => iblk a m c (3 : Fin 8) t
    | ⟨4, _⟩ => iblk a m c (4 : Fin 8) t
    | ⟨5, _⟩ => iblk a m c (5 : Fin 8) t
    | ⟨6, _⟩ => iblk a m c (6 : Fin 8) t
    | ⟨7, _⟩ => outAt a m c t
  Φ t := Phi a m c t.val
  q w := Pipeline.shareOf spec0 w
  owed _ := 0

theorem after0_0 (c : Dev nD) (t : Fin (cfg0 a).N) : (dats a m 0 c).after (0 : Fin 8) t = iblk a m c (0 : Fin 8) t := rfl
theorem after0_1 (c : Dev nD) (t : Fin (cfg0 a).N) : (dats a m 0 c).after (1 : Fin 8) t = iblk a m c (1 : Fin 8) t := rfl
theorem after0_2 (c : Dev nD) (t : Fin (cfg0 a).N) : (dats a m 0 c).after (2 : Fin 8) t = iblk a m c (2 : Fin 8) t := rfl
theorem after0_3 (c : Dev nD) (t : Fin (cfg0 a).N) : (dats a m 0 c).after (3 : Fin 8) t = iblk a m c (3 : Fin 8) t := rfl
theorem after0_4 (c : Dev nD) (t : Fin (cfg0 a).N) : (dats a m 0 c).after (4 : Fin 8) t = iblk a m c (4 : Fin 8) t := rfl
theorem after0_5 (c : Dev nD) (t : Fin (cfg0 a).N) : (dats a m 0 c).after (5 : Fin 8) t = iblk a m c (5 : Fin 8) t := rfl
theorem after0_6 (c : Dev nD) (t : Fin (cfg0 a).N) : (dats a m 0 c).after (6 : Fin 8) t = iblk a m c (6 : Fin 8) t := rfl
theorem after0_7 (c : Dev nD) (t : Fin (cfg0 a).N) : (dats a m 0 c).after (7 : Fin 8) t = outAt a m c t := rfl

theorem before0_0 (c : Dev nD) (t : Fin (cfg0 a).N) (d) : (dats a m 0 c).before (0 : Fin 8) t d = iblk a m c (0 : Fin 8) t :=
  ((dats a m 0 c).before_in_eq_fetched (0 : Fin 8) rfl (fun _ => rfl) (fun _ _ _ => rfl) (fun t => by rw [after0_0]; unfold Dat.blockOf iblk; rfl) t d).trans
    (by unfold Dat.fetched Dat.blockOf iblk; rfl)

theorem before0_1 (c : Dev nD) (t : Fin (cfg0 a).N) (d) : (dats a m 0 c).before (1 : Fin 8) t d = iblk a m c (1 : Fin 8) t :=
  ((dats a m 0 c).before_in_eq_fetched (1 : Fin 8) rfl (fun _ => rfl) (fun _ _ _ => rfl) (fun t => by rw [after0_1]; unfold Dat.blockOf iblk; rfl) t d).trans
    (by unfold Dat.fetched Dat.blockOf iblk; rfl)

theorem before0_2 (c : Dev nD) (t : Fin (cfg0 a).N) (d) : (dats a m 0 c).before (2 : Fin 8) t d = iblk a m c (2 : Fin 8) t :=
  ((dats a m 0 c).before_in_eq_fetched (2 : Fin 8) rfl (fun _ => rfl) (fun _ _ _ => rfl) (fun t => by rw [after0_2]; unfold Dat.blockOf iblk; rfl) t d).trans
    (by unfold Dat.fetched Dat.blockOf iblk; rfl)

theorem before0_3 (c : Dev nD) (t : Fin (cfg0 a).N) (d) : (dats a m 0 c).before (3 : Fin 8) t d = iblk a m c (3 : Fin 8) t :=
  ((dats a m 0 c).before_in_eq_fetched (3 : Fin 8) rfl (fun _ => rfl) (fun _ _ _ => rfl) (fun t => by rw [after0_3]; unfold Dat.blockOf iblk; rfl) t d).trans
    (by unfold Dat.fetched Dat.blockOf iblk; rfl)

theorem before0_4 (c : Dev nD) (t : Fin (cfg0 a).N) (d) : (dats a m 0 c).before (4 : Fin 8) t d = iblk a m c (4 : Fin 8) t :=
  ((dats a m 0 c).before_in_eq_fetched (4 : Fin 8) rfl (fun _ => rfl) (fun _ _ _ => rfl) (fun t => by rw [after0_4]; unfold Dat.blockOf iblk; rfl) t d).trans
    (by unfold Dat.fetched Dat.blockOf iblk; rfl)

theorem before0_5 (c : Dev nD) (t : Fin (cfg0 a).N) (d) : (dats a m 0 c).before (5 : Fin 8) t d = iblk a m c (5 : Fin 8) t :=
  ((dats a m 0 c).before_in_eq_fetched (5 : Fin 8) rfl (fun _ => rfl) (fun _ _ _ => rfl) (fun t => by rw [after0_5]; unfold Dat.blockOf iblk; rfl) t d).trans
    (by unfold Dat.fetched Dat.blockOf iblk; rfl)

theorem before0_6 (c : Dev nD) (t : Fin (cfg0 a).N) (d) : (dats a m 0 c).before (6 : Fin 8) t d = iblk a m c (6 : Fin 8) t :=
  ((dats a m 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- Before a second part the output block is as the first part left it. -/
theorem before0_7 (c : Dev nD) (t : Fin (cfg0 a).N) (d) (h : t.val % 2 = 1) : (dats a m 0 c).before (7 : Fin 8) t d = o0 a m c (prev a t) := by
  have hp : (prev a t).val % 2 = 0 := by show (t.val - 1) % 2 = 0; omega
  have hfl : ((cfg0 a).win 7).flush (prev a t) = false := by rw [flush7, hp]; rfl
  have hid : (cfg0 a).idle 7 ((cfg0 a).grid.coords (prev a t)) = false := by
    rw [idle7 a (prev a t) (blk a (prev a t)) rfl, hp]; simp
  rw [(dats a m 0 c).before_of_pos (7 : Fin 8) t (by omega) (((cfg0 a).win 7).fetch_out rfl t) d]
  change (if ((cfg0 a).win 7).flush (prev a t) then d else (dats a m 0 c).left (7 : Fin 8) (prev a t) d) = _
  rw [hfl]
  have hl : (dats a m 0 c).left (7 : Fin 8) (prev a t) d = (dats a m 0 c).kept (7 : Fin 8) (prev a t) d := by
    unfold Dat.left
    split
    · rename_i hx
      exact absurd (hx.symm.trans hid) (by decide)
    · rfl
  refine (if_neg Bool.false_ne_true).trans (hl.trans ?_)
  have e : outAt a m c (prev a t) = o0 a m c (prev a t) := if_pos hp
  exact e

/-! ## The body, point by point -/

/-- The body at point `t` on its staging buffers. -/
abbrev bodyAt0 (t : Fin (cfg0 a).N) : Prog (TpuEff nD τ sig (Elt F) Λ₀ .tc) PUnit :=
  body (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _)

set_option maxHeartbeats 2000000 in
/-- From the output block and the scratch as the points before left them, the body leaves the output block at `outAt` and the scratch as the next point needs it. -/
theorem step (c : Dev nD) (t : Fin (cfg0 a).N) (d : S512x2048.Idx → Elt F .f32) (s : S512x2048.Idx → Elt F .bf16)
    (hd : t.val % 2 = 1 → d = o0 a m c (prev a t)) (hs : Inv a m c t.val s) :
    ∃ s', Inv a m c (t.val + 1) s' ∧ Runs c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (a.1 0) (a.1 1) (a.1 2) (x0 a m c t) (x1 a m c t) (x2 a m c t) (x3 a m c t) (x4 a m c t) (x5 a m c t) (x6 a m c t) d s (outAt a m c t) s' := by
  obtain ⟨h0, h1, ht⟩ := crd_val t
  have e0 : (grid0.coords t 0 : Fin 288) = blk a t := Fin.ext h0
  have hc1 := cond1_iff (grid0.coords t) (word1 (F := F) (a.1 1))
  have hc2 := cond2_iff (grid0.coords t) (word1 (F := F) (a.1 1)) (word2 (F := F) (grid0.coords t) (a.1 2))
  have hc3 := cond3_iff (grid0.coords t) (word1 (F := F) (a.1 1)) (word2 (F := F) (grid0.coords t) (a.1 2))
  have hc4 := cond4_iff (grid0.coords t) (word1 (F := F) (a.1 1)) (word2 (F := F) (grid0.coords t) (a.1 2))
  have hc5 := cond5_iff (grid0.coords t) (word1 (F := F) (a.1 1)) (word2 (F := F) (grid0.coords t) (a.1 2))
  have hu : (Scalar.cmpi .slt (BitVec.ofNat 32 (grid0.coords t 0).val) (word1 (F := F) (a.1 1)) = 1#1) = Used a.1 (blk a t) := by
    exact congrArg₂ (fun (n : ℕ) (w : BitVec 32) => (Scalar.cmpi .slt (BitVec.ofNat 32 n) w = 1#1)) h0 (word1_eq (F := F) (a.1 1))
  have hh : (Scalar.cmpi .sle (word2 (F := F) (grid0.coords t) (a.1 2)) 256#32 = 1#1) = Half a.1 (blk a t) := by
    exact congrArg (fun w : BitVec 32 => (Scalar.cmpi .sle w 256#32 = 1#1)) ((word2_eq (F := F) (grid0.coords t) (a.1 2)).trans (congrArg (fun b : Fin 288 => a.1 2 (ix1 b)) e0))
  rw [hu, h1] at hc1
  rw [hu, hh, h1] at hc2 hc3 hc4 hc5
  by_cases hp : t.val % 2 = 0
  · have eo : outAt a m c t = o0 a m c t := if_pos hp
    have hn : (t.val + 1) % 2 = 1 := by omega
    rw [eo]
    by_cases u : Used a.1 (blk a t)
    · by_cases q : Half a.1 (blk a t)
      · refine ⟨putTop s (k0_pay11 (top (x0 a m c t))), ?_, ?_⟩
        · intro t' e h2 u'
          have ep : prev a t' = t := Fin.ext (by show t'.val - 1 = t.val; omega)
          have eb : blk a t' = blk a t := by rw [← ep, blk_prev a t' h2]
          rw [eb, ep]
          exact ⟨fun hq => absurd q hq, fun _ => VecWindow.window_put_same _ _ _ _ _⟩
        · have r := run_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (a.1 0) (a.1 1) (a.1 2) (x0 a m c t) (x1 a m c t) (x2 a m c t) (x3 a m c t) (x4 a m c t) (x5 a m c t) (x6 a m c t) d s
            (fun h => absurd u (hc1.mp h).1) (fun h => absurd q (hc2.mp h).2.2) (hc3.mpr ⟨u, hp, q⟩) (fun h => absurd (hc4.mp h).2.1 (by omega)) (fun h => absurd (hc5.mp h).2.1 (by omega))
          have e : o0 a m c t = putBot (putTop d (k0_pay3 (k0_pay12 (top (x0 a m c t)) (x1 a m c t) (x3 a m c t) (x2 a m c t) (x4 a m c t)) (x5 a m c t) (x6 a m c t))) k0_pay4 := by
            unfold o0; rw [if_pos u, if_pos q]; exact put_put _ _ _ _
          rw [e]; exact r
      · refine ⟨k0_pay8 (x0 a m c t), ?_, ?_⟩
        · intro t' e h2 u'
          have ep : prev a t' = t := Fin.ext (by show t'.val - 1 = t.val; omega)
          have eb : blk a t' = blk a t := by rw [← ep, blk_prev a t' h2]
          rw [eb, ep]
          exact ⟨fun _ => rfl, fun hq => absurd hq q⟩
        · have r := run_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (a.1 0) (a.1 1) (a.1 2) (x0 a m c t) (x1 a m c t) (x2 a m c t) (x3 a m c t) (x4 a m c t) (x5 a m c t) (x6 a m c t) d s
            (fun h => absurd u (hc1.mp h).1) (hc2.mpr ⟨u, hp, q⟩) (fun h => absurd (hc3.mp h).2.2 q) (fun h => absurd (hc4.mp h).2.1 (by omega)) (fun h => absurd (hc5.mp h).2.1 (by omega))
          have e : o0 a m c t = k0_pay2 (k0_pay9 (x0 a m c t) (x1 a m c t) (x3 a m c t) (x2 a m c t) (x4 a m c t)) (x5 a m c t) (x6 a m c t) := by
            unfold o0; rw [if_pos u, if_neg q]
          rw [e]; exact r
    · refine ⟨s, ?_, ?_⟩
      · intro t' e h2 u'
        have ep : prev a t' = t := Fin.ext (by show t'.val - 1 = t.val; omega)
        have eb : blk a t' = blk a t := by rw [← ep, blk_prev a t' h2]
        rw [eb] at u'
        exact absurd u' u
      · have r := run_Z c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (a.1 0) (a.1 1) (a.1 2) (x0 a m c t) (x1 a m c t) (x2 a m c t) (x3 a m c t) (x4 a m c t) (x5 a m c t) (x6 a m c t) d s
          (hc1.mpr ⟨u, hp⟩) (fun h => absurd (hc2.mp h).1 u) (fun h => absurd (hc3.mp h).1 u) (fun h => absurd (hc4.mp h).1 u) (fun h => absurd (hc5.mp h).1 u)
        have e : o0 a m c t = k0_pay1 := by unfold o0; rw [if_neg u]
        rw [e]; exact r
  · have hp1 : t.val % 2 = 1 := by omega
    have eo : outAt a m c t = o1 a m c t := if_neg hp
    have hI : Inv a m c (t.val + 1) s := fun t' e h2 _ => absurd h2 (by omega)
    rw [eo, hd hp1]
    refine ⟨s, hI, ?_⟩
    by_cases u : Used a.1 (blk a t)
    · by_cases q : Half a.1 (blk a t)
      · have r := run_D c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (a.1 0) (a.1 1) (a.1 2) (x0 a m c t) (x1 a m c t) (x2 a m c t) (x3 a m c t) (x4 a m c t) (x5 a m c t) (x6 a m c t) (o0 a m c (prev a t)) s
          (fun h => absurd u (hc1.mp h).1) (fun h => absurd (hc2.mp h).2.1 hp) (fun h => absurd (hc3.mp h).2.1 hp) (fun h => absurd q (hc4.mp h).2.2) (hc5.mpr ⟨u, hp1, q⟩)
        rw [(hs t rfl hp1 u).2 q] at r
        have e : o1 a m c t = putTop (o0 a m c (prev a t)) (k0_pay6 (k0_pay14 (k0_pay11 (top (x0 a m c (prev a t)))) (x1 a m c t) (x3 a m c t) (x2 a m c t) (x4 a m c t) (x5 a m c t)) (top (o0 a m c (prev a t)))) := by
          unfold o1; rw [if_pos u, if_pos q]
        rw [e]; exact r
      · have r := run_C c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (a.1 0) (a.1 1) (a.1 2) (x0 a m c t) (x1 a m c t) (x2 a m c t) (x3 a m c t) (x4 a m c t) (x5 a m c t) (x6 a m c t) (o0 a m c (prev a t)) s
          (fun h => absurd u (hc1.mp h).1) (fun h => absurd (hc2.mp h).2.1 hp) (fun h => absurd (hc3.mp h).2.1 hp) (hc4.mpr ⟨u, hp1, q⟩) (fun h => absurd (hc5.mp h).2.2 q)
        have e : o1 a m c t = k0_pay5 (k0_pay13 s (x1 a m c t) (x3 a m c t) (x2 a m c t) (x4 a m c t) (x5 a m c t)) (o0 a m c (prev a t)) := by
          unfold o1; rw [if_pos u, if_neg q, (hs t rfl hp1 u).1 q]
        rw [e]; exact r
    · have r := run_N c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (Memref.whole cc0_scratch0) (Memref.isWhole_whole _) (a.1 0) (a.1 1) (a.1 2) (x0 a m c t) (x1 a m c t) (x2 a m c t) (x3 a m c t) (x4 a m c t) (x5 a m c t) (x6 a m c t) (o0 a m c (prev a t)) s
        (fun h => absurd (hc1.mp h).2 hp) (fun h => absurd (hc2.mp h).1 u) (fun h => absurd (hc3.mp h).1 u) (fun h => absurd (hc4.mp h).1 u) (fun h => absurd (hc5.mp h).1 u)
      have e : o1 a m c t = o0 a m c (prev a t) := by unfold o1; rw [if_neg u]
      rw [e]; exact r

set_option maxHeartbeats 4000000 in
/-- What the body does at point `t`, window by window. -/
theorem sound_point (c : Dev nD) (t : Fin (cfg0 a).N) :
    iprop((dats a m 0 c).Φ t.castSucc ∗ (dats a m 0 c).owesAt () t.castSucc
        ∗ (∃ d, owns (c : Thread nD τ) (ms0_0 a t) fullShare ((dats a m 0 c).before (0 : Fin 8) t d))
        ∗ (∃ d, owns (c : Thread nD τ) (ms0_1 a t) fullShare ((dats a m 0 c).before (1 : Fin 8) t d))
        ∗ (∃ d, owns (c : Thread nD τ) (ms0_2 a t) fullShare ((dats a m 0 c).before (2 : Fin 8) t d))
        ∗ (∃ d, owns (c : Thread nD τ) (ms0_3 a t) fullShare ((dats a m 0 c).before (3 : Fin 8) t d))
        ∗ (∃ d, owns (c : Thread nD τ) (ms0_4 a t) fullShare ((dats a m 0 c).before (4 : Fin 8) t d))
        ∗ (∃ d, owns (c : Thread nD τ) (ms0_5 a t) fullShare ((dats a m 0 c).before (5 : Fin 8) t d))
        ∗ (∃ d, owns (c : Thread nD τ) (ms0_6 a t) fullShare ((dats a m 0 c).before (6 : Fin 8) t d))
        ∗ (∃ d, owns (c : Thread nD τ) (ms0_7 a t) fullShare ((dats a m 0 c).before (7 : Fin 8) t d)))
      ⊢ wp frame (wpE (defs₀ (F := F)) Variants.none c none) Set.univ (bodyAt0 a t) fun _ =>
          iprop((dats a m 0 c).Φ t.succ ∗ (dats a m 0 c).owesAt () t.succ
            ∗ owns (c : Thread nD τ) (ms0_0 a t) fullShare (iblk a m c (0 : Fin 8) t)
            ∗ owns (c : Thread nD τ) (ms0_1 a t) fullShare (iblk a m c (1 : Fin 8) t)
            ∗ owns (c : Thread nD τ) (ms0_2 a t) fullShare (iblk a m c (2 : Fin 8) t)
            ∗ owns (c : Thread nD τ) (ms0_3 a t) fullShare (iblk a m c (3 : Fin 8) t)
            ∗ owns (c : Thread nD τ) (ms0_4 a t) fullShare (iblk a m c (4 : Fin 8) t)
            ∗ owns (c : Thread nD τ) (ms0_5 a t) fullShare (iblk a m c (5 : Fin 8) t)
            ∗ owns (c : Thread nD τ) (ms0_6 a t) fullShare (iblk a m c (6 : Fin 8) t)
            ∗ owns (c : Thread nD τ) (ms0_7 a t) fullShare (outAt a m c t)) := by
  simp only [before0_0, before0_1, before0_2, before0_3, before0_4, before0_5, before0_6]
  rewrite [show (dats a m 0 c).Φ t.succ = Phi a m c (t.val + 1) from rfl, show (dats a m 0 c).Φ t.castSucc = Phi a m c t.val from rfl,
    show (dats a m 0 c).owesAt () t.succ = (dats a m 0 c).owesAt () t.castSucc from rfl]
  unfold Phi
  iintro ⟨⟨⟨%s, HS, %hs⟩, Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨s', hs', r⟩ := step a m c t _ s (fun h => before0_7 a m c t d7 h) hs
  iapply (r _)
  isplitl [H0 H1 H2 H3 H4 H5 H6 HT0 HT1 HT2]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    iexact HT2
  isplitl [H7]; · iexact H7
  isplitl [HS]; · iexact HS
  iintro ⟨⟨H0, H1, H2, H3, H4, H5, H6, HT0, HT1, HT2⟩, H7, HS⟩
  isplitl [HS Hg HT0 HT1 HT2]
  · isplitl [HS]
    · iexists s'
      isplitl [HS]
      · iexact HS
      · ipureintro; exact hs'
    isplitl [Hg]; · iexact Hg
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  iexact H7

end Cert.Kernel3Ideal.Run

end
-- ==== Proof.ExpertsLaunch.lean ====
/-
  The experts' certificate: the body's obligation at every point, and the launch.
-/
module

public import proofs.«01_k».proof.Proof.ExpertsFrame
public import Idealize.ShloMosaic.Lib.Pipeline.TableIdle
public import Idealize.ShloMosaic.Lib.Pointwise

@[expose] public section

set_option maxRecDepth 16384
set_option Elab.async false

noncomputable section

namespace Cert.Kernel3Ideal.Run

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
/-- The body's obligation at point `t`: an idle point is one that writes the block back. -/
theorem post7 (c : Dev nD) (t : Fin (cfg0 a).N) :
    owns (c : Thread nD τ) (ms0_7 a t) fullShare (outAt a m c t)
      ⊢ (match (cfg0 a).idle 7 ((cfg0 a).grid.coords t) with
        | true =>
          match ((cfg0 a).win 7).flush t with
          | false => iprop(∃ d, owns (c : Thread nD τ) (((cfg0 a).win 7).stage ((cfg0 a).slots t 7)) fullShare ((dats a m 0 c).before 7 t d))
          | true => owns (c : Thread nD τ) (((cfg0 a).win 7).stage ((cfg0 a).slots t 7)) fullShare ((dats a m 0 c).after 7 t)
        | false => owns (c : Thread nD τ) (((cfg0 a).win 7).stage ((cfg0 a).slots t 7)) fullShare ((dats a m 0 c).after 7 t) : sProp 𝕄) := by
  have hf := flush7 a t
  have hi := idle7 a t (blk a t) rfl
  split
  · rename_i h
    have hd := of_decide_eq_true (hi.symm.trans h)
    split
    · rename_i h'
      exact absurd (h'.symm.trans (hf.trans (decide_eq_true hd.2))) (by decide)
    · exact .rfl
  · exact .rfl

set_option maxHeartbeats 4000000 in
/-- The body's obligation at every point. -/
theorem body_obligation (c : Dev nD) : BodyObligation (dats a m 0 c) (defs₀ (F := F)) Variants.none () Set.univ := fun t => by
  rw [bigSep_W0]
  refine triple_restated (sound_point a m c t) rfl .rfl fun _ => ?_
  rw [bigSep_W0]
  exact sep_mono .rfl (sep_mono .rfl (sep_mono .rfl (sep_mono .rfl (sep_mono .rfl (sep_mono .rfl (sep_mono .rfl (sep_mono .rfl (sep_mono .rfl (post7 a m c t)))))))))

/-! ## The launch -/

/-- The tables as the launch hands them to the region, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem hin (c : Dev nD) : iprop(Pipeline.ΦA spec0 c ∗ Pipeline.ΦT pre0 a.1 c) ⊢ (dats a m 0 c).Φ 0 := by
  rw [show (dats a m 0 c).Φ 0 = Phi a m c 0 from rfl]
  unfold Pipeline.ΦA Pipeline.ΦT Phi
  rw [prefHeld_eq, scopedRest0_eq]
  simp only [owns_whole]
  iintro ⟨⟨⟨%f, HS⟩, Hg⟩, HT0, HT1, HT2⟩
  isplitl [HS]
  · iexists f
    isplitl [HS]
    · iexact HS
    · ipureintro; exact fun t e h _ => absurd h (by omega)
  isplitl [Hg]; · iexact Hg
  isplitl [HT0]; · iexact HT0
  isplitl [HT1]; · iexact HT1
  iexact HT2

theorem hout (c : Dev nD) : (dats a m 0 c).Φ (Fin.last (cfg0 a).N) ⊢ Pipeline.ΦA spec0 c := by
  rw [show (dats a m 0 c).Φ (Fin.last (cfg0 a).N) = Phi a m c (cfg0 a).N from rfl]
  unfold Pipeline.ΦA Phi
  rw [scopedRest0_eq]
  simp only [owns_whole]
  iintro ⟨⟨%f, HS, -⟩, Hg, -, -, -⟩
  isplitl [HS]
  · iexists f
    iexact HS
  iexact Hg

theorem hmain : Pipeline.HMainP (Ix := Unit) (Name := ℕ) (U := UR sig nD τ) (Lvl := ℕ) (pcfgs (F := F)) 0 defs₀ Variants.none m (main (F := F)) (V m) :=
  Pipeline.hmainP_prefix pcfgs 0 defs₀ Variants.none m main hostOps0 hostOps0_sub hostOps0_fresh main_chain

/-- The tables a launch memory holds are the ones the region runs at. -/
abbrev Held0 : Prop := ∀ (c : Dev nD) (k : Fin 3), m ((c : Thread nD τ).loc (pre0.ref k)) = a.1 k

theorem hpf (h : Held0 a m) (c : Dev nD) (k : Fin 3) : V m c (pre0.ref k) = a.1 k := by
  refine Eq.trans ?_ (h c k)
  match k with
  | ⟨0, _⟩ => exact V_arg0 m c
  | ⟨1, _⟩ => exact V_arg1 m c
  | ⟨2, _⟩ => exact V_arg2 m c

set_option backward.isDefEq.respectTransparency.types false in
set_option maxHeartbeats 4000000 in
/-- Every execution from a memory with these tables terminates, each window's array at what the data say, every other buffer as the region found it, every counter at zero. -/
theorem run_main_quiescent (h : Held0 a m) : θ_run (defs (F := F)) (onTc (τ := τ) (main (F := F))) (s₀ m ρ)
    (fun r => Pipeline.FramePost (pcs a) (dats a m) 0 (V m) r ∧ r.2.sem = fun _ => 0) :=
  Pipeline.θ_run_frameP_track_shared (Q' := _) pcfgs (fun _ => a) (dats a m) (0 : Fin 1) launch₀0 defs₀ Variants.none m ρ main
    (hbody := fun c => (body_obligation a m c).loose) (hq := fun _ _ _ => rfl)
    (howed := fun _ _ => rfl) (V := V m) (hmain := hmain m) (hA := fun _ _ => rfl) (hpf := hpf a m h) (hin := hin a m) (hout := hout a m)

theorem run_main (h : Held0 a m) : θ_run (defs (F := F)) (onTc (τ := τ) (main (F := F))) (s₀ m ρ)
    (Pipeline.FramePost (pcs a) (dats a m) 0 (V m)) :=
  (θ_run defs _ _).mono (fun _ h => h.1) (run_main_quiescent a m ρ h)

end Cert.Kernel3Ideal.Run

end
-- ==== Proof.Experts.lean ====
/-
  The experts' certificate: its frame, from the precondition on the table of experts.
-/
module

public import proofs.«01_k».proof.Proof.ExpertsLaunch
public import proofs.«01_k».proof.Pre_ranges
public import Idealize.ShloMosaic.Lib.Pipeline.TableIdle
public import Idealize.ShloMosaic.Lib.Pointwise

@[expose] public section

set_option maxRecDepth 16384
set_option Elab.async false

noncomputable section

namespace Cert.Kernel3Ideal.Run

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-! ## The experts' frame -/

/-- A signed word at least 0 and less than 32 is one of the 32 experts. -/
theorem toNat_lt (x : BitVec 32) (h : IntOp.cmpi .sge x 0#32 &&& IntOp.cmpi .slt x 32#32 = 1#1) : x.toNat < 32 := by
  unfold IntOp.cmpi at h
  have h1 : (0#32).sle x = true := by
    cases hd : (0#32).sle x
    · simp only [hd] at h; simp at h
    · rfl
  have h2 : x.slt 32#32 = true := by
    cases hd : x.slt 32#32
    · simp only [hd] at h; simp at h
    · rfl
  have a1 : (0 : Int) ≤ x.toInt := by simpa [BitVec.sle] using h1
  have a2 : x.toInt < 32 := by simpa [BitVec.slt] using h2
  have := x.isLt
  rw [BitVec.toInt_eq_toNat_cond] at a1 a2
  split at a1 <;> omega

/-- The tables a launch memory holds. -/
def tables : pre0.Contents (Elt F) := fun k => m (((0 : Dev nD) : Thread nD τ).loc (pre0.ref k))

/-- What the precondition says of the table of experts. -/
def InRange : Prop := ∀ (c : Dev nD) (b : Fin 288), (m ((c : Thread nD τ).loc main_arg0) (ix1 b) : BitVec 32).toNat < 32

/-- The launch memory's tables, admitted. -/
def adm (h : InRange m) : (pcfg0 (F := F)).Adm := ⟨tables m, ok_of (tables m) fun b => h 0 b⟩

theorem held0 (h : InRange m) : Held0 (adm m h) m := fun c k => by
  have e : c = (0 : Fin 1) := Subsingleton.elim (α := Fin 1) _ _
  subst e; rfl

/-- The arguments a final memory holds are the launch's. -/
theorem unchanged (r : PUnit × _) (h : Pipeline.FramePost (pcs a) (dats a m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  have hr := (h c).2
  ⟨(hr main_arg0 (Pipeline.mem_restRefs_of (win := spec0) main_arg0 (by decide) (by decide))).trans (V_arg0 m c),
    (hr main_arg1 (Pipeline.mem_restRefs_of (win := spec0) main_arg1 (by decide) (by decide))).trans (V_arg1 m c),
    (hr main_arg2 (Pipeline.mem_restRefs_of (win := spec0) main_arg2 (by decide) (by decide))).trans (V_arg2 m c),
    (((h c).1 (0 : Fin 8)).trans ((dats a m 0 c).arrAt_in (0 : Fin 8) rfl _)).trans (V_arg3 m c),
    (hr main_arg4 (Pipeline.mem_restRefs_of (win := spec0) main_arg4 (by decide) (by decide))).trans (V_arg4 m c),
    (hr main_arg5 (Pipeline.mem_restRefs_of (win := spec0) main_arg5 (by decide) (by decide))).trans (V_arg5 m c),
    (hr main_arg6 (Pipeline.mem_restRefs_of (win := spec0) main_arg6 (by decide) (by decide))).trans (V_arg6 m c),
    (hr main_arg7 (Pipeline.mem_restRefs_of (win := spec0) main_arg7 (by decide) (by decide))).trans (V_arg7 m c)⟩

/-- Every execution from a memory whose experts exist terminates, its arguments as they were, every counter at zero. -/
theorem frame (h : InRange m) : θ_run (defs (F := F)) (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) ∧ r.2.sem = fun _ => 0) :=
  (θ_run defs _ _).mono (fun r h => ⟨fun c => unchanged _ m r h.1 c, h.2⟩) (run_main_quiescent (adm m h) m ρ (held0 m h))

/-- The precondition's shapes fit. -/
theorem facts_ranges : Cert.Pre_ranges.Facts := ⟨by decide⟩

/-- The precondition, read at one entry of the table. -/
theorem inRange_of [Cert.Pre_ranges.Facts]
    (h : ∀ c : Dev nD, Cert.Pre_ranges.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    InRange m := fun c b => toNat_lt _ (congrFun (h c) (ix1 b))

end Cert.Kernel3Ideal.Run

end
-- ==== Proof.ExpertsBits.lean ====
/-
  The experts' program before idealization has the ideal program's text: its run is the same run.
-/
module

public import proofs.«01_k».proof.Defs
public import proofs.«01_k».proof.Proof.Experts
public import proofs.«01_k».proof.Proof.Gen.Kernel3

@[expose] public section

noncomputable section

namespace Cert.Proof

open Idealize.ShloMosaic Idealize.SL.Sem

set_option maxRecDepth 16384

/-- The bodies are the same. -/
theorem body_same : @Cert.Kernel3.cc0_moe_experts Bits _ _ = @Cert.Kernel3Ideal.cc0_moe_experts Bits _ _ := rfl

/-- The labels' bodies are the same. -/
theorem defs0_same : Cert.Kernel3.defs₀ (F := Bits) = Cert.Kernel3Ideal.defs₀ (F := Bits) := by
  refine congrArg Defs.onTc (funext fun l => funext fun x => ?_)
  obtain rfl : l = (0 : Fin 1) := Subsingleton.elim (α := Fin 1) _ _
  obtain ⟨t, q⟩ := x
  rfl

/-- The body tables are the same. -/
theorem defs_same : Cert.Kernel3.defs (F := Bits) = Cert.Kernel3Ideal.defs (F := Bits) :=
  congrArg (Pipeline.defs (Cert.Kernel3Ideal.pcfgs (F := Bits))) defs0_same

/-- The entries are the same. -/
theorem main_same : Cert.Kernel3.main (F := Bits) = Cert.Kernel3Ideal.main (F := Bits) := rfl

/-- The precondition of the one is the other's. -/
theorem range_of [Cert.Pre_ranges.Facts] (m : (ℓ : Loc Cert.Kernel3.nD Cert.Kernel3.τ Cert.Kernel3.sig) → Buf (Elt Bits) ℓ) (h : Cert.Pre_Kernel3 m) :
    Cert.Kernel3Ideal.Run.InRange (F := Bits) m := Cert.Kernel3Ideal.Run.inRange_of (F := Bits) m h

/-- The experts' kernel runs to the end and leaves its arguments as they were. -/
theorem frame_kernel3 [Cert.Pre_ranges.Facts] : Cert.quiescent_Kernel3 := by
  intro m g h
  have k := Cert.Kernel3Ideal.Run.frame (F := Bits) m g (range_of m h)
  rw [← defs_same, ← main_same] at k
  exact k

end Cert.Proof
-- ==== Proof.ExpertsBlk.lean ====
/-
  The experts' blocks at one entry.
-/
module

public import proofs.«01_k».proof.Defs
public import proofs.«01_k».proof.Proof.Gen.Kernel3Ideal.Skeleton
public import proofs.«01_k».proof.Proof.ExpertsFrame
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Kernel3Ideal.Run

open Cert.Kernel3Ideal Cert.Kernel3Ideal.Gen

variable (a : (pcfg0 (F := Ideal)).Adm) (m : (ℓ : Loc nD τ sig) → Buf (Elt Ideal) ℓ) (c : Dev nD) (t : Fin (cfg0 a).N)

/-- The expert of the point's block. -/
abbrev IsE (e : Fin 32) : Prop := (a.1 0 (ix1 (blk a t)) : BitVec 32).toNat = e.val

theorem sel_one (b : BitVec 1) (hb : b = 1#1) (n : ℕ) (h : n < 576) : (Scalar.select b (BitVec.ofNat 32 n) 0#32 : BitVec 32).toNat = n := by
  subst hb
  show (BitVec.ofNat 32 n).toNat = n
  exact ofNat_toNat n h

theorem add_one (b : BitVec 1) (hb : b = 1#1) (n : ℕ) (h : n < 2) : (Scalar.addi 2#32 (Scalar.select b (BitVec.ofNat 32 n) 0#32) : BitVec 32).toNat = 2 + n := by
  subst hb
  have hn : n = 0 ∨ n = 1 := by omega
  rcases hn with rfl | rfl <;> decide

theorem coord0 : (grid0.coords t 0 : Fin 288) = blk a t := Fin.ext (crd_val t).1

/-- The condition of the index maps, on a used block. -/
theorem cond_used (h : Used a.1 (blk a t)) :
    Scalar.cmpi .slt (BitVec.ofNat 32 (grid0.coords t 0).val) (a.1.at 1 (Rect.unit (s := S1) ![0] S1.size inb_S1_S1_0) numel1_S1) = 1#1 := by
  rw [at1, show (grid0.coords t 0).val = (blk a t).val from (crd_val t).1]
  exact h

theorem tab_e (e : Fin 32) (he : IsE a t e) :
    BitVec.toNat (w := 32) (a.1.at 0 (Rect.unit (s := S288) (k0_off1 (grid0.coords t)) S1.size (k0_off1_inb (grid0.coords t))) numel1_S1) = e.val := by
  rw [at0, coord0 a t]
  exact he

/-- The rows' block. -/
theorem x0_at (h : Used a.1 (blk a t)) (r : Fin 512) (d : Fin 2048) :
    x0 a m c t (ix2 r d) = (m ((c : Thread nD τ).loc main_arg3) : FVec Ideal S147456x2048 .f32) (ix2 ⟨t.val / 2 * 512 + r.val, by have := (crd_val t).2.2; omega⟩ d) := by
  refine Eq.trans ?_ (congrFun (V_arg3 m c) _)
  refine congrArg (V m c main_arg3) (funext fun j => Fin.ext ?_)
  have ht := (crd_val t).2.2
  match j with
  | ⟨0, _⟩ =>
    have e := sel_one _ (cond_used a t h) (grid0.coords t 0).val (by have := (crd_val t).1; omega)
    show (Scalar.select _ _ _ : BitVec 32).toNat * 512 + 1 * r.val = t.val / 2 * 512 + r.val
    rw [e, (crd_val t).1]; omega
  | ⟨1, _⟩ => show 0 * 2048 + 1 * d.val = d.val; omega

/-- The weights' columns of the gate. -/
theorem x1_at (h : Used a.1 (blk a t)) (e : Fin 32) (he : IsE a t e) (d : Fin 2048) (k : Fin 1024) :
    x1 a m c t (ix3 0 d k) = (V m c main_v0 : FVec Ideal S32x2048x4096 .bf16) (ix3 e d ⟨t.val % 2 * 1024 + k.val, by omega⟩) := by
  refine congrArg (V m c main_v0) (funext fun j => Fin.ext ?_)
  match j with
  | ⟨0, _⟩ =>
    exact (congrArg (fun z : ℕ => z * 1 + 1 * 0) (tab_e a t e he)).trans (by show e.val * 1 + 1 * 0 = e.val; omega)
  | ⟨1, _⟩ => show 0 * 2048 + 1 * d.val = d.val; omega
  | ⟨2, _⟩ =>
    have s := sel_one _ (cond_used a t h) (grid0.coords t 1).val (by have := (crd_val t).2.1; omega)
    show (Scalar.select _ _ _ : BitVec 32).toNat * 1024 + 1 * k.val = t.val % 2 * 1024 + k.val
    rw [s, (crd_val t).2.1]; omega

/-- The weights' columns of the up half. -/
theorem x2_at (h : Used a.1 (blk a t)) (e : Fin 32) (he : IsE a t e) (d : Fin 2048) (k : Fin 1024) :
    x2 a m c t (ix3 0 d k) = (V m c main_v0 : FVec Ideal S32x2048x4096 .bf16) (ix3 e d ⟨2048 + (t.val % 2 * 1024 + k.val), by omega⟩) := by
  refine congrArg (V m c main_v0) (funext fun j => Fin.ext ?_)
  match j with
  | ⟨0, _⟩ =>
    exact (congrArg (fun z : ℕ => z * 1 + 1 * 0) (tab_e a t e he)).trans (by show e.val * 1 + 1 * 0 = e.val; omega)
  | ⟨1, _⟩ => show 0 * 2048 + 1 * d.val = d.val; omega
  | ⟨2, _⟩ =>
    have s := add_one _ (cond_used a t h) (grid0.coords t 1).val (by have := (crd_val t).2.1; omega)
    show (Scalar.addi _ (Scalar.select _ _ _) : BitVec 32).toNat * 1024 + 1 * k.val = 2048 + (t.val % 2 * 1024 + k.val)
    rw [s, (crd_val t).2.1]; omega

/-- The gate's bias. -/
theorem x3_at (h : Used a.1 (blk a t)) (e : Fin 32) (he : IsE a t e) (k : Fin 1024) :
    x3 a m c t (ix3 0 0 k) = (V m c main_v1 : FVec Ideal S32x1x4096 .f32) (ix3 e 0 ⟨t.val % 2 * 1024 + k.val, by omega⟩) := by
  refine congrArg (V m c main_v1) (funext fun j => Fin.ext ?_)
  match j with
  | ⟨0, _⟩ =>
    exact (congrArg (fun z : ℕ => z * 1 + 1 * 0) (tab_e a t e he)).trans (by show e.val * 1 + 1 * 0 = e.val; omega)
  | ⟨1, _⟩ => rfl
  | ⟨2, _⟩ =>
    have s := sel_one _ (cond_used a t h) (grid0.coords t 1).val (by have := (crd_val t).2.1; omega)
    show (Scalar.select _ _ _ : BitVec 32).toNat * 1024 + 1 * k.val = t.val % 2 * 1024 + k.val
    rw [s, (crd_val t).2.1]; omega

/-- The up half's bias. -/
theorem x4_at (h : Used a.1 (blk a t)) (e : Fin 32) (he : IsE a t e) (k : Fin 1024) :
    x4 a m c t (ix3 0 0 k) = (V m c main_v1 : FVec Ideal S32x1x4096 .f32) (ix3 e 0 ⟨2048 + (t.val % 2 * 1024 + k.val), by omega⟩) := by
  refine congrArg (V m c main_v1) (funext fun j => Fin.ext ?_)
  match j with
  | ⟨0, _⟩ =>
    exact (congrArg (fun z : ℕ => z * 1 + 1 * 0) (tab_e a t e he)).trans (by show e.val * 1 + 1 * 0 = e.val; omega)
  | ⟨1, _⟩ => rfl
  | ⟨2, _⟩ =>
    have s := add_one _ (cond_used a t h) (grid0.coords t 1).val (by have := (crd_val t).2.1; omega)
    show (Scalar.addi _ (Scalar.select _ _ _) : BitVec 32).toNat * 1024 + 1 * k.val = 2048 + (t.val % 2 * 1024 + k.val)
    rw [s, (crd_val t).2.1]; omega

/-- The rows of the second product's weights. -/
theorem x5_at (h : Used a.1 (blk a t)) (e : Fin 32) (he : IsE a t e) (k : Fin 1024) (n : Fin 2048) :
    x5 a m c t (ix3 0 k n) = (V m c main_v2 : FVec Ideal S32x2048x2048 .bf16) (ix3 e ⟨t.val % 2 * 1024 + k.val, by omega⟩ n) := by
  refine congrArg (V m c main_v2) (funext fun j => Fin.ext ?_)
  match j with
  | ⟨0, _⟩ =>
    exact (congrArg (fun z : ℕ => z * 1 + 1 * 0) (tab_e a t e he)).trans (by show e.val * 1 + 1 * 0 = e.val; omega)
  | ⟨1, _⟩ =>
    have s := sel_one _ (cond_used a t h) (grid0.coords t 1).val (by have := (crd_val t).2.1; omega)
    show (Scalar.select _ _ _ : BitVec 32).toNat * 1024 + 1 * k.val = t.val % 2 * 1024 + k.val
    rw [s, (crd_val t).2.1]; omega
  | ⟨2, _⟩ => show 0 * 2048 + 1 * n.val = n.val; omega

/-- The second product's bias. -/
theorem x6_at (e : Fin 32) (he : IsE a t e) (n : Fin 2048) :
    x6 a m c t (ix3 0 0 n) = (V m c main_v3 : FVec Ideal S32x1x2048 .f32) (ix3 e 0 n) := by
  refine congrArg (V m c main_v3) (funext fun j => Fin.ext ?_)
  match j with
  | ⟨0, _⟩ =>
    exact (congrArg (fun z : ℕ => z * 1 + 1 * 0) (tab_e a t e he)).trans (by show e.val * 1 + 1 * 0 = e.val; omega)
  | ⟨1, _⟩ => rfl
  | ⟨2, _⟩ => show 0 * 2048 + 1 * n.val = n.val; omega

/-- The weights the call reads are the argument, narrowed. -/
theorem V_v0 : (V m c main_v0 : FVec Ideal S32x2048x4096 .bf16) = (truncf (F := Ideal) .bf16 (m ((c : Thread nD τ).loc main_arg4) : FVec Ideal S32x2048x4096 .f32) bitsLt_bf16_f32 : FVec Ideal _ .bf16) := by
  simp only [V, hostOps0]
  after_results <;> rfl

theorem V_v2 : (V m c main_v2 : FVec Ideal S32x2048x2048 .bf16) = (truncf (F := Ideal) .bf16 (m ((c : Thread nD τ).loc main_arg6) : FVec Ideal S32x2048x2048 .f32) bitsLt_bf16_f32 : FVec Ideal _ .bf16) := by
  simp only [V, hostOps0]
  after_results <;> rfl

theorem V_v1 : (V m c main_v1 : FVec Ideal S32x1x4096 .f32) = shapeCast S32x1x4096 (m ((c : Thread nD τ).loc main_arg5) : FVec Ideal S32x4096 .f32) shapeCasts_S32x4096_S32x1x4096 := by
  simp only [V, hostOps0]
  after_results <;> rfl

theorem V_v3 : (V m c main_v3 : FVec Ideal S32x1x2048 .f32) = shapeCast S32x1x2048 (m ((c : Thread nD τ).loc main_arg7) : FVec Ideal S32x2048 .f32) shapeCasts_S32x2048_S32x1x2048 := by
  simp only [V, hostOps0]
  after_results <;> rfl

theorem row1_at (w : FVec Ideal S32x4096 .f32) (e : Fin 32) (k : Fin 4096) : shapeCast S32x1x4096 w shapeCasts_S32x4096_S32x1x4096 (ix3 e 0 k) = w (ix2 e k) := by
  pointwise []

theorem row3_at (w : FVec Ideal S32x2048 .f32) (e : Fin 32) (k : Fin 2048) : shapeCast S32x1x2048 w shapeCasts_S32x2048_S32x1x2048 (ix3 e 0 k) = w (ix2 e k) := by
  pointwise []

end Cert.Kernel3Ideal.Run

end
-- ==== Proof.ExpertsPay.lean ====
/-
  The experts' stores at one entry.
-/
module

public import proofs.«01_k».proof.Defs
public import proofs.«01_k».proof.Proof.Gen.Kernel3Ideal.Skeleton
public import proofs.«01_k».proof.Proof.ExpertsRun
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Kernel3Ideal.Run

open Cert.Kernel3Ideal Cert.Kernel3Ideal.Gen

/-- The gated activation of one hidden unit: `g` from above at 7, `u` between −7 and 7. -/
def swiglu (g u : EReal) : EReal :=
  (min (FloatOps.ofBits (F := Ideal) .f32 0x40E00000#32 : EReal) (max (FloatOps.ofBits (F := Ideal) .f32 0xC0E00000#32 : EReal) u) + (FloatOps.ofBits (F := Ideal) .f32 0x3F800000#32 : EReal))
    * (min g (FloatOps.ofBits (F := Ideal) .f32 0x40E00000#32 : EReal)
      * Ideal.logistic ((FloatOps.ofBits (F := Ideal) .f32 0x3FD9DB23#32 : EReal) * min g (FloatOps.ofBits (F := Ideal) .f32 0x40E00000#32 : EReal)))

/-- A row's hidden unit: the two products, their biases, the gate. -/
def hid (x : Fin 2048 → EReal) (wg : Fin 2048 → EReal) (bg : EReal) (wu : Fin 2048 → EReal) (bu : EReal) : EReal :=
  swiglu ((∑ d : Fin 2048, x d * wg d) + bg) ((∑ d : Fin 2048, x d * wu d) + bu)

theorem pay9_at (x : FVec Ideal S512x2048 .f32) (wg wu : FVec Ideal S1x2048x1024 .bf16) (bg bu : FVec Ideal S1x1x1024 .f32) (r : Fin 512) (k : Fin 1024) :
    k0_pay9 (F := Ideal) x wg bg wu bu (ix2 r k)
      = hid (fun d => x (ix2 r d)) (fun d => wg (ix3 0 d k)) (bg (ix3 0 0 k)) (fun d => wu (ix3 0 d k)) (bu (ix3 0 0 k)) := by
  pointwise [k0_pay9, k0_pay7, hid, swiglu]

theorem pay2_at (v : FVec Ideal S512x1024 .bf16) (wd : FVec Ideal S1x1024x2048 .bf16) (bd : FVec Ideal S1x1x2048 .f32) (r : Fin 512) (n : Fin 2048) :
    k0_pay2 (F := Ideal) v wd bd (ix2 r n) = (∑ k : Fin 1024, v (ix2 r k) * wd (ix3 0 k n)) + bd (ix3 0 0 n) := by
  pointwise [k0_pay2]

theorem pay12_at (x : FVec Ideal S256x2048 .f32) (wg wu : FVec Ideal S1x2048x1024 .bf16) (bg bu : FVec Ideal S1x1x1024 .f32) (r : Fin 256) (k : Fin 1024) :
    k0_pay12 (F := Ideal) x wg bg wu bu (ix2 r k)
      = hid (fun d => x (ix2 r d)) (fun d => wg (ix3 0 d k)) (bg (ix3 0 0 k)) (fun d => wu (ix3 0 d k)) (bu (ix3 0 0 k)) := by
  pointwise [k0_pay12, k0_pay10, hid, swiglu]

theorem pay3_at (v : FVec Ideal S256x1024 .bf16) (wd : FVec Ideal S1x1024x2048 .bf16) (bd : FVec Ideal S1x1x2048 .f32) (r : Fin 256) (n : Fin 2048) :
    k0_pay3 (F := Ideal) v wd bd (ix2 r n) = (∑ k : Fin 1024, v (ix2 r k) * wd (ix3 0 k n)) + bd (ix3 0 0 n) := by
  pointwise [k0_pay3]

theorem pay13_at (x : FVec Ideal S512x2048 .bf16) (wg wu : FVec Ideal S1x2048x1024 .bf16) (bg bu : FVec Ideal S1x1x1024 .f32) (wd : FVec Ideal S1x1024x2048 .bf16) (r : Fin 512) (n : Fin 2048) :
    k0_pay13 (F := Ideal) x wg bg wu bu wd (ix2 r n)
      = ∑ k : Fin 1024, hid (fun d => x (ix2 r d)) (fun d => wg (ix3 0 d k)) (bg (ix3 0 0 k)) (fun d => wu (ix3 0 d k)) (bu (ix3 0 0 k)) * wd (ix3 0 k n) := by
  pointwise [k0_pay13, hid, swiglu]

theorem pay14_at (x : FVec Ideal S256x2048 .bf16) (wg wu : FVec Ideal S1x2048x1024 .bf16) (bg bu : FVec Ideal S1x1x1024 .f32) (wd : FVec Ideal S1x1024x2048 .bf16) (r : Fin 256) (n : Fin 2048) :
    k0_pay14 (F := Ideal) x wg bg wu bu wd (ix2 r n)
      = ∑ k : Fin 1024, hid (fun d => x (ix2 r d)) (fun d => wg (ix3 0 d k)) (bg (ix3 0 0 k)) (fun d => wu (ix3 0 d k)) (bu (ix3 0 0 k)) * wd (ix3 0 k n) := by
  pointwise [k0_pay14, hid, swiglu]

theorem pay5_at (y z : FVec Ideal S512x2048 .f32) (r : Fin 512) (n : Fin 2048) : k0_pay5 (F := Ideal) y z (ix2 r n) = z (ix2 r n) + y (ix2 r n) := by
  pointwise [k0_pay5]

theorem pay6_at (y z : FVec Ideal S256x2048 .f32) (r : Fin 256) (n : Fin 2048) : k0_pay6 (F := Ideal) y z (ix2 r n) = z (ix2 r n) + y (ix2 r n) := by
  pointwise [k0_pay6]

theorem pay8_at (x : FVec Ideal S512x2048 .f32) (r : Fin 512) (d : Fin 2048) : k0_pay8 (F := Ideal) x (ix2 r d) = x (ix2 r d) := by
  pointwise [k0_pay8, k0_pay7]

theorem pay11_at (x : FVec Ideal S256x2048 .f32) (r : Fin 256) (d : Fin 2048) : k0_pay11 (F := Ideal) x (ix2 r d) = x (ix2 r d) := by
  pointwise [k0_pay11, k0_pay10]

theorem pay1_at (r : Fin 512) (n : Fin 2048) : k0_pay1 (F := Ideal) (ix2 r n) = (0 : EReal) := by
  pointwise [k0_pay1]

theorem pay4_at (r : Fin 256) (n : Fin 2048) : k0_pay4 (F := Ideal) (ix2 r n) = (0 : EReal) := by
  pointwise [k0_pay4]

/-- The upper half of a block. -/
theorem top_at {e : EltTy} (x : S512x2048.Idx → Elt Ideal e) (r : Fin 256) (d : Fin 2048) : top x (ix2 r d) = x (ix2 ⟨r.val, by omega⟩ d) := by
  show x _ = x _
  refine congrArg x (funext fun j => Fin.ext ?_)
  match j with
  | ⟨0, _⟩ => show 0 + 1 * r.val = r.val; omega
  | ⟨1, _⟩ => show 0 + 1 * d.val = d.val; omega

theorem putTop_lo {e : EltTy} (x : S512x2048.Idx → Elt Ideal e) (v : S256x2048.Idx → Elt Ideal e) (r : Fin 512) (d : Fin 2048) (h : r.val < 256) :
    putTop x v (ix2 r d) = v (ix2 ⟨r.val, h⟩ d) := by
  unfold putTop VecWindow.put
  rw [dif_pos (fun j => match j with
    | ⟨0, _⟩ => ⟨Nat.zero_le _, by show r.val < 0 + 256; omega⟩
    | ⟨1, _⟩ => ⟨Nat.zero_le _, by show d.val < 0 + 2048; omega⟩)]
  refine congrArg v (funext fun j => Fin.ext ?_)
  match j with
  | ⟨0, _⟩ => show r.val - 0 = r.val; omega
  | ⟨1, _⟩ => show d.val - 0 = d.val; omega

theorem putTop_hi {e : EltTy} (x : S512x2048.Idx → Elt Ideal e) (v : S256x2048.Idx → Elt Ideal e) (r : Fin 512) (d : Fin 2048) (h : ¬r.val < 256) :
    putTop x v (ix2 r d) = x (ix2 r d) := by
  unfold putTop VecWindow.put
  exact dif_neg fun hh => h (by have : r.val < 0 + 256 := (hh 0).2; omega)

theorem putBot_lo {e : EltTy} (x : S512x2048.Idx → Elt Ideal e) (v : S256x2048.Idx → Elt Ideal e) (r : Fin 512) (d : Fin 2048) (h : r.val < 256) :
    putBot x v (ix2 r d) = x (ix2 r d) := by
  unfold putBot VecWindow.put
  exact dif_neg fun hh => by have : 256 ≤ r.val := (hh 0).1; omega

theorem putBot_hi {e : EltTy} (x : S512x2048.Idx → Elt Ideal e) (v : S256x2048.Idx → Elt Ideal e) (r : Fin 512) (d : Fin 2048) (h : ¬r.val < 256) :
    putBot x v (ix2 r d) = v (ix2 ⟨r.val - 256, by omega⟩ d) := by
  unfold putBot VecWindow.put
  rw [dif_pos (fun j => match j with
    | ⟨0, _⟩ => ⟨by show 256 ≤ r.val; omega, by show r.val < 256 + 256; omega⟩
    | ⟨1, _⟩ => ⟨Nat.zero_le _, by show d.val < 0 + 2048; omega⟩)]
  refine congrArg v (funext fun j => Fin.ext ?_)
  match j with
  | ⟨0, _⟩ => rfl
  | ⟨1, _⟩ => show d.val - 0 = d.val; omega

end Cert.Kernel3Ideal.Run

end
-- ==== Proof.ExpertsVal.lean ====
/-
  The experts' result array.
-/
module

public import proofs.«01_k».proof.Defs
public import proofs.«01_k».proof.Proof.Gen.Kernel3Ideal.Skeleton
public import proofs.«01_k».proof.Proof.Experts
public import proofs.«01_k».proof.Proof.ExpertsBlk
public import proofs.«01_k».proof.Proof.ExpertsPay
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Kernel3Ideal.Run

open Cert.Kernel3Ideal Cert.Kernel3Ideal.Gen

variable (m : (ℓ : Loc nD τ sig) → Buf (Elt Ideal) ℓ) (c : Dev nD)

/-- The rows as launched. -/
abbrev AX : FVec Ideal S147456x2048 .f32 := m ((c : Thread nD τ).loc main_arg3)
/-- The first product's weights as launched. -/
abbrev AW : FVec Ideal S32x2048x4096 .f32 := m ((c : Thread nD τ).loc main_arg4)
/-- The first product's biases as launched. -/
abbrev AB : FVec Ideal S32x4096 .f32 := m ((c : Thread nD τ).loc main_arg5)
/-- The second product's weights as launched. -/
abbrev AD : FVec Ideal S32x2048x2048 .f32 := m ((c : Thread nD τ).loc main_arg6)
/-- The second product's biases as launched. -/
abbrev AE : FVec Ideal S32x2048 .f32 := m ((c : Thread nD τ).loc main_arg7)

/-- Hidden unit `k` of row `R` under expert `e`. -/
def unit (X : FVec Ideal S147456x2048 .f32) (W : FVec Ideal S32x2048x4096 .f32) (B : FVec Ideal S32x4096 .f32) (e : Fin 32) (R : Fin 147456) (k : Fin 2048) : EReal :=
  hid (fun d => X (ix2 R d)) (fun d => W (ix3 e d ⟨k.val, by omega⟩)) (B (ix2 e ⟨k.val, by omega⟩))
    (fun d => W (ix3 e d ⟨2048 + k.val, by omega⟩)) (B (ix2 e ⟨2048 + k.val, by omega⟩))

/-- What hidden unit `k` adds to column `n`. -/
def term (e : Fin 32) (R : Fin 147456) (n k : Fin 2048) : EReal := unit (AX m c) (AW m c) (AB m c) e R k * AD m c (ix3 e k n)

theorem hid_congr {x x' wg wg' wu wu' : Fin 2048 → EReal} {bg bg' bu bu' : EReal} (h0 : ∀ d, x d = x' d) (h1 : ∀ d, wg d = wg' d) (h2 : bg = bg')
    (h3 : ∀ d, wu d = wu' d) (h4 : bu = bu') : hid x wg bg wu bu = hid x' wg' bg' wu' bu' := by
  rw [funext h0, funext h1, h2, funext h3, h4]

theorem split2 (f : Fin 2048 → EReal) : ∑ k : Fin 2048, f k = (∑ k : Fin 1024, f ⟨k.val, by omega⟩) + ∑ k : Fin 1024, f ⟨1024 + k.val, by omega⟩ :=
  Fin.sum_univ_add (a := 1024) (b := 1024) f

variable (a : (pcfg0 (F := Ideal)).Adm) (t : Fin (cfg0 a).N)

/-- The row of the result that row `r` of the point's block is. -/
def row (r : Fin 512) : Fin 147456 := ⟨t.val / 2 * 512 + r.val, by have := (crd_val t).2.2; omega⟩

/-- Column of the point's half. -/
def col (k : Fin 1024) : Fin 2048 := ⟨t.val % 2 * 1024 + k.val, by omega⟩

/-- One point's sum over its half of the hidden units; its rows may be an earlier point's of the same block. -/
theorem part_at (s : Fin (cfg0 a).N) (hs : blk a s = blk a t) (h : Used a.1 (blk a t)) (e : Fin 32) (he : IsE a t e) (r : Fin 512) (n : Fin 2048) :
    (∑ k : Fin 1024, hid (fun d => x0 a m c s (ix2 r d)) (fun d => x1 a m c t (ix3 0 d k)) (x3 a m c t (ix3 0 0 k)) (fun d => x2 a m c t (ix3 0 d k)) (x4 a m c t (ix3 0 0 k))
        * x5 a m c t (ix3 0 k n))
      = ∑ k : Fin 1024, term m c e (row a t r) n (col a t k) := by
  refine Finset.sum_congr rfl fun k _ => ?_
  refine congrArg₂ (· * ·) (hid_congr ?_ ?_ ?_ ?_ ?_) ?_
  · intro d
    rw [x0_at a m c s (by rw [hs]; exact h)]
    have e2 : s.val / 2 = t.val / 2 := congrArg Fin.val hs
    exact congrArg (AX m c) (congrArg (fun z => ix2 z d) (Fin.ext (by show s.val / 2 * 512 + r.val = t.val / 2 * 512 + r.val; rw [e2])))
  · intro d
    rw [x1_at a m c t h e he, V_v0]; rfl
  · rw [x3_at a m c t h e he, V_v1, row1_at]; rfl
  · intro d
    rw [x2_at a m c t h e he, V_v0]; rfl
  · rw [x4_at a m c t h e he, V_v1, row1_at]; rfl
  · rw [x5_at a m c t h e he, V_v2]; rfl

theorem bias_at (e : Fin 32) (he : IsE a t e) (n : Fin 2048) : x6 a m c t (ix3 0 0 n) = AE m c (ix2 e n) := by
  rw [x6_at a m c t e he, V_v3, row3_at]

/-- The rows of a block that hold tokens. -/
abbrev Live (b : Fin 288) (r : Fin 512) : Prop := Used a.1 b ∧ (r.val < 256 ∨ ¬Half a.1 b)

/-- After a first part. -/
theorem o0_at (e : Fin 32) (he : IsE a t e) (r : Fin 512) (n : Fin 2048) :
    o0 a m c t (ix2 r n) = if Live a (blk a t) r then (∑ k : Fin 1024, term m c e (row a t r) n (col a t k)) + AE m c (ix2 e n) else 0 := by
  unfold o0
  by_cases hu : Used a.1 (blk a t)
  · rw [if_pos hu]
    by_cases hh : Half a.1 (blk a t)
    · rw [if_pos hh]
      by_cases hr : r.val < 256
      · rw [if_pos ⟨hu, Or.inl hr⟩, putBot_lo _ _ _ _ hr, putTop_lo _ _ _ _ hr, pay3_at, bias_at m c a t e he]
        refine congrArg (· + _) (Eq.trans ?_ (part_at m c a t t rfl hu e he r n))
        refine Finset.sum_congr rfl fun k _ => ?_
        rw [pay12_at]
        refine congrArg (· * _) (hid_congr (fun d => top_at _ _ _) (fun _ => rfl) rfl (fun _ => rfl) rfl)
      · rw [if_neg (fun q => q.2.elim hr (fun z => z hh)), putBot_hi _ _ _ _ hr, pay4_at]
    · rw [if_neg hh, if_pos ⟨hu, Or.inr hh⟩, pay2_at, bias_at m c a t e he]
      refine congrArg (· + _) (Eq.trans ?_ (part_at m c a t t rfl hu e he r n))
      refine Finset.sum_congr rfl fun k _ => ?_
      rw [pay9_at]
  · rw [if_neg hu, if_neg (fun q => hu q.1), pay1_at]

/-- After a second part: the whole sum. -/
theorem o1_at (ht : t.val % 2 = 1) (e : Fin 32) (he : IsE a t e) (r : Fin 512) (n : Fin 2048) :
    o1 a m c t (ix2 r n) = if Live a (blk a t) r then (∑ k : Fin 2048, term m c e (row a t r) n k) + AE m c (ix2 e n) else 0 := by
  have hb := blk_prev a t ht
  have he' : IsE a (prev a t) e := by unfold IsE; rw [hb]; exact he
  have hrow : row a (prev a t) r = row a t r := Fin.ext (by show (t.val - 1) / 2 * 512 + r.val = t.val / 2 * 512 + r.val; omega)
  have hc0 : ∀ k, col a (prev a t) k = ⟨k.val, by omega⟩ := fun k => Fin.ext (by show (t.val - 1) % 2 * 1024 + k.val = k.val; omega)
  have hc1 : ∀ k, col a t k = ⟨1024 + k.val, by omega⟩ := fun k => Fin.ext (by show t.val % 2 * 1024 + k.val = 1024 + k.val; omega)
  have H0 := o0_at m c a (prev a t) e he' r n
  rw [hb, hrow] at H0
  simp only [hc0] at H0
  have hsum : ∀ q : EReal, ((∑ k : Fin 1024, term m c e (row a t r) n ⟨k.val, by omega⟩) + q) + (∑ k : Fin 1024, term m c e (row a t r) n (col a t k))
      = (∑ k : Fin 2048, term m c e (row a t r) n k) + q := fun q => by
    simp only [hc1]
    rw [split2, add_right_comm]
  unfold o1
  by_cases hu : Used a.1 (blk a t)
  · rw [if_pos hu]
    by_cases hh : Half a.1 (blk a t)
    · rw [if_pos hh]
      by_cases hr : r.val < 256
      · rw [if_pos ⟨hu, Or.inl hr⟩] at H0 ⊢
        rw [putTop_lo _ _ _ _ hr, pay6_at, top_at, pay14_at, ← hsum]
        refine congrArg₂ (· + ·) H0 (Eq.trans ?_ (part_at m c a t (prev a t) hb hu e he r n))
        refine Finset.sum_congr rfl fun k _ => ?_
        refine congrArg (· * _) (hid_congr (fun d => (pay11_at _ _ _).trans (top_at _ _ _)) (fun _ => rfl) rfl (fun _ => rfl) rfl)
      · have hl : ¬Live a (blk a t) r := fun q => q.2.elim hr (fun z => z hh)
        rw [if_neg hl] at H0 ⊢
        rw [putTop_hi _ _ _ _ hr, H0]
    · rw [if_neg hh]
      rw [if_pos ⟨hu, Or.inr hh⟩] at H0 ⊢
      rw [pay5_at, pay13_at, ← hsum]
      refine congrArg₂ (· + ·) H0 (Eq.trans ?_ (part_at m c a t (prev a t) hb hu e he r n))
      refine Finset.sum_congr rfl fun k _ => ?_
      refine congrArg (· * _) (hid_congr (fun d => pay8_at _ _ _) (fun _ => rfl) rfl (fun _ => rfl) rfl)
  · have hl : ¬Live a (blk a t) r := fun q => hu q.1
    rw [if_neg hu, H0, if_neg hl, if_neg hl]

/-- The expert of a row, from the table. -/
def expertOf (h : InRange m) (R : Fin 147456) : Fin 32 := ⟨(m ((c : Thread nD τ).loc main_arg0) (ix1 (⟨R.val / 512, by omega⟩ : Fin 288)) : BitVec 32).toNat, h c _⟩

/-- The experts' result: every row that holds a token through its expert, the others zero. -/
def G (h : InRange m) : FVec Ideal S147456x2048 .f32 := fun i =>
  if Live (adm m h) (⟨(i 0 : Fin 147456).val / 512, by have : (i 0 : Fin 147456).val < 147456 := (i 0 : Fin 147456).isLt; omega⟩ : Fin 288) ⟨(i 0 : Fin 147456).val % 512, by omega⟩
  then (∑ k : Fin 2048, term m c (expertOf m c h (i 0)) (i 0) (i 1) k) + AE m c (ix2 (expertOf m c h (i 0)) (i 1)) else 0

/-- The output block's place in the result. -/
theorem emb7 (r : Fin 512) (n : Fin 2048) : ((((cfg0 a).win 7).blk t).view.emb (ix2 r n) : S147456x2048.Idx) = ix2 (row a t r) n := by
  funext j
  refine Fin.ext ?_
  match j with
  | ⟨0, _⟩ =>
    show (BitVec.ofNat 32 (grid0.coords t 0).val).toNat * 512 + 1 * r.val = t.val / 2 * 512 + r.val
    have ht := (crd_val t).2.2
    rw [ofNat_toNat _ (by have := (crd_val t).1; omega), (crd_val t).1]; omega
  | ⟨1, _⟩ => show 0 * 2048 + 1 * n.val = n.val; omega

/-- What a point that writes its block back leaves is the result there. -/
theorem out_at (h : InRange m) (t : Fin (cfg0 (adm m h)).N) (ht : t.val % 2 = 1) (r : Fin 512) (n : Fin 2048) :
    outAt (adm m h) m c t (ix2 r n) = G m c h (ix2 (row (adm m h) t r) n) := by
  have ec : c = (0 : Fin 1) := Subsingleton.elim (α := Fin 1) _ _
  subst ec
  have hb : (⟨(row (adm m h) t r).val / 512, by omega⟩ : Fin 288) = blk (adm m h) t := Fin.ext (by show (t.val / 2 * 512 + r.val) / 512 = t.val / 2; omega)
  have hr : (⟨(row (adm m h) t r).val % 512, by omega⟩ : Fin 512) = r := Fin.ext (by show (t.val / 2 * 512 + r.val) % 512 = r.val; omega)
  have he : IsE (adm m h) t (expertOf m 0 h (row (adm m h) t r)) := by
    show (m (((0 : Dev nD) : Thread nD τ).loc main_arg0) (ix1 (blk (adm m h) t)) : BitVec 32).toNat = (m (((0 : Dev nD) : Thread nD τ).loc main_arg0) (ix1 (⟨(row (adm m h) t r).val / 512, _⟩ : Fin 288)) : BitVec 32).toNat
    rw [hb]
  unfold outAt
  rw [if_neg (by omega), o1_at m 0 (adm m h) t ht _ he]
  unfold G
  show _ = if Live (adm m h) (⟨(row (adm m h) t r).val / 512, _⟩ : Fin 288) (⟨(row (adm m h) t r).val % 512, _⟩ : Fin 512) then _ else _
  rw [hb, hr]; rfl

/-- The result array after the last point. -/
theorem final (h : InRange m) : (dats (adm m h) m 0 c).arrAt 7 (cfg0 (adm m h)).N = G m c h := by
  refine (dats (adm m h) m 0 c).arrAt_eq_of_emb 7 _ (fun t hf (y : S512x2048.Idx) => ?_) (fun (i : S147456x2048.Idx) => ?_)
  · have ht : t.val % 2 = 1 := by
      have := (flush7 (adm m h) t).symm.trans hf
      exact of_decide_eq_true this
    obtain ⟨r, n, rfl⟩ : ∃ (r : Fin 512) (n : Fin 2048), y = ix2 r n := ⟨y 0, y 1, eq_ix2 y⟩
    refine Eq.trans ?_ ((out_at m c h t ht r n).trans (congrArg (G m c h) (emb7 (adm m h) t r n).symm))
    rfl
  · obtain ⟨R, n, rfl⟩ : ∃ (R : Fin 147456) (n : Fin 2048), i = ix2 R n := ⟨i 0, i 1, eq_ix2 i⟩
    have hR := R.isLt
    have hN : (cfg0 (adm m h)).N = 576 := by show grid0.N = 576; decide +kernel
    let t : Fin (cfg0 (adm m h)).N := ⟨R.val / 512 * 2 + 1, by rw [hN]; omega⟩
    refine ⟨t, (flush7 (adm m h) t).trans (decide_eq_true (by show (R.val / 512 * 2 + 1) % 2 = 1; omega)), ?_⟩
    have e : (ix2 R n : S147456x2048.Idx) = (((cfg0 (adm m h)).win 7).blk t).view.emb (ix2 (⟨R.val % 512, by omega⟩ : Fin 512) n) := by
      rw [emb7]
      refine congrArg (fun z => ix2 z n) (Fin.ext ?_)
      show R.val = (R.val / 512 * 2 + 1) / 2 * 512 + R.val % 512
      omega
    rw [e]
    exact View.emb_mem_set _ _

end Cert.Kernel3Ideal.Run

end
-- ==== Proof.ExpertsRef.lean ====
/-
  The experts' reference at one entry.
-/
module

public import proofs.«01_k».proof.Defs
public import proofs.«01_k».proof.Proof.Gen.Reference3Ideal.Read
public import proofs.«01_k».proof.Proof.ExpertsPay
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Lib.Pointwise

@[expose] public section

set_option maxRecDepth 16384

noncomputable section

open Idealize.ShloMosaic Idealize.ShloMosaic.TcCoe Idealize.SL.Sem
open Cert.Kernel3Ideal.Run (hid swiglu)

namespace Cert.Reference3Ideal.Experts

open Cert.Reference3Ideal Cert.Reference3Ideal.Gen Cert.Reference3Ideal.Read
/-- A word below 32 picks the row of its number: nothing is clamped. -/
theorem clamp (w : BitVec 32) (h : w.toNat < 32) : min w.toInt.toNat 31 = w.toNat := by
  have : w.toInt = w.toNat := by
    rw [BitVec.toInt_eq_toNat_cond]; split <;> omega
  rw [this]; omega

variable (x0 : (⟨S288, .i32⟩ : BufTy).Contents (Elt Ideal)) (x1 : (⟨S1, .i32⟩ : BufTy).Contents (Elt Ideal)) (x2 : (⟨S288, .i32⟩ : BufTy).Contents (Elt Ideal))
  (x3 : (⟨S147456x2048, .f32⟩ : BufTy).Contents (Elt Ideal)) (x4 : (⟨S32x2048x4096, .f32⟩ : BufTy).Contents (Elt Ideal)) (x5 : (⟨S32x4096, .f32⟩ : BufTy).Contents (Elt Ideal))
  (x6 : (⟨S32x2048x2048, .f32⟩ : BufTy).Contents (Elt Ideal)) (x7 : (⟨S32x2048, .f32⟩ : BufTy).Contents (Elt Ideal))

variable (h : ∀ b : Fin 288, (x0 (ix1 b) : BitVec 32).toNat < 32)

/-- The expert of block `b`. -/
abbrev ex (b : Fin 288) : Fin 32 := ⟨(x0 (ix1 b) : BitVec 32).toNat, h b⟩

theorem v1_at (b : Fin 288) : val_main_v1 (F := Ideal) x0 (ix2 b 0) = x0 (ix1 b) := by
  rw [val_main_v1_apply]
  exact congrArg x0 (funext fun a => match a with | ⟨0, _⟩ => rfl)

/-- The first product's weights of a block. -/
theorem v2_at (b : Fin 288) (d : Fin 2048) (k : Fin 4096) : val_main_v2 (F := Ideal) x0 x4 (ix3 b d k) = x4 (ix3 (ex x0 h b) d k) := by
  have hs : gather_S32x2048x4096_S288x1_S288x2048x4096_12_0_n_n_0_1_120484096.siIdx (ix3 b d k) ⟨0, by decide⟩ = ix2 b 0 :=
    funext fun a => match a with | ⟨0, _⟩ => rfl | ⟨1, _⟩ => rfl
  unfold val_main_v2 Host.gather
  refine congrArg x4 (funext fun a => Fin.ext ?_)
  match a with
  | ⟨0, _⟩ =>
    show min (val_main_v1 (F := Ideal) x0 (gather_S32x2048x4096_S288x1_S288x2048x4096_12_0_n_n_0_1_120484096.siIdx (ix3 b d k) ⟨0, by decide⟩) : BitVec 32).toInt.toNat 31 + 0 + 0 = (x0 (ix1 b) : BitVec 32).toNat
    rw [hs, v1_at]
    exact clamp _ (h b)
  | ⟨1, _⟩ => exact (Nat.zero_add _).trans rfl
  | ⟨2, _⟩ => exact (Nat.zero_add _).trans rfl

/-- The first product's biases of a block. -/
theorem v5_at (b : Fin 288) (k : Fin 4096) : val_main_v5 (F := Ideal) x0 x5 (ix2 b k) = x5 (ix2 (ex x0 h b) k) := by
  have hs : gather_S32x4096_S288x1_S288x4096_1_0_n_n_0_1_14096.siIdx (ix2 b k) ⟨0, by decide⟩ = ix2 b 0 :=
    funext fun a => match a with | ⟨0, _⟩ => rfl | ⟨1, _⟩ => rfl
  unfold val_main_v5 Host.gather
  refine congrArg x5 (funext fun a => Fin.ext ?_)
  match a with
  | ⟨0, _⟩ =>
    show min (val_main_v1 (F := Ideal) x0 (gather_S32x4096_S288x1_S288x4096_1_0_n_n_0_1_14096.siIdx (ix2 b k) ⟨0, by decide⟩) : BitVec 32).toInt.toNat 31 + 0 + 0 = (x0 (ix1 b) : BitVec 32).toNat
    rw [hs, v1_at]
    exact clamp _ (h b)
  | ⟨1, _⟩ => exact (Nat.zero_add _).trans rfl

/-- The second product's weights of a block. -/
theorem v27_at (b : Fin 288) (d k : Fin 2048) : val_main_v27 (F := Ideal) x0 x6 (ix3 b d k) = x6 (ix3 (ex x0 h b) d k) := by
  have hs : gather_S32x2048x2048_S288x1_S288x2048x2048_12_0_n_n_0_1_120482048.siIdx (ix3 b d k) ⟨0, by decide⟩ = ix2 b 0 :=
    funext fun a => match a with | ⟨0, _⟩ => rfl | ⟨1, _⟩ => rfl
  unfold val_main_v27 Host.gather
  refine congrArg x6 (funext fun a => Fin.ext ?_)
  match a with
  | ⟨0, _⟩ =>
    show min (val_main_v1 (F := Ideal) x0 (gather_S32x2048x2048_S288x1_S288x2048x2048_12_0_n_n_0_1_120482048.siIdx (ix3 b d k) ⟨0, by decide⟩) : BitVec 32).toInt.toNat 31 + 0 + 0 = (x0 (ix1 b) : BitVec 32).toNat
    rw [hs, v1_at]
    exact clamp _ (h b)
  | ⟨1, _⟩ => exact (Nat.zero_add _).trans rfl
  | ⟨2, _⟩ => exact (Nat.zero_add _).trans rfl

/-- The second product's biases of a block. -/
theorem v30_at (b : Fin 288) (k : Fin 2048) : val_main_v30 (F := Ideal) x0 x7 (ix2 b k) = x7 (ix2 (ex x0 h b) k) := by
  have hs : gather_S32x2048_S288x1_S288x2048_1_0_n_n_0_1_12048.siIdx (ix2 b k) ⟨0, by decide⟩ = ix2 b 0 :=
    funext fun a => match a with | ⟨0, _⟩ => rfl | ⟨1, _⟩ => rfl
  unfold val_main_v30 Host.gather
  refine congrArg x7 (funext fun a => Fin.ext ?_)
  match a with
  | ⟨0, _⟩ =>
    show min (val_main_v1 (F := Ideal) x0 (gather_S32x2048_S288x1_S288x2048_1_0_n_n_0_1_12048.siIdx (ix2 b k) ⟨0, by decide⟩) : BitVec 32).toInt.toNat 31 + 0 + 0 = (x0 (ix1 b) : BitVec 32).toNat
    rw [hs, v1_at]
    exact clamp _ (h b)
  | ⟨1, _⟩ => exact (Nat.zero_add _).trans rfl

/-- Row `r` of block `b`. -/
abbrev rw2 (b : Fin 288) (r : Fin 512) : Fin 147456 := ⟨b.val * 512 + r.val, by omega⟩

/-- The first product with its bias. -/
theorem v8_at (b : Fin 288) (r : Fin 512) (k : Fin 4096) : val_main_v8 (F := Ideal) x0 x3 x4 x5 (ix3 b r k)
    = ((∑ d : Fin 2048, (x3 (ix2 (rw2 b r) d) : EReal) * x4 (ix3 (ex x0 h b) d k)) + x5 (ix2 (ex x0 h b) k) : EReal) := by
  rw [val_main_v8_apply, val_main_v3_apply, val_main_v7_apply, val_main_v6_apply]
  refine congrArg₂ (fun p q : EReal => p + q) (Finset.sum_congr rfl fun d _ => congrArg₂ (fun p q : EReal => p * q) ?_ ?_) ?_
  · refine (val_main_v0_apply (F := Ideal) x3 _).trans (congrArg x3 (funext fun a => Fin.ext ?_))
    match a with
    | ⟨0, _⟩ => show ((b.val * 512 + r.val) * 2048 + d.val) / 2048 = b.val * 512 + r.val; omega
    | ⟨1, _⟩ => show ((b.val * 512 + r.val) * 2048 + d.val) % 2048 = d.val; omega
  · refine Eq.trans (congrArg _ ?_) (v2_at x0 x4 h b d k)
    exact funext fun a => match a with | ⟨0, _⟩ => rfl | ⟨1, _⟩ => rfl | ⟨2, _⟩ => rfl
  · refine Eq.trans (congrArg _ ?_) (v5_at x0 x5 h b k)
    exact funext fun a => match a with | ⟨0, _⟩ => rfl | ⟨1, _⟩ => rfl

/-- The one-over-one-plus form of the logistic function. -/
theorem sig (z : EReal) : Ideal.logistic z = (FloatOps.hostDivf (F := Ideal) (φ := .f32) (FloatOps.ofBits .f32 0x3F800000#32) (FloatOps.addf (FloatOps.ofBits .f32 0x3F800000#32) (FloatOps.hostUnary .exp (FloatOps.hostNegf z))) : EReal) := by
  have e : (FloatOps.ofBits (F := Ideal) .f32 0x3F800000#32 : EReal) = 1 := by
    show Ideal.ofBits .f32 0x3F800000#32 = 1
    exact Ideal.ofBits_one_f32
  rw [e]; rfl

/-- The gated activation. -/
theorem v25_at (b : Fin 288) (r : Fin 512) (k : Fin 2048) : val_main_v25 (F := Ideal) x0 x3 x4 x5 (ix3 b r k)
    = hid (fun d => x3 (ix2 (rw2 b r) d)) (fun d => x4 (ix3 (ex x0 h b) d ⟨k.val, by omega⟩)) (x5 (ix2 (ex x0 h b) ⟨k.val, by omega⟩))
      (fun d => x4 (ix3 (ex x0 h b) d ⟨2048 + k.val, by omega⟩)) (x5 (ix2 (ex x0 h b) ⟨2048 + k.val, by omega⟩)) := by
  have i9 : idx_main_v9 (ix3 b r k) = ix3 b r ⟨k.val, by omega⟩ := funext fun a => match a with | ⟨0, _⟩ => rfl | ⟨1, _⟩ => rfl | ⟨2, _⟩ => rfl
  have i10 : idx_main_v10 (ix3 b r k) = ix3 b r ⟨2048 + k.val, by omega⟩ := funext fun a => match a with | ⟨0, _⟩ => rfl | ⟨1, _⟩ => rfl | ⟨2, _⟩ => rfl
  have e9 := val_main_v9_apply (F := Ideal) x0 x3 x4 x5 (ix3 b r k)
  rw [i9, v8_at x0 x3 x4 x5 h] at e9
  have e10 := val_main_v10_apply (F := Ideal) x0 x3 x4 x5 (ix3 b r k)
  rw [i10, v8_at x0 x3 x4 x5 h] at e10
  rw [val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_call0_v4_apply, val_main_call0_v2_apply, val_main_call0_v1_apply, e9, e10]
  unfold hid swiglu
  rw [sig]
  rfl

/-- The second product with its bias. -/
theorem v33_at (b : Fin 288) (r : Fin 512) (n : Fin 2048) : val_main_v33 (F := Ideal) x0 x3 x4 x5 x6 x7 (ix3 b r n)
    = ((∑ k : Fin 2048, hid (fun d => x3 (ix2 (rw2 b r) d)) (fun d => x4 (ix3 (ex x0 h b) d ⟨k.val, by omega⟩)) (x5 (ix2 (ex x0 h b) ⟨k.val, by omega⟩))
        (fun d => x4 (ix3 (ex x0 h b) d ⟨2048 + k.val, by omega⟩)) (x5 (ix2 (ex x0 h b) ⟨2048 + k.val, by omega⟩)) * (x6 (ix3 (ex x0 h b) k n) : EReal))
      + x7 (ix2 (ex x0 h b) n) : EReal) := by
  rw [val_main_v33_apply, val_main_v28_apply, val_main_v32_apply, val_main_v31_apply]
  refine congrArg₂ (fun p q : EReal => p + q) (Finset.sum_congr rfl fun k _ => congrArg₂ (fun p q : EReal => p * q) ?_ ?_) ?_
  · refine Eq.trans (congrArg _ ?_) (v25_at x0 x3 x4 x5 h b r k)
    exact funext fun a => match a with | ⟨0, _⟩ => rfl | ⟨1, _⟩ => rfl | ⟨2, _⟩ => rfl
  · refine Eq.trans (congrArg _ ?_) (v27_at x0 x6 h b k n)
    exact funext fun a => match a with | ⟨0, _⟩ => rfl | ⟨1, _⟩ => rfl | ⟨2, _⟩ => rfl
  · refine Eq.trans (congrArg _ ?_) (v30_at x0 x7 h b n)
    exact funext fun a => match a with | ⟨0, _⟩ => rfl | ⟨1, _⟩ => rfl

theorem ofBool_one (p : Bool) : BitVec.ofBool p = 1#1 ↔ p = true := by cases p <;> decide

theorem and_one (p q : BitVec 1) : p &&& q = 1#1 ↔ p = 1#1 ∧ q = 1#1 := by
  rcases BitVec.eq_zero_or_eq_one p with rfl | rfl <;> rcases BitVec.eq_zero_or_eq_one q with rfl | rfl <;> decide

theorem or_one (p q : BitVec 1) : p ||| q = 1#1 ↔ p = 1#1 ∨ q = 1#1 := by
  rcases BitVec.eq_zero_or_eq_one p with rfl | rfl <;> rcases BitVec.eq_zero_or_eq_one q with rfl | rfl <;> decide

/-- A row is in the first half. -/
theorem half_iff (r : Fin 512) : IntOp.cmpi .slt (BitVec.ofNat 32 r.val) 256#32 = 1#1 ↔ r.val < 256 := by
  revert r; decide +kernel

/-- More than 256 is not at most 256. -/
theorem gt_iff (v : BitVec 32) : IntOp.cmpi .sgt v 256#32 = 1#1 ↔ ¬IntOp.cmpi .sle v 256#32 = 1#1 := by
  unfold IntOp.cmpi
  rw [ofBool_one, ofBool_one]
  simp only [BitVec.slt, BitVec.sle, decide_eq_true_eq]
  omega

/-- The rows kept. -/
theorem held_at (b : Fin 288) (r : Fin 512) (n : Fin 2048) : val_main_call1_v1 (F := Ideal) x1 x2 (ix3 b r n)
    = IntOp.cmpi .slt (BitVec.ofNat 32 b.val) (x1 (ix1 0)) &&& (IntOp.cmpi .slt (BitVec.ofNat 32 r.val) 256#32 ||| IntOp.cmpi .sgt (x2 (ix1 b)) 256#32) := by
  rw [val_main_call1_v1_apply, val_main_v51_apply, val_main_v50_apply, val_main_v49_apply, val_main_v48_apply, val_main_v47_apply, val_main_v46_apply, val_main_v45_apply,
    val_main_v44_apply, val_main_v43_apply, val_main_v42_apply, val_main_v41_apply, val_main_v40_apply, val_main_v39_apply, val_main_v38_apply, val_main_v37_apply,
    val_main_v36_apply, val_main_v34_apply]
  have e1 : ∀ i, val_main_v35 (F := Ideal) x1 i = x1 (ix1 0) := fun i => by
    unfold val_main_v35 shapeCast
    exact congrArg x1 (funext fun a => match a with | ⟨0, _⟩ => Subsingleton.elim (α := Fin 1) _ _)
  rw [e1]
  have e2 : ∀ j : S288.Idx, (j 0).val = b.val → x2 j = x2 (ix1 b) := fun j hj => congrArg x2 (funext fun a => match a with | ⟨0, _⟩ => Fin.ext hj)
  rw [e2 _ rfl]
  rfl

/-- The reference's result at row `R` and column `n`. -/
theorem value_at (R : Fin 147456) (n : Fin 2048) : val_main_v53 (F := Ideal) x0 x1 x2 x3 x4 x5 x6 x7 (ix2 R n)
    = (if (IntOp.cmpi .slt (BitVec.ofNat 32 (R.val / 512)) (x1 (ix1 0)) = 1#1 ∧ (R.val % 512 < 256 ∨ ¬IntOp.cmpi .sle (x2 (ix1 ⟨R.val / 512, by omega⟩)) 256#32 = 1#1)) then
        (∑ k : Fin 2048, hid (fun d => x3 (ix2 R d)) (fun d => x4 (ix3 (ex x0 h ⟨R.val / 512, by omega⟩) d ⟨k.val, by omega⟩)) (x5 (ix2 (ex x0 h ⟨R.val / 512, by omega⟩) ⟨k.val, by omega⟩))
        (fun d => x4 (ix3 (ex x0 h ⟨R.val / 512, by omega⟩) d ⟨2048 + k.val, by omega⟩)) (x5 (ix2 (ex x0 h ⟨R.val / 512, by omega⟩) ⟨2048 + k.val, by omega⟩)) * (x6 (ix3 (ex x0 h ⟨R.val / 512, by omega⟩) k n) : EReal))
      + x7 (ix2 (ex x0 h ⟨R.val / 512, by omega⟩) n) else (0 : EReal)) := by
  have ei : idx_main_v53 (ix2 R n) = ix3 (⟨R.val / 512, by omega⟩ : Fin 288) (⟨R.val % 512, by omega⟩ : Fin 512) n := funext fun a => Fin.ext (by
    have hR := R.isLt
    have hn := n.isLt
    match a with
    | ⟨0, _⟩ => show (R.val * 2048 + n.val) / 1048576 = R.val / 512; omega
    | ⟨1, _⟩ => show (R.val * 2048 + n.val) / 2048 % 512 = R.val % 512; omega
    | ⟨2, _⟩ => show (R.val * 2048 + n.val) % 2048 = n.val; omega)
  have eR : rw2 ⟨R.val / 512, by omega⟩ ⟨R.val % 512, by omega⟩ = R := Fin.ext (by show R.val / 512 * 512 + R.val % 512 = R.val; omega)
  rw [val_main_v53_apply, ei, val_main_v52_apply, held_at, v33_at x0 x3 x4 x5 x6 x7 h, eR, val_main_call1_v2_apply]
  have ez : val_main_call1_v0 (F := Ideal) (idx_main_call1_v2 (ix3 (⟨R.val / 512, by omega⟩ : Fin 288) (⟨R.val % 512, by omega⟩ : Fin 512) n)) = (0 : EReal) := by
    rw [val_main_call1_v0_apply, val_main_cst_7_apply]
    pointwise []
  rw [ez]
  unfold Scalar.select
  refine if_congr ?_ rfl rfl
  exact (and_one _ _).trans (and_congr Iff.rfl ((or_one _ _).trans (or_congr (half_iff ⟨R.val % 512, by omega⟩) (gt_iff _))))

end Cert.Reference3Ideal.Experts

end
-- ==== Proof.ExpertsClaim.lean ====
/-
  The experts' result array is the reference's.
-/
module

public import proofs.«01_k».proof.Defs
public import proofs.«01_k».proof.Proof.ExpertsVal
public import proofs.«01_k».proof.Proof.ExpertsRef
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Kernel3Ideal.Run

open Cert.Kernel3Ideal Cert.Kernel3Ideal.Gen

variable (m : (ℓ : Loc nD τ sig) → Buf (Elt Ideal) ℓ) (ρ : Dev nD → PrngReg)

/-- Every execution from a memory whose experts exist ends with the experts' result in the result array and its arguments as they were. -/
theorem run_value (h : InRange m) : θ_run (defs (F := Ideal)) (onTc (τ := τ) (main (F := Ideal))) (s₀ m ρ) (fun r => ∀ c : Dev nD,
    r.2.mem ((c : Thread nD τ).loc main_v4) = G m c h
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) :=
  (θ_run defs _ _).mono (fun r hr c => ⟨((hr c).1 (7 : Fin 8)).trans (final m c h), unchanged _ m r hr c⟩) (run_main (adm m h) m ρ (held0 m h))

end Cert.Kernel3Ideal.Run

namespace Cert.Proof.ExpertsClaim

open Cert.Kernel3Ideal.Run in
/-- The experts' result array is the reference's. -/
theorem algebraic [Cert.Pre_ranges.Facts] : Cert.algebraic_Kernel3Ideal_Reference3Ideal := by
  intro m g m' g' hp ha
  have h : InRange m := inRange_of m hp
  refine ⟨fun c => G m c h, run_value m g h, ?_⟩
  refine (θ_run _ _ _).mono (fun r hr c => ⟨((hr c).1.trans (Cert.Reference3Ideal.Read.val_main_v53_eq m' c)).trans ?_, (hr c).2⟩) (Cert.Reference3Ideal.Value.run m' g')
  obtain ⟨e0, e1, e2, e3, e4, e5, e6, e7⟩ := ha c
  rw [e0, e1, e2, e3, e4, e5, e6, e7]
  have ec : c = (0 : Fin 1) := Subsingleton.elim (α := Fin 1) _ _
  subst ec
  refine funext fun (i : Cert.Reference3Ideal.S147456x2048.Idx) => ?_
  obtain ⟨R, n, rfl⟩ : ∃ (R : Fin 147456) (n : Fin 2048), i = ix2 R n := ⟨i 0, i 1, eq_ix2 i⟩
  exact Cert.Reference3Ideal.Experts.value_at _ _ _ _ _ _ _ _ (h 0) R n

end Cert.Proof.ExpertsClaim

end
-- ==== Proof.MergePay.lean ====
module

public import proofs.«01_k».proof.Defs
public import proofs.«01_k».proof.Proof.Gen.Kernel4Ideal.Skeleton
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Kernel4Ideal.Merge

open Cert.Kernel4Ideal Cert.Kernel4Ideal.Gen

/-- The mean of a row of 2048. -/
def mean (z : Fin 2048 → EReal) : EReal := Ideal.div (∑ k, z k) (FloatOps.ofBits (F := Ideal) .f32 0x45000000#32 : EReal)

/-- A row without its mean, over the root of its mean square plus epsilon. -/
def unitRow (z : Fin 2048 → EReal) (l : Fin 2048) : EReal :=
  (z l - mean z) * Ideal.rsqrt (mean (fun k => (z k - mean z) * (z k - mean z)) + (FloatOps.ofBits (F := Ideal) .f32 0x3727C5AC#32 : EReal))

/-- The two branches of a row, each through its projection and its gate. -/
def merged (ya yb : Fin 1024 → EReal) (ga gb : EReal) (pa pb : Fin 1024 → EReal) : EReal :=
  Ideal.logistic ga * (∑ k, ya k * pa k) + Ideal.logistic gb * (∑ k, yb k * pb k)

/-- The residual row with the merged row's output projection added. -/
def resid (x : EReal) (mg : Fin 2048 → EReal) (wo : Fin 2048 → EReal) : EReal :=
  (FloatOps.ofBits (F := Ideal) .f32 0x3F9837F0#32 : EReal) * x + ∑ j, mg j * wo j

theorem pay4_at (y : FVec Ideal S256x1024 .bf16) (p : FVec Ideal S1024x2048 .bf16) (r : Fin 256) (j : Fin 2048) :
    k0_pay4 (F := Ideal) y p (ix2 r j) = ∑ k : Fin 1024, y (ix2 r k) * p (ix2 k j) := by
  pointwise [k0_pay4]

theorem pay5_at (y : FVec Ideal S256x1024 .bf16) (p : FVec Ideal S1024x2048 .bf16) (r : Fin 256) (j : Fin 2048) :
    k0_pay5 (F := Ideal) y p (ix2 r j) = ∑ k : Fin 1024, y (ix2 r k) * p (ix2 k j) := by
  pointwise [k0_pay5]

/-- The first half's merged rows. -/
theorem pay6_at (ya : FVec Ideal S256x1024 .bf16) (pa : FVec Ideal S1024x2048 .bf16) (yb : FVec Ideal S256x1024 .bf16) (pb : FVec Ideal S1024x2048 .bf16)
    (ga gb : FVec Ideal S256x2048 .bf16) (r : Fin 256) (j : Fin 2048) :
    k0_pay6 (F := Ideal) ya pa yb pb ga gb (ix2 r j)
      = merged (fun k => ya (ix2 r k)) (fun k => yb (ix2 r k)) (ga (ix2 r j)) (gb (ix2 r j)) (fun k => pa (ix2 k j)) (fun k => pb (ix2 k j)) := by
  pointwise [k0_pay6, merged]

/-- The second half's merged rows through the output projection. -/
theorem pay7_at (a b : FVec Ideal S256x2048 .f32) (ga gb : FVec Ideal S256x2048 .bf16) (wo : FVec Ideal S2048x2048 .bf16) (r : Fin 256) (l : Fin 2048) :
    k0_pay7 (F := Ideal) a b ga gb wo (ix2 r l)
      = ∑ j : Fin 2048, (Ideal.logistic (ga (ix2 r j)) * a (ix2 r j) + Ideal.logistic (gb (ix2 r j)) * b (ix2 r j)) * wo (ix2 j l) := by
  pointwise [k0_pay7]

/-- The first half's residual rows, normalised. -/
theorem pay10_at (mg : FVec Ideal S256x2048 .bf16) (wo : FVec Ideal S2048x2048 .bf16) (x : FVec Ideal S256x2048 .f32) (r : Fin 256) (l : Fin 2048) :
    k0_pay10 (F := Ideal) mg wo x (ix2 r l)
      = unitRow (fun l => resid (x (ix2 r l)) (fun j => mg (ix2 r j)) (fun j => wo (ix2 j l))) l := by
  pointwise [k0_pay10, unitRow, mean, resid]

theorem pay8_at (w : FVec Ideal S1x2048 .f32) (l : Fin 2048) : k0_pay8 (F := Ideal) w (ix2 0 l) = w (ix2 0 l) := by
  pointwise [k0_pay8]

theorem pay9_at (w : FVec Ideal S1x2048 .f32) (l : Fin 2048) : k0_pay9 (F := Ideal) w (ix2 0 l) = w (ix2 0 l) := by
  pointwise [k0_pay9]

/-- The stored block's first half. -/
theorem pay11_lo (u : FVec Ideal S256x2048 .f32) (w b : FVec Ideal S1x2048 .f32) (z : FVec Ideal S256x2048 .f32) (x : FVec Ideal S256x2048 .f32)
    (w' b' : FVec Ideal S1x2048 .f32) (r : Fin 512) (l : Fin 2048) (h : r.val < 256) :
    k0_pay11 (F := Ideal) u w b z x w' b' (ix2 r l) = z (ix2 ⟨r.val, h⟩ l) * w (ix2 0 l) + b (ix2 0 l) := by
  pointwise [k0_pay11]
  exact dif_pos h

/-- The stored block's second half. -/
theorem pay11_hi (u : FVec Ideal S256x2048 .f32) (w b : FVec Ideal S1x2048 .f32) (z : FVec Ideal S256x2048 .f32) (x : FVec Ideal S256x2048 .f32)
    (w' b' : FVec Ideal S1x2048 .f32) (r : Fin 512) (l : Fin 2048) (h : ¬r.val < 256) :
    k0_pay11 (F := Ideal) u w b z x w' b' (ix2 r l)
      = unitRow (fun l => (FloatOps.ofBits (F := Ideal) .f32 0x3F9837F0#32 : EReal) * x (ix2 ⟨r.val - 256, by omega⟩ l) + u (ix2 ⟨r.val - 256, by omega⟩ l)) l
          * w' (ix2 0 l) + b' (ix2 0 l) := by
  pointwise [k0_pay11, unitRow, mean]
  exact dif_neg h

/-- A row of the first half, of rows equal to given ones. -/
theorem row_lo (w b : FVec Ideal S1x2048 .f32) (wo : FVec Ideal S2048x2048 .bf16) (pa pb : FVec Ideal S1024x2048 .bf16)
    (xl : FVec Ideal S256x2048 .f32) (yal ybl : FVec Ideal S256x1024 .bf16) (gal gbl : FVec Ideal S256x2048 .bf16)
    (X A B : Fin 2048 → EReal) (Y Z : Fin 1024 → EReal) (r : Fin 256) (l : Fin 2048)
    (hx : ∀ l, xl (ix2 r l) = X l) (ha : ∀ l, gal (ix2 r l) = A l) (hb : ∀ l, gbl (ix2 r l) = B l) (hy : ∀ k, yal (ix2 r k) = Y k) (hz : ∀ k, ybl (ix2 r k) = Z k) :
    (k0_pay10 (F := Ideal) (k0_pay6 yal pa ybl pb gal gbl) wo xl (ix2 r l) : EReal)
      = unitRow (fun l => resid (X l) (fun j => merged Y Z (A j) (B j) (fun k => pa (ix2 k j)) (fun k => pb (ix2 k j))) (fun j => wo (ix2 j l))) l := by
  rw [pay10_at]
  simp only [pay6_at, hx, ha, hb, hy, hz]

/-- A residual row of the second half, of rows equal to given ones. -/
theorem row_hi (wo : FVec Ideal S2048x2048 .bf16) (pa pb : FVec Ideal S1024x2048 .bf16)
    (xl : FVec Ideal S256x2048 .f32) (yal ybl : FVec Ideal S256x1024 .bf16) (gal gbl : FVec Ideal S256x2048 .bf16)
    (X A B : Fin 2048 → EReal) (Y Z : Fin 1024 → EReal) (r : Fin 256) (l : Fin 2048)
    (hx : ∀ l, xl (ix2 r l) = X l) (ha : ∀ l, gal (ix2 r l) = A l) (hb : ∀ l, gbl (ix2 r l) = B l) (hy : ∀ k, yal (ix2 r k) = Y k) (hz : ∀ k, ybl (ix2 r k) = Z k) :
    (FloatOps.ofBits (F := Ideal) .f32 0x3F9837F0#32 : EReal) * xl (ix2 r l) + k0_pay7 (F := Ideal) (k0_pay4 yal pa) (k0_pay5 ybl pb) gal gbl wo (ix2 r l)
      = resid (X l) (fun j => merged Y Z (A j) (B j) (fun k => pa (ix2 k j)) (fun k => pb (ix2 k j))) (fun j => wo (ix2 j l)) := by
  rw [pay7_at]
  simp only [pay4_at, pay5_at, hx, ha, hb, hy, hz]
  rfl

section Block
variable (x : Vec Ideal S512x2048 .f32) (ya yb : Vec Ideal S512x1024 .bf16) (ga gb : Vec Ideal S512x2048 .bf16)
  (pa pb : FVec Ideal S1024x2048 .bf16) (wo : FVec Ideal S2048x2048 .bf16) (w b : FVec Ideal S1x2048 .f32)

theorem lo1024 (X : Vec Ideal S512x1024 .bf16) (r : Fin 256) (k : Fin 1024) :
    View.ld X (Rect.unit (s := S512x1024) ![0, 0] S256x1024.size inb_S512x1024_S256x1024_0_0) (ix2 r k) = X (ix2 ⟨r.val, by omega⟩ k) := by
  pointwise []
theorem hi1024 (X : Vec Ideal S512x1024 .bf16) (r : Fin 256) (k : Fin 1024) :
    View.ld X (Rect.unit (s := S512x1024) ![256, 0] S256x1024.size inb_S512x1024_S256x1024_256_0) (ix2 r k) = X (ix2 ⟨256 + r.val, by omega⟩ k) := by
  pointwise []
theorem lo2048 (X : Vec Ideal S512x2048 .bf16) (r : Fin 256) (k : Fin 2048) :
    View.ld X (Rect.unit (s := S512x2048) ![0, 0] S256x2048.size inb_S512x2048_S256x2048_0_0) (ix2 r k) = X (ix2 ⟨r.val, by omega⟩ k) := by
  pointwise []
theorem lo2048f (X : Vec Ideal S512x2048 .f32) (r : Fin 256) (k : Fin 2048) :
    View.ld X (Rect.unit (s := S512x2048) ![0, 0] S256x2048.size inb_S512x2048_S256x2048_0_0) (ix2 r k) = X (ix2 ⟨r.val, by omega⟩ k) := by
  pointwise []
theorem hi2048 (X : Vec Ideal S512x2048 .bf16) (r : Fin 256) (k : Fin 2048) :
    View.ld X (Rect.unit (s := S512x2048) ![256, 0] S256x2048.size inb_S512x2048_S256x2048_256_0) (ix2 r k) = X (ix2 ⟨256 + r.val, by omega⟩ k) := by
  pointwise []
theorem hi2048f (X : Vec Ideal S512x2048 .f32) (r : Fin 256) (k : Fin 2048) :
    View.ld X (Rect.unit (s := S512x2048) ![256, 0] S256x2048.size inb_S512x2048_S256x2048_256_0) (ix2 r k) = X (ix2 ⟨256 + r.val, by omega⟩ k) := by
  pointwise []

/-- The block that a point stores, of the blocks it reads. -/
def BLOCK : FVec Ideal S512x2048 .f32 :=
  k0_pay11 (F := Ideal)
      (k0_pay7 (k0_pay4 (View.ld ya (Rect.unit (s := S512x1024) ![256, 0] S256x1024.size inb_S512x1024_S256x1024_256_0)) pa)
        (k0_pay5 (View.ld yb (Rect.unit (s := S512x1024) ![256, 0] S256x1024.size inb_S512x1024_S256x1024_256_0)) pb)
        (View.ld ga (Rect.unit (s := S512x2048) ![256, 0] S256x2048.size inb_S512x2048_S256x2048_256_0))
        (View.ld gb (Rect.unit (s := S512x2048) ![256, 0] S256x2048.size inb_S512x2048_S256x2048_256_0)) wo)
      (k0_pay8 w) (k0_pay9 b)
      (k0_pay10
        (k0_pay6 (View.ld ya (Rect.unit (s := S512x1024) ![0, 0] S256x1024.size inb_S512x1024_S256x1024_0_0)) pa
          (View.ld yb (Rect.unit (s := S512x1024) ![0, 0] S256x1024.size inb_S512x1024_S256x1024_0_0)) pb
          (View.ld ga (Rect.unit (s := S512x2048) ![0, 0] S256x2048.size inb_S512x2048_S256x2048_0_0))
          (View.ld gb (Rect.unit (s := S512x2048) ![0, 0] S256x2048.size inb_S512x2048_S256x2048_0_0)))
        wo (View.ld x (Rect.unit (s := S512x2048) ![0, 0] S256x2048.size inb_S512x2048_S256x2048_0_0)))
      (View.ld x (Rect.unit (s := S512x2048) ![256, 0] S256x2048.size inb_S512x2048_S256x2048_256_0)) w b

/-- An entry of the stored block: its residual row normalised, scaled and shifted. -/
theorem BLOCK_at (r : Fin 512) (l : Fin 2048) : BLOCK x ya yb ga gb pa pb wo w b (ix2 r l)
    = unitRow (fun l => resid (x (ix2 r l)) (fun j => merged (fun k => ya (ix2 r k)) (fun k => yb (ix2 r k)) (ga (ix2 r j)) (gb (ix2 r j))
        (fun k => pa (ix2 k j)) (fun k => pb (ix2 k j))) (fun j => wo (ix2 j l))) l * w (ix2 0 l) + b (ix2 0 l) := by
  unfold BLOCK
  by_cases h : r.val < 256
  · refine (pay11_lo _ _ _ _ _ _ _ r l h).trans ?_
    rw [pay8_at, pay9_at]
    refine congrArg (fun z : EReal => z * w (ix2 0 l) + b (ix2 0 l)) ?_
    exact row_lo w b wo pa pb _ _ _ _ _ (fun l => x (ix2 r l)) (fun j => ga (ix2 r j)) (fun j => gb (ix2 r j)) (fun k => ya (ix2 r k)) (fun k => yb (ix2 r k)) ⟨r.val, h⟩ l
      (fun l => lo2048f x ⟨r.val, h⟩ l) (fun l => lo2048 ga ⟨r.val, h⟩ l) (fun l => lo2048 gb ⟨r.val, h⟩ l) (fun k => lo1024 ya ⟨r.val, h⟩ k) (fun k => lo1024 yb ⟨r.val, h⟩ k)
  · refine (pay11_hi _ _ _ _ _ _ _ r l h).trans ?_
    refine congrArg (fun z : EReal => z * w (ix2 0 l) + b (ix2 0 l)) ?_
    have e : (⟨256 + (r.val - 256), by omega⟩ : Fin 512) = r := Fin.ext (by dsimp only; omega)
    refine congrArg (fun z : Fin 2048 → EReal => unitRow z l) (funext fun l => ?_)
    exact row_hi wo pa pb _ _ _ _ _ (fun l => x (ix2 r l)) (fun j => ga (ix2 r j)) (fun j => gb (ix2 r j)) (fun k => ya (ix2 r k)) (fun k => yb (ix2 r k)) ⟨r.val - 256, by omega⟩ l
      (fun l => (hi2048f x ⟨r.val - 256, by omega⟩ l).trans (congrArg (fun q => x (ix2 q l)) e))
      (fun l => (hi2048 ga ⟨r.val - 256, by omega⟩ l).trans (congrArg (fun q => ga (ix2 q l)) e)) (fun l => (hi2048 gb ⟨r.val - 256, by omega⟩ l).trans (congrArg (fun q => gb (ix2 q l)) e))
      (fun k => (hi1024 ya ⟨r.val - 256, by omega⟩ k).trans (congrArg (fun q => ya (ix2 q k)) e)) (fun k => (hi1024 yb ⟨r.val - 256, by omega⟩ k).trans (congrArg (fun q => yb (ix2 q k)) e))

end Block

end Cert.Kernel4Ideal.Merge
-- ==== Proof.MergeRun.lean ====
/-
  What the merge's kernel leaves in its first result.
-/
module

public import proofs.«01_k».proof.Defs
public import proofs.«01_k».proof.Proof.Gen.Kernel4Ideal.Value
public import proofs.«01_k».proof.Proof.MergePay
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen Cert.Kernel4Ideal.Value

variable (m : (ℓ : Loc nD τ sig) → Buf (Elt Ideal) ℓ)

/-- The block indices of the windows read for the first result, and its own, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![0, 0] ∧ win0_6.index t = ![0, 0]
    ∧ win0_7.index t = ![0, 0] ∧ win0_8.index t = ![0, 0] ∧ win0_9.index t = ![0, 0] ∧ win0_12.index t = ![t.val, 0] ∧ t.val < 64 :=
  (by decide +kernel : ∀ t : Fin grid0.N, _)

/-- The arrays as the region finds them. -/
abbrev AX (c : Dev nD) : FVec Ideal S32768x2048 .f32 := V m c main_v0
abbrev YA (c : Dev nD) : FVec Ideal S32768x1024 .bf16 := m ((c : Thread nD τ).loc main_arg1)
abbrev YB (c : Dev nD) : FVec Ideal S32768x1024 .bf16 := m ((c : Thread nD τ).loc main_arg2)
abbrev PJ (c : Dev nD) : FVec Ideal S32768x10752 .bf16 := m ((c : Thread nD τ).loc main_arg3)
abbrev WPA (c : Dev nD) : FVec Ideal S1024x2048 .bf16 := V m c main_v2
abbrev WPB (c : Dev nD) : FVec Ideal S1024x2048 .bf16 := V m c main_v4
abbrev WO (c : Dev nD) : FVec Ideal S2048x2048 .bf16 := V m c main_v6
abbrev LW (c : Dev nD) : FVec Ideal S1x2048 .f32 := V m c main_v8
abbrev LB (c : Dev nD) : FVec Ideal S1x2048 .f32 := V m c main_v10

/-- The row of the arrays that row `r` of point `t`'s block is. -/
def rowOf (t : Fin cfg0.N) (r : Fin 512) : Fin 32768 := ⟨t.val * 512 + r.val, by have := (idx t).2.2.2.2.2.2.2.2.2.2.2; omega⟩

theorem b0 (c : Dev nD) (t : Fin cfg0.N) (r : Fin 512) (l : Fin 2048) : iblk m c 0 t (ix2 r l) = AX m c (ix2 (rowOf t r) l) := by
  blk_ext [iblk, AX, idx t, rowOf]
theorem b1 (c : Dev nD) (t : Fin cfg0.N) (r : Fin 512) (l : Fin 1024) : iblk m c 1 t (ix2 r l) = YA m c (ix2 (rowOf t r) l) := by
  blk_ext [iblk, V, YA, idx t, rowOf]
theorem b2 (c : Dev nD) (t : Fin cfg0.N) (r : Fin 512) (l : Fin 1024) : iblk m c 2 t (ix2 r l) = YB m c (ix2 (rowOf t r) l) := by
  blk_ext [iblk, V, YB, idx t, rowOf]
theorem b3 (c : Dev nD) (t : Fin cfg0.N) (r : Fin 512) (l : Fin 2048) : X0_3 m c t (ix2 r l) = PJ m c (ix2 (rowOf t r) ⟨l.val, by omega⟩) := by
  unfold X0_3 Pipeline.Window.fill
  rw [dif_pos (moved0_3 t (ix2 r l))]
  blk_ext [iblk, V, PJ, idx t, rowOf]
theorem b4 (c : Dev nD) (t : Fin cfg0.N) (r : Fin 512) (l : Fin 2048) : X0_4 m c t (ix2 r l) = PJ m c (ix2 (rowOf t r) ⟨2048 + l.val, by omega⟩) := by
  unfold X0_4 Pipeline.Window.fill
  rw [dif_pos (moved0_4 t (ix2 r l))]
  blk_ext [iblk, V, PJ, idx t, rowOf]
theorem b5 (c : Dev nD) (t : Fin cfg0.N) (r : Fin 1024) (l : Fin 2048) : iblk m c 5 t (ix2 r l) = WPA m c (ix2 r l) := by
  blk_ext [iblk, WPA, idx t]
theorem b6 (c : Dev nD) (t : Fin cfg0.N) (r : Fin 1024) (l : Fin 2048) : iblk m c 6 t (ix2 r l) = WPB m c (ix2 r l) := by
  blk_ext [iblk, WPB, idx t]
theorem b7 (c : Dev nD) (t : Fin cfg0.N) (r : Fin 2048) (l : Fin 2048) : iblk m c 7 t (ix2 r l) = WO m c (ix2 r l) := by
  blk_ext [iblk, WO, idx t]
theorem b8 (c : Dev nD) (t : Fin cfg0.N) (l : Fin 2048) : iblk m c 8 t (ix2 0 l) = LW m c (ix2 0 l) := by
  blk_ext [iblk, LW, idx t]
theorem b9 (c : Dev nD) (t : Fin cfg0.N) (l : Fin 2048) : iblk m c 9 t (ix2 0 l) = LB m c (ix2 0 l) := by
  blk_ext [iblk, LB, idx t]

/-- The residual row of row `R`. -/
def ROW (c : Dev nD) (R : Fin 32768) (l : Fin 2048) : EReal :=
  resid (AX m c (ix2 R l)) (fun j => merged (fun k => YA m c (ix2 R k)) (fun k => YB m c (ix2 R k)) (PJ m c (ix2 R ⟨j.val, by omega⟩)) (PJ m c (ix2 R ⟨2048 + j.val, by omega⟩))
    (fun k => WPA m c (ix2 k j)) (fun k => WPB m c (ix2 k j))) (fun j => WO m c (ix2 j l))

/-- What point `t` leaves in its block of the first result. -/
theorem point (c : Dev nD) (t : Fin cfg0.N) (r : Fin 512) (l : Fin 2048) :
    (outsAt0 m c t.val t.isLt).1 (ix2 r l) = unitRow (ROW m c (rowOf t r)) l * LW m c (ix2 0 l) + LB m c (ix2 0 l) := by
  have e : BLOCK (iblk m c 0 t) (iblk m c 1 t) (iblk m c 2 t) (X0_3 m c t) (X0_4 m c t) (iblk m c 5 t) (iblk m c 6 t) (iblk m c 7 t) (iblk m c 8 t) (iblk m c 9 t) (ix2 r l)
      = unitRow (ROW m c (rowOf t r)) l * LW m c (ix2 0 l) + LB m c (ix2 0 l) := by
    rw [BLOCK_at]
    simp only [b0, b1, b2, b3, b4, b5, b6, b7, b8, b9]
    rfl
  by_cases h0 : t.val % 64 = 0
  · rw [outsAt0_A m c t h0]
    frame_out
    exact e
  · rw [outsAt0_B m c t h0]
    frame_out
    exact e

/-- The first result: every row normalised, scaled and shifted. -/
def OUT (c : Dev nD) : FVec Ideal S32768x2048 .f32 := fun i => unitRow (ROW m c (i 0)) (i 1) * LW m c (ix2 0 (i 1)) + LB m c (ix2 0 (i 1))

theorem point_out (c : Dev nD) (t : Fin cfg0.N) (r : Fin 512) (l : Fin 2048) :
    (outsAt0 m c t.val t.isLt).1 (ix2 r l) = OUT m c (ix2 (rowOf t r) l) := point m c t r l

/-- What the kernel's first result array holds. -/
theorem final (c : Dev nD) : (dats m 0 c).arrAt 12 (cfgs 0).N = OUT m c := by
  refine (dats m 0 c).arrAt_eq_of_covers 12 _ (by decide +kernel) fun t _ y => ?_
  generalize hO : OUT m c = O
  blk_simp
  rw [after0_12]
  obtain ⟨y0, y1, rfl⟩ : ∃ (a : Fin 512) (b : Fin 2048), y = ix2 a b := ⟨y 0, y 1, eq_ix2 y⟩
  refine (point_out m c t y0 y1).trans ?_
  rw [hO]
  blk_point [idx t, rowOf]

end Cert.Kernel4Ideal.Merge
-- ==== Proof.MergeRef.lean ====
/-
  The merge's reference at one entry.
-/
module

public import proofs.«01_k».proof.Defs
public import proofs.«01_k».proof.Proof.Gen.Reference4Ideal.Read
public import proofs.«01_k».proof.Proof.MergePay
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Lib.Pointwise

@[expose] public section

set_option maxRecDepth 16384

noncomputable section

open Idealize.ShloMosaic Idealize.ShloMosaic.TcCoe Idealize.SL.Sem
open Cert.Kernel4Ideal.Merge (mean unitRow merged resid)

namespace Cert.Reference4Ideal.Merge

open Cert.Reference4Ideal Cert.Reference4Ideal.Gen Cert.Reference4Ideal.Read

/-- The logistic function as the reference spells it. -/
theorem logistic_eq (z : EReal) : Ideal.logistic z = (FloatOps.hostDivf (F := Ideal) (φ := .f32) (FloatOps.ofBits .f32 0x3F800000#32) (FloatOps.addf (FloatOps.ofBits .f32 0x3F800000#32) (FloatOps.hostUnary .exp (FloatOps.hostNegf z))) : EReal) := by
  have e : (FloatOps.ofBits (F := Ideal) .f32 0x3F800000#32 : EReal) = 1 := by
    show Ideal.ofBits .f32 0x3F800000#32 = 1
    exact Ideal.ofBits_one_f32
  rw [e]; rfl

variable (x0 : (⟨S4x8192x2048, .f32⟩ : BufTy).Contents (Elt Ideal)) (x1 x2 : (⟨S32768x1024, .bf16⟩ : BufTy).Contents (Elt Ideal))
  (x3 : (⟨S32768x10752, .bf16⟩ : BufTy).Contents (Elt Ideal)) (x4 x5 : (⟨S1x1024x2048, .f32⟩ : BufTy).Contents (Elt Ideal))
  (x6 : (⟨S1x2048x2048, .f32⟩ : BufTy).Contents (Elt Ideal)) (x7 x8 : (⟨S1x2048, .f32⟩ : BufTy).Contents (Elt Ideal))

/-- The flattened row of a token. -/
def row (b : Fin 4) (s : Fin 8192) : Fin 32768 := ⟨b.val * 8192 + s.val, by omega⟩

/-- A gate. -/
theorem v12_at (b : Fin 4) (s : Fin 8192) (j : Fin 4096) :
    val_main_v12 (F := Ideal) x3 (ix3 b s j) = Ideal.logistic (x3 (ix2 (row b s) ⟨j.val, by omega⟩)) := by
  rw [logistic_eq]
  pointwise [val_main_v12, val_main_v11, val_main_v10, val_main_v9, val_main_v8, val_main_v7, val_main_v6, val_main_v5, val_main_v4, val_main_cst, val_main_cst_0, row]

/-- The merged rows. -/
theorem v21_at (b : Fin 4) (s : Fin 8192) (j : Fin 2048) : val_main_v21 (F := Ideal) x1 x2 x3 x4 x5 (ix3 b s j)
    = merged (fun k => x1 (ix2 (row b s) k)) (fun k => x2 (ix2 (row b s) k)) (x3 (ix2 (row b s) ⟨j.val, by omega⟩)) (x3 (ix2 (row b s) ⟨2048 + j.val, by omega⟩))
        (fun k => x4 (ix3 0 k j)) (fun k => x5 (ix3 0 k j)) := by
  have e13 : val_main_v13 (F := Ideal) x3 (ix3 b s j) = val_main_v12 (F := Ideal) x3 (ix3 b s ⟨j.val, by omega⟩) := by
    unfold val_main_v13; generalize val_main_v12 (F := Ideal) x3 = y; pointwise []
  have e14 : val_main_v14 (F := Ideal) x3 (ix3 b s j) = val_main_v12 (F := Ideal) x3 (ix3 b s ⟨2048 + j.val, by omega⟩) := by
    unfold val_main_v14; generalize val_main_v12 (F := Ideal) x3 = y; pointwise []
  have e16 : val_main_v16 (F := Ideal) x1 x4 (ix3 b s j) = ∑ k, x1 (ix2 (row b s) k) * x4 (ix3 0 k j) := by
    pointwise [val_main_v16, val_main_v15, val_main_v1, val_main_v0, row]
  have e19 : val_main_v19 (F := Ideal) x2 x5 (ix3 b s j) = ∑ k, x2 (ix2 (row b s) k) * x5 (ix3 0 k j) := by
    pointwise [val_main_v19, val_main_v18, val_main_v3, val_main_v2, row]
  refine (val_main_v21_apply (F := Ideal) x1 x2 x3 x4 x5 _).trans ?_
  refine congrArg₂ (fun p q : EReal => p + q) ((val_main_v17_apply (F := Ideal) x1 x3 x4 _).trans ?_) ((val_main_v20_apply (F := Ideal) x2 x3 x5 _).trans ?_)
  · exact Ideal.mul_congr (e13.trans (v12_at x3 b s _)) e16
  · exact Ideal.mul_congr (e14.trans (v12_at x3 b s _)) e19

/-- The residual rows. -/
def RES (b : Fin 4) (s : Fin 8192) (l : Fin 2048) : EReal :=
  resid (x0 (ix3 b s l)) (fun j => merged (fun k => x1 (ix2 (row b s) k)) (fun k => x2 (ix2 (row b s) k)) (x3 (ix2 (row b s) ⟨j.val, by omega⟩)) (x3 (ix2 (row b s) ⟨2048 + j.val, by omega⟩))
        (fun k => x4 (ix3 0 k j)) (fun k => x5 (ix3 0 k j))) (fun j => x6 (ix3 0 j l))

theorem v26_at (b : Fin 4) (s : Fin 8192) (l : Fin 2048) : val_main_v26 (F := Ideal) x0 x1 x2 x3 x4 x5 x6 (ix3 b s l) = RES x0 x1 x2 x3 x4 x5 x6 b s l := by
  refine (val_main_v26_apply (F := Ideal) x0 x1 x2 x3 x4 x5 x6 _).trans ?_
  refine congrArg₂ (fun p q : EReal => p + q) ?_ ?_
  · pointwise [val_main_v25, val_main_v24, val_main_cst_1]
  · have e : val_main_v23 (F := Ideal) x1 x2 x3 x4 x5 x6 (ix3 b s l) = ∑ j : Fin 2048, val_main_v21 (F := Ideal) x1 x2 x3 x4 x5 (ix3 b s j) * x6 (ix3 0 j l) := by
      unfold val_main_v23; generalize val_main_v21 (F := Ideal) x1 x2 x3 x4 x5 = y; pointwise [val_main_v22]
    exact e.trans (Finset.sum_congr rfl fun j _ => Ideal.mul_congr (v21_at x1 x2 x3 x4 x5 b s j) rfl)

/-- The reference's result at row `r` and column `l`: the residual row normalised, scaled and shifted. -/
theorem v53_at (r : Fin 32768) (l : Fin 2048) : val_main_v53 (F := Ideal) x0 x1 x2 x3 x4 x5 x6 x7 x8 (ix2 r l)
    = unitRow (RES x0 x1 x2 x3 x4 x5 x6 ⟨r.val / 8192, by omega⟩ ⟨r.val % 8192, by omega⟩) l * x7 (ix2 0 l) + x8 (ix2 0 l) := by
  have e : ∀ k, val_main_v26 (F := Ideal) x0 x1 x2 x3 x4 x5 x6 (ix3 ⟨r.val / 8192, by omega⟩ ⟨r.val % 8192, by omega⟩ k) = RES x0 x1 x2 x3 x4 x5 x6 ⟨r.val / 8192, by omega⟩ ⟨r.val % 8192, by omega⟩ k := fun k => v26_at x0 x1 x2 x3 x4 x5 x6 _ _ k
  unfold val_main_v53 val_main_v52 val_main_v48 val_main_v44 val_main_v43 val_main_v42 val_main_v41 val_main_v39 val_main_v38 val_main_v37 val_main_v35 val_main_v34 val_main_v33 val_main_v32 val_main_v31 val_main_v30 val_main_v28 val_main_v27
  generalize val_main_v26 (F := Ideal) x0 x1 x2 x3 x4 x5 x6 = y at e
  rw [show RES x0 x1 x2 x3 x4 x5 x6 ⟨r.val / 8192, by omega⟩ ⟨r.val % 8192, by omega⟩ = fun k => y (ix3 ⟨r.val / 8192, by omega⟩ ⟨r.val % 8192, by omega⟩ k) from funext fun k => (e k).symm]
  pointwise [val_main_v51, val_main_v50, val_main_v49, val_main_v47, val_main_v46, val_main_v45, val_main_v40, val_main_v36, val_main_v29, val_main_cst_2, val_main_cst_3, val_main_cst_4, val_main_cst_5, val_main_cst_6, unitRow, mean]

end Cert.Reference4Ideal.Merge
-- ==== Proof.Merge.lean ====
/-
  The merge's first result is its reference's.
-/
module

public import proofs.«01_k».proof.Defs
public import proofs.«01_k».proof.Proof.Gen.Kernel4Ideal.Value
public import proofs.«01_k».proof.Proof.MergeRun
public import proofs.«01_k».proof.Proof.MergeRef
public import proofs.«01_k».proof.Proof.Gen.Reference4Ideal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen Cert.Kernel4Ideal.Value

variable (m : (ℓ : Loc nD τ sig) → Buf (Elt Ideal) ℓ)

/-- Rows of the flattened batch are the batch's rows. -/
theorem flat_apply (X : FVec Ideal S4x8192x2048 .f32) (r : Fin 32768) (k : Fin 2048) :
    shapeCast S32768x2048 X shapeCasts_S4x8192x2048_S32768x2048 (ix2 r k) = X (ix3 ⟨r.val / 8192, by omega⟩ ⟨r.val % 8192, by omega⟩ k) := by
  pointwise []

/-- The input as the region finds it. -/
theorem AX_arr (c : Dev nD) : AX m c = shapeCast S32768x2048 (m ((c : Thread nD τ).loc main_arg0) : FVec Ideal S4x8192x2048 .f32) shapeCasts_S4x8192x2048_S32768x2048 := by
  show V m c main_v0 = _
  simp only [V, hostOps0, List.flatten_cons, List.flatten_nil, List.append_nil,
    List.cons_append, List.nil_append, StableHlo.TRef.binary, StableHlo.TRef.unary, StableHlo.TRef.toBuf, StableHlo.TRef.ofBuf, cast_eq]
  after_results <;> rfl

theorem AX_eq (c : Dev nD) (r : Fin 32768) (k : Fin 2048) : AX m c (ix2 r k)
    = (m ((c : Thread nD τ).loc main_arg0) : FVec Ideal S4x8192x2048 .f32) (ix3 ⟨r.val / 8192, by omega⟩ ⟨r.val % 8192, by omega⟩ k) :=
  (congrFun (AX_arr m c) (ix2 r k)).trans (flat_apply _ r k)

/-- A matrix without its leading axis of one. -/
theorem flat1024_apply (X : FVec Ideal S1x1024x2048 .f32) (r : Fin 1024) (k : Fin 2048) :
    truncf (F := Ideal) .bf16 (shapeCast S1024x2048 X shapeCasts_S1x1024x2048_S1024x2048) bitsLt_bf16_f32 (ix2 r k) = X (ix3 0 r k) := by
  pointwise []

/-- A matrix without its leading axis of one. -/
theorem flat2048_apply (X : FVec Ideal S1x2048x2048 .f32) (r : Fin 2048) (k : Fin 2048) :
    truncf (F := Ideal) .bf16 (shapeCast S2048x2048 X shapeCasts_S1x2048x2048_S2048x2048) bitsLt_bf16_f32 (ix2 r k) = X (ix3 0 r k) := by
  pointwise []

/-- A row vector cast to a vector and back. -/
theorem vec_apply (X : FVec Ideal S1x2048 .f32) (k : Fin 2048) :
    shapeCast S1x2048 (shapeCast S2048 X shapeCasts_S1x2048_S2048) shapeCasts_S2048_S1x2048 (ix2 0 k) = X (ix2 0 k) := by
  pointwise []

theorem WPA_arr (c : Dev nD) : WPA m c = truncf (F := Ideal) .bf16 (shapeCast S1024x2048 (m ((c : Thread nD τ).loc main_arg4) : FVec Ideal S1x1024x2048 .f32) shapeCasts_S1x1024x2048_S1024x2048) bitsLt_bf16_f32 := by
  show V m c main_v2 = _
  simp only [V, hostOps0, List.flatten_cons, List.flatten_nil, List.append_nil,
    List.cons_append, List.nil_append, StableHlo.TRef.binary, StableHlo.TRef.unary, StableHlo.TRef.toBuf, StableHlo.TRef.ofBuf, cast_eq]
  after_results <;> rfl

theorem WPA_eq (c : Dev nD) (r : Fin 1024) (k : Fin 2048) : WPA m c (ix2 r k) = (m ((c : Thread nD τ).loc main_arg4) : FVec Ideal S1x1024x2048 .f32) (ix3 0 r k) :=
  (congrFun (WPA_arr m c) (ix2 r k)).trans (flat1024_apply _ r k)

theorem WPB_arr (c : Dev nD) : WPB m c = truncf (F := Ideal) .bf16 (shapeCast S1024x2048 (m ((c : Thread nD τ).loc main_arg5) : FVec Ideal S1x1024x2048 .f32) shapeCasts_S1x1024x2048_S1024x2048) bitsLt_bf16_f32 := by
  show V m c main_v4 = _
  simp only [V, hostOps0, List.flatten_cons, List.flatten_nil, List.append_nil,
    List.cons_append, List.nil_append, StableHlo.TRef.binary, StableHlo.TRef.unary, StableHlo.TRef.toBuf, StableHlo.TRef.ofBuf, cast_eq]
  after_results <;> rfl

theorem WPB_eq (c : Dev nD) (r : Fin 1024) (k : Fin 2048) : WPB m c (ix2 r k) = (m ((c : Thread nD τ).loc main_arg5) : FVec Ideal S1x1024x2048 .f32) (ix3 0 r k) :=
  (congrFun (WPB_arr m c) (ix2 r k)).trans (flat1024_apply _ r k)

theorem WO_arr (c : Dev nD) : WO m c = truncf (F := Ideal) .bf16 (shapeCast S2048x2048 (m ((c : Thread nD τ).loc main_arg6) : FVec Ideal S1x2048x2048 .f32) shapeCasts_S1x2048x2048_S2048x2048) bitsLt_bf16_f32 := by
  show V m c main_v6 = _
  simp only [V, hostOps0, List.flatten_cons, List.flatten_nil, List.append_nil,
    List.cons_append, List.nil_append, StableHlo.TRef.binary, StableHlo.TRef.unary, StableHlo.TRef.toBuf, StableHlo.TRef.ofBuf, cast_eq]
  after_results <;> rfl

theorem WO_eq (c : Dev nD) (r : Fin 2048) (k : Fin 2048) : WO m c (ix2 r k) = (m ((c : Thread nD τ).loc main_arg6) : FVec Ideal S1x2048x2048 .f32) (ix3 0 r k) :=
  (congrFun (WO_arr m c) (ix2 r k)).trans (flat2048_apply _ r k)

theorem LW_arr (c : Dev nD) : LW m c = shapeCast S1x2048 (shapeCast S2048 (m ((c : Thread nD τ).loc main_arg7) : FVec Ideal S1x2048 .f32) shapeCasts_S1x2048_S2048) shapeCasts_S2048_S1x2048 := by
  show V m c main_v8 = _
  simp only [V, hostOps0, List.flatten_cons, List.flatten_nil, List.append_nil,
    List.cons_append, List.nil_append, StableHlo.TRef.binary, StableHlo.TRef.unary, StableHlo.TRef.toBuf, StableHlo.TRef.ofBuf, cast_eq]
  after_results <;> rfl

theorem LW_eq (c : Dev nD) (k : Fin 2048) : LW m c (ix2 0 k) = (m ((c : Thread nD τ).loc main_arg7) : FVec Ideal S1x2048 .f32) (ix2 0 k) :=
  (congrFun (LW_arr m c) (ix2 0 k)).trans (vec_apply _ k)

theorem LB_arr (c : Dev nD) : LB m c = shapeCast S1x2048 (shapeCast S2048 (m ((c : Thread nD τ).loc main_arg8) : FVec Ideal S1x2048 .f32) shapeCasts_S1x2048_S2048) shapeCasts_S2048_S1x2048 := by
  show V m c main_v10 = _
  simp only [V, hostOps0, List.flatten_cons, List.flatten_nil, List.append_nil,
    List.cons_append, List.nil_append, StableHlo.TRef.binary, StableHlo.TRef.unary, StableHlo.TRef.toBuf, StableHlo.TRef.ofBuf, cast_eq]
  after_results <;> rfl

theorem LB_eq (c : Dev nD) (k : Fin 2048) : LB m c (ix2 0 k) = (m ((c : Thread nD τ).loc main_arg8) : FVec Ideal S1x2048 .f32) (ix2 0 k) :=
  (congrFun (LB_arr m c) (ix2 0 k)).trans (vec_apply _ k)

open Cert.Reference4Ideal.Merge in
/-- The kernel's residual row is the reference's. -/
theorem ROW_eq (c : Dev nD) (r : Fin 32768) : ROW m c r = RES (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) ⟨r.val / 8192, by omega⟩ ⟨r.val % 8192, by omega⟩ := by
  have e : row ⟨r.val / 8192, by omega⟩ ⟨r.val % 8192, by omega⟩ = r := Fin.ext (by show r.val / 8192 * 8192 + r.val % 8192 = r.val; omega)
  funext l
  unfold ROW RES
  simp only [e]
  refine congr (congr (congrArg resid (AX_eq m c r l)) (funext fun j => ?_)) (funext fun j => WO_eq m c j l)
  exact congr (congrArg (merged _ _ _ _) (funext fun k => WPA_eq m c k j)) (funext fun k => WPB_eq m c k j)

open Cert.Reference4Ideal.Merge Cert.Reference4Ideal.Read in
/-- The kernel's first result is the reference's result. -/
theorem OUT_eq (c : Dev nD) : OUT m c = val_main_v53 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨r, l, rfl⟩ : ∃ (a : Fin 32768) (b : Fin 2048), i = ix2 a b := ⟨i 0, i 1, eq_ix2 i⟩
  refine Eq.trans ?_ (v53_at _ _ _ _ _ _ _ _ _ r l).symm
  show unitRow (ROW m c r) l * LW m c (ix2 0 l) + LB m c (ix2 0 l) = _
  rw [ROW_eq, LW_eq, LB_eq]

end Cert.Kernel4Ideal.Merge

namespace Cert.Proof.MergeClaim

/-- The merge's first result is the reference's. -/
theorem algebraic : Cert.algebraic_Kernel4Ideal_Reference4Ideal := by
  intro m g m' g' _ ha
  refine ⟨fun c => Cert.Kernel4Ideal.Merge.OUT m c, ?_, ?_⟩
  · exact (θ_run _ _ _).mono (fun r hr c => ⟨(hr c).1.trans (Cert.Kernel4Ideal.Merge.final m c), (hr c).2.2.2.2.2⟩) (Cert.Kernel4Ideal.Value.run_blocks m g)
  · refine (θ_run _ _ _).mono (fun r hr c => ⟨((hr c).1.trans (Cert.Reference4Ideal.Read.val_main_v53_eq m' c)).trans ?_, (hr c).2⟩) (Cert.Reference4Ideal.Value.run m' g')
    obtain ⟨e0, e1, e2, e3, e4, e5, e6, e7, e8, e9, e10⟩ := ha c
    rw [e0, e1, e2, e3, e4, e5, e6, e7, e8]
    exact (Cert.Kernel4Ideal.Merge.OUT_eq m c).symm

end Cert.Proof.MergeClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.InProj
public import proofs.«01_k».proof.Proof.Attn
public import proofs.«01_k».proof.Proof.Experts
public import proofs.«01_k».proof.Proof.ExpertsBits
public import proofs.«01_k».proof.Proof.ExpertsClaim
public import proofs.«01_k».proof.Proof.Merge
public import Idealize.ShloMosaic.Adequacy
public import Idealize.ShloMosaic.Init

@[expose] public section

noncomputable section

namespace Cert.Proof

open Idealize.ShloMosaic Idealize.SL.Sem

/-- The attention's reference runs to the end and leaves its arguments as they were. -/
theorem frame_reference : Cert.quiescent_ReferenceIdeal := by
  intro m g hpre
  refine (θ_run _ _ _).mono (fun r h => ⟨fun c => (h c).2.2, ?_⟩) (Cert.ReferenceIdeal.Value.run m g)
  exact funext fun s => nomatch s.2

/-- The input projection's reference runs to the end and leaves its arguments as they were. -/
theorem frame_reference2 : Cert.quiescent_Reference2Ideal := by
  intro m g hpre
  refine (θ_run _ _ _).mono (fun r h => ⟨fun c => (h c).2, ?_⟩) (Cert.Reference2Ideal.Value.run m g)
  exact funext fun s => nomatch s.2

/-- The experts' reference runs to the end and leaves its arguments as they were. -/
theorem frame_reference3 [Cert.Pre_ranges.Facts] : Cert.quiescent_Reference3Ideal := by
  intro m g hpre
  refine (θ_run _ _ _).mono (fun r h => ⟨fun c => (h c).2, ?_⟩) (Cert.Reference3Ideal.Value.run m g)
  exact funext fun s => nomatch s.2

/-- The merge's reference runs to the end and leaves its arguments as they were. -/
theorem frame_reference4 : Cert.quiescent_Reference4Ideal := by
  intro m g hpre
  refine (θ_run _ _ _).mono (fun r h => ⟨fun c => (h c).2, ?_⟩) (Cert.Reference4Ideal.Value.run m g)
  exact funext fun s => nomatch s.2

/-- The precondition's shapes fit. -/
theorem facts_finite : Cert.Pre_finite.Facts := ⟨by decide, by decide⟩

/-- Every claim: the programs run to the end and keep their arguments, the named constant is the one the
    ideal program reads, and the kernels' results are the references'. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, facts_finite, Cert.Kernel3Ideal.Run.facts_ranges,
    fun m ρ _ => Cert.Kernel.Gen.frame m ρ, fun m ρ _ => Cert.KernelIdeal.Gen.frame m ρ,
    fun m ρ _ => Cert.KernelIdeal.Gen.frame m ρ, frame_reference, fun m g _ => frame_reference m g trivial,
    fun m ρ _ => Cert.Kernel2.Gen.frame m ρ, fun m ρ _ => Cert.Kernel2Ideal.Gen.frame m ρ, frame_reference2,
    @frame_kernel3 Cert.Kernel3Ideal.Run.facts_ranges,
    fun m ρ h => Cert.Kernel3Ideal.Run.frame m ρ (@Cert.Kernel3Ideal.Run.inRange_of _ _ m Cert.Kernel3Ideal.Run.facts_ranges h),
    @frame_reference3 Cert.Kernel3Ideal.Run.facts_ranges,
    fun m ρ _ => Cert.Kernel4.Gen.frame m ρ, fun m ρ _ => Cert.Kernel4Ideal.Gen.frame m ρ, frame_reference4,
    IdealRules.named_const.statement Cert.KernelIdeal.κ "neg" .f32 0xF149F2CA#32 ⊥ rfl,
    @AttnClaim.algebraic facts_finite, trivial, InProjClaim.algebraic, trivial,
    @ExpertsClaim.algebraic Cert.Kernel3Ideal.Run.facts_ranges, trivial, MergeClaim.algebraic⟩

end Cert.Proof

end
